-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![4096, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S4096x512 : Shape := ⟨2, ![4096, 512]⟩
abbrev S256x512 : Shape := ⟨2, ![256, 512]⟩
abbrev S12 : Shape := ⟨1, ![12]⟩
abbrev S_ : Shape := ⟨0, ![]⟩
abbrev S1 : Shape := ⟨1, ![1]⟩
abbrev S64x512 : Shape := ⟨2, ![64, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .bf16⟩
  | .hbm, ⟨1, _⟩ => ⟨S4096x512, .bf16⟩
  | .local _ .vmem, ⟨0, _⟩ => ⟨S1024x512, .bf16⟩
  | .local _ .vmem, ⟨1, _⟩ => ⟨S4096x512, .bf16⟩
  | .local _ .vmem, ⟨2, _⟩ => ⟨S256x512, .bf16⟩
  | _, _ => ⟨S1024x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 194 → Bool
  | ⟨i, _⟩ => dmaSemScopedAt i

abbrev sig : RefSig :=
  (ofTc nBuf bufTy 1 194 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_20 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_19 : BitVec 32 := 16#32
  let v35 : BitVec 32 := Scalar.muli v9 c16_i32_19
  let v36 : BitVec 32 := Scalar.addi c0_i32_20 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v37 : BitVec 32 := Scalar.muli v5 c4_i32_21
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v39 : BitVec 32 := Scalar.muli v8 c1_i32_22
  let v40 : BitVec 32 := Scalar.addi v38 v39
  v40.toNat
def k0_dev2 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v41 : BitVec 32 := Scalar.muli v2 c16_i32_24
  let v42 : BitVec 32 := Scalar.addi c0_i32_25 v41
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_26 : BitVec 32 := 4#32
  let v43 : BitVec 32 := Scalar.muli v5 c4_i32_26
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_27 : BitVec 32 := 1#32
  let v45 : BitVec 32 := Scalar.muli v22 c1_i32_27
  let v46 : BitVec 32 := Scalar.addi v44 v45
  v46.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_16 : BitVec 32 := 1#32
  let v32 : BitVec 1 := Scalar.cmpi .sge v5 c1_i32_16
  let v47 : BitVec 32 := Scalar.extui v32
  let c0_i32_28 : BitVec 32 := 0#32
  let v48 : BitVec 1 := Scalar.cmpi .ne v47 c0_i32_28
  v48

def k0_dev3 (d0 : Dev nD) : Nat :=
  let c0_i32_471 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_470 : BitVec 32 := 16#32
  let v735 : BitVec 32 := Scalar.muli v2 c16_i32_470
  let v736 : BitVec 32 := Scalar.addi c0_i32_471 v735
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.subi v5 c1_i32_14
  let c4_i32_472 : BitVec 32 := 4#32
  let v737 : BitVec 32 := Scalar.muli v30 c4_i32_472
  let v738 : BitVec 32 := Scalar.addi v736 v737
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_473 : BitVec 32 := 1#32
  let v739 : BitVec 32 := Scalar.muli v8 c1_i32_473
  let v740 : BitVec 32 := Scalar.addi v738 v739
  v740.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_17 : BitVec 32 := 2#32
  let v33 : BitVec 1 := Scalar.cmpi .sle v5 c2_i32_17
  let v49 : BitVec 32 := Scalar.extui v33
  let c0_i32_29 : BitVec 32 := 0#32
  let v50 : BitVec 1 := Scalar.cmpi .ne v49 c0_i32_29
  v50

def k0_dev4 (d0 : Dev nD) : Nat :=
  let c0_i32_471 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_470 : BitVec 32 := 16#32
  let v735 : BitVec 32 := Scalar.muli v2 c16_i32_470
  let v736 : BitVec 32 := Scalar.addi c0_i32_471 v735
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_472 : BitVec 32 := 4#32
  let v737 : BitVec 32 := Scalar.muli v31 c4_i32_472
  let v738 : BitVec 32 := Scalar.addi v736 v737
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_473 : BitVec 32 := 1#32
  let v739 : BitVec 32 := Scalar.muli v8 c1_i32_473
  let v740 : BitVec 32 := Scalar.addi v738 v739
  v740.toNat
def k0_off1 (d0 : Dev nD) : Fin 2 → Nat :=
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32 : BitVec 32 := 256#32
  let v55 : BitVec 32 := Scalar.muli v24 c256_i32
  let v56 : Index := Scalar.indexCast v55
  let c0 : Index := 0#32
  ![v56.toNat, 0]
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_17 : BitVec 32 := 2#32
  let v33 : BitVec 1 := Scalar.cmpi .sle v5 c2_i32_17
  let v62 : BitVec 32 := Scalar.extui v33
  let c0_i32_35 : BitVec 32 := 0#32
  let v63 : BitVec 1 := Scalar.cmpi .ne v62 c0_i32_35
  v63

def k0_off2 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_478 : BitVec 32 := 0#32
  ![v738.toNat, 0]
def k0_dev5 (d0 : Dev nD) : Nat :=
  let c0_i32_475 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_474 : BitVec 32 := 16#32
  let v739 : BitVec 32 := Scalar.muli v2 c16_i32_474
  let v740 : BitVec 32 := Scalar.addi c0_i32_475 v739
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_476 : BitVec 32 := 4#32
  let v741 : BitVec 32 := Scalar.muli v31 c4_i32_476
  let v742 : BitVec 32 := Scalar.addi v740 v741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_477 : BitVec 32 := 1#32
  let v743 : BitVec 32 := Scalar.muli v8 c1_i32_477
  let v744 : BitVec 32 := Scalar.addi v742 v743
  v744.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_16 : BitVec 32 := 1#32
  let v32 : BitVec 1 := Scalar.cmpi .sge v5 c1_i32_16
  let v64 : BitVec 32 := Scalar.extui v32
  let c0_i32_36 : BitVec 32 := 0#32
  let v65 : BitVec 1 := Scalar.cmpi .ne v64 c0_i32_36
  v65

def k0_off3 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_478 : BitVec 32 := 0#32
  ![v738.toNat, 0]
def k0_dev6 (d0 : Dev nD) : Nat :=
  let c0_i32_475 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_474 : BitVec 32 := 16#32
  let v739 : BitVec 32 := Scalar.muli v2 c16_i32_474
  let v740 : BitVec 32 := Scalar.addi c0_i32_475 v739
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.subi v5 c1_i32_14
  let c4_i32_476 : BitVec 32 := 4#32
  let v741 : BitVec 32 := Scalar.muli v30 c4_i32_476
  let v742 : BitVec 32 := Scalar.addi v740 v741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_477 : BitVec 32 := 1#32
  let v743 : BitVec 32 := Scalar.muli v8 c1_i32_477
  let v744 : BitVec 32 := Scalar.addi v742 v743
  v744.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_17 : BitVec 32 := 2#32
  let v33 : BitVec 1 := Scalar.cmpi .sle v5 c2_i32_17
  let v66 : BitVec 32 := Scalar.extui v33
  let c0_i32_37 : BitVec 32 := 0#32
  let v67 : BitVec 1 := Scalar.cmpi .ne v66 c0_i32_37
  v67

def k0_off4 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_477 : BitVec 32 := 0#32
  ![v738.toNat, 0]
def k0_dev7 (d0 : Dev nD) : Nat :=
  let c0_i32_474 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_473 : BitVec 32 := 16#32
  let v739 : BitVec 32 := Scalar.muli v2 c16_i32_473
  let v740 : BitVec 32 := Scalar.addi c0_i32_474 v739
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_475 : BitVec 32 := 4#32
  let v741 : BitVec 32 := Scalar.muli v31 c4_i32_475
  let v742 : BitVec 32 := Scalar.addi v740 v741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_476 : BitVec 32 := 1#32
  let v743 : BitVec 32 := Scalar.muli v8 c1_i32_476
  let v744 : BitVec 32 := Scalar.addi v742 v743
  v744.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_16 : BitVec 32 := 1#32
  let v32 : BitVec 1 := Scalar.cmpi .sge v5 c1_i32_16
  let v68 : BitVec 32 := Scalar.extui v32
  let c0_i32_38 : BitVec 32 := 0#32
  let v69 : BitVec 1 := Scalar.cmpi .ne v68 c0_i32_38
  v69

def k0_off5 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_477 : BitVec 32 := 0#32
  ![v738.toNat, 0]
def k0_dev8 (d0 : Dev nD) : Nat :=
  let c0_i32_474 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_473 : BitVec 32 := 16#32
  let v739 : BitVec 32 := Scalar.muli v2 c16_i32_473
  let v740 : BitVec 32 := Scalar.addi c0_i32_474 v739
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.subi v5 c1_i32_14
  let c4_i32_475 : BitVec 32 := 4#32
  let v741 : BitVec 32 := Scalar.muli v30 c4_i32_475
  let v742 : BitVec 32 := Scalar.addi v740 v741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_476 : BitVec 32 := 1#32
  let v743 : BitVec 32 := Scalar.muli v8 c1_i32_476
  let v744 : BitVec 32 := Scalar.addi v742 v743
  v744.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_17 : BitVec 32 := 2#32
  let v33 : BitVec 1 := Scalar.cmpi .sle v5 c2_i32_17
  let v70 : BitVec 32 := Scalar.extui v33
  let c0_i32_39 : BitVec 32 := 0#32
  let v71 : BitVec 1 := Scalar.cmpi .ne v70 c0_i32_39
  v71

def k0_off6 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_477 : BitVec 32 := 0#32
  ![v738.toNat, 0]
def k0_dev9 (d0 : Dev nD) : Nat :=
  let c0_i32_474 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_473 : BitVec 32 := 16#32
  let v739 : BitVec 32 := Scalar.muli v2 c16_i32_473
  let v740 : BitVec 32 := Scalar.addi c0_i32_474 v739
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_475 : BitVec 32 := 4#32
  let v741 : BitVec 32 := Scalar.muli v31 c4_i32_475
  let v742 : BitVec 32 := Scalar.addi v740 v741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_476 : BitVec 32 := 1#32
  let v743 : BitVec 32 := Scalar.muli v8 c1_i32_476
  let v744 : BitVec 32 := Scalar.addi v742 v743
  v744.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_16 : BitVec 32 := 1#32
  let v32 : BitVec 1 := Scalar.cmpi .sge v5 c1_i32_16
  let v72 : BitVec 32 := Scalar.extui v32
  let c0_i32_40 : BitVec 32 := 0#32
  let v73 : BitVec 1 := Scalar.cmpi .ne v72 c0_i32_40
  v73

def k0_off7 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_477 : BitVec 32 := 0#32
  ![v738.toNat, 0]
def k0_dev10 (d0 : Dev nD) : Nat :=
  let c0_i32_474 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_473 : BitVec 32 := 16#32
  let v739 : BitVec 32 := Scalar.muli v2 c16_i32_473
  let v740 : BitVec 32 := Scalar.addi c0_i32_474 v739
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.subi v5 c1_i32_14
  let c4_i32_475 : BitVec 32 := 4#32
  let v741 : BitVec 32 := Scalar.muli v30 c4_i32_475
  let v742 : BitVec 32 := Scalar.addi v740 v741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_476 : BitVec 32 := 1#32
  let v743 : BitVec 32 := Scalar.muli v8 c1_i32_476
  let v744 : BitVec 32 := Scalar.addi v742 v743
  v744.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_17 : BitVec 32 := 2#32
  let v33 : BitVec 1 := Scalar.cmpi .sle v5 c2_i32_17
  let v74 : BitVec 32 := Scalar.extui v33
  let c0_i32_41 : BitVec 32 := 0#32
  let v75 : BitVec 1 := Scalar.cmpi .ne v74 c0_i32_41
  v75

def k0_off8 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_477 : BitVec 32 := 0#32
  ![v738.toNat, 0]
def k0_dev11 (d0 : Dev nD) : Nat :=
  let c0_i32_474 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_473 : BitVec 32 := 16#32
  let v739 : BitVec 32 := Scalar.muli v2 c16_i32_473
  let v740 : BitVec 32 := Scalar.addi c0_i32_474 v739
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_475 : BitVec 32 := 4#32
  let v741 : BitVec 32 := Scalar.muli v31 c4_i32_475
  let v742 : BitVec 32 := Scalar.addi v740 v741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_476 : BitVec 32 := 1#32
  let v743 : BitVec 32 := Scalar.muli v8 c1_i32_476
  let v744 : BitVec 32 := Scalar.addi v742 v743
  v744.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_16 : BitVec 32 := 1#32
  let v32 : BitVec 1 := Scalar.cmpi .sge v5 c1_i32_16
  let v76 : BitVec 32 := Scalar.extui v32
  let c0_i32_42 : BitVec 32 := 0#32
  let v77 : BitVec 1 := Scalar.cmpi .ne v76 c0_i32_42
  v77

def k0_off9 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_477 : BitVec 32 := 0#32
  ![v738.toNat, 0]
def k0_dev12 (d0 : Dev nD) : Nat :=
  let c0_i32_474 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_473 : BitVec 32 := 16#32
  let v739 : BitVec 32 := Scalar.muli v2 c16_i32_473
  let v740 : BitVec 32 := Scalar.addi c0_i32_474 v739
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.subi v5 c1_i32_14
  let c4_i32_475 : BitVec 32 := 4#32
  let v741 : BitVec 32 := Scalar.muli v30 c4_i32_475
  let v742 : BitVec 32 := Scalar.addi v740 v741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_476 : BitVec 32 := 1#32
  let v743 : BitVec 32 := Scalar.muli v8 c1_i32_476
  let v744 : BitVec 32 := Scalar.addi v742 v743
  v744.toNat
def k0_off10 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32 : BitVec 32 := 1024#32
  let v80 : BitVec 32 := Scalar.muli v5 c1024_i32
  let v81 : Index := Scalar.indexCast v80
  let c0_45 : Index := 0#32
  ![v81.toNat, 0]
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_46 : BitVec 32 := 1#32
  let v83 : BitVec 1 := Scalar.cmpi .sge v5 c1_i32_46
  let v89 : BitVec 32 := Scalar.extui v83
  let c0_i32_52 : BitVec 32 := 0#32
  let v90 : BitVec 1 := Scalar.cmpi .ne v89 c0_i32_52
  v90

def k0_off11 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_48 : BitVec 32 := 1#32
  let v85 : BitVec 32 := Scalar.subi v5 c1_i32_48
  let c0_i32_49 : BitVec 32 := 0#32
  let v86 : BitVec 32 := Scalar.subi v85 c0_i32_49
  let c1024_i32_469 : BitVec 32 := 1024#32
  let v735 : BitVec 32 := Scalar.muli v86 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_478 : BitVec 32 := 0#32
  ![v738.toNat, 0]
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_46 : BitVec 32 := 1#32
  let v83 : BitVec 1 := Scalar.cmpi .sge v5 c1_i32_46
  let c2_i32_17 : BitVec 32 := 2#32
  let v33 : BitVec 1 := Scalar.cmpi .sle v5 c2_i32_17
  let v91 : BitVec 1 := Scalar.andi v83 v33
  let v92 : BitVec 32 := Scalar.extui v91
  let c0_i32_53 : BitVec 32 := 0#32
  let v93 : BitVec 1 := Scalar.cmpi .ne v92 c0_i32_53
  v93

def k0_off12 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_48 : BitVec 32 := 1#32
  let v85 : BitVec 32 := Scalar.subi v5 c1_i32_48
  let c0_i32_49 : BitVec 32 := 0#32
  let v86 : BitVec 32 := Scalar.subi v85 c0_i32_49
  let c1024_i32_472 : BitVec 32 := 1024#32
  let v739 : BitVec 32 := Scalar.muli v86 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_dev13 (d0 : Dev nD) : Nat :=
  let c0_i32_478 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_477 : BitVec 32 := 16#32
  let v743 : BitVec 32 := Scalar.muli v2 c16_i32_477
  let v744 : BitVec 32 := Scalar.addi c0_i32_478 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_479 : BitVec 32 := 4#32
  let v745 : BitVec 32 := Scalar.muli v31 c4_i32_479
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_480 : BitVec 32 := 1#32
  let v747 : BitVec 32 := Scalar.muli v8 c1_i32_480
  let v748 : BitVec 32 := Scalar.addi v746 v747
  v748.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_46 : BitVec 32 := 1#32
  let v83 : BitVec 1 := Scalar.cmpi .sge v5 c1_i32_46
  let v94 : BitVec 32 := Scalar.extui v83
  let c0_i32_54 : BitVec 32 := 0#32
  let v95 : BitVec 1 := Scalar.cmpi .ne v94 c0_i32_54
  v95

def k0_off13 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_48 : BitVec 32 := 1#32
  let v85 : BitVec 32 := Scalar.subi v5 c1_i32_48
  let c0_i32_49 : BitVec 32 := 0#32
  let v86 : BitVec 32 := Scalar.subi v85 c0_i32_49
  let c1024_i32_472 : BitVec 32 := 1024#32
  let v739 : BitVec 32 := Scalar.muli v86 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_dev14 (d0 : Dev nD) : Nat :=
  let c0_i32_478 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_477 : BitVec 32 := 16#32
  let v743 : BitVec 32 := Scalar.muli v9 c16_i32_477
  let v744 : BitVec 32 := Scalar.addi c0_i32_478 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_479 : BitVec 32 := 4#32
  let v745 : BitVec 32 := Scalar.muli v5 c4_i32_479
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_480 : BitVec 32 := 1#32
  let v747 : BitVec 32 := Scalar.muli v8 c1_i32_480
  let v748 : BitVec 32 := Scalar.addi v746 v747
  v748.toNat
def k0_dev15 (d0 : Dev nD) : Nat :=
  let c0_i32_492 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_491 : BitVec 32 := 16#32
  let v763 : BitVec 32 := Scalar.muli v2 c16_i32_491
  let v764 : BitVec 32 := Scalar.addi c0_i32_492 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_493 : BitVec 32 := 4#32
  let v765 : BitVec 32 := Scalar.muli v5 c4_i32_493
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_494 : BitVec 32 := 1#32
  let v767 : BitVec 32 := Scalar.muli v22 c1_i32_494
  let v768 : BitVec 32 := Scalar.addi v766 v767
  v768.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_47 : BitVec 32 := 2#32
  let v84 : BitVec 1 := Scalar.cmpi .sle v5 c2_i32_47
  let v96 : BitVec 32 := Scalar.extui v84
  let c0_i32_55 : BitVec 32 := 0#32
  let v97 : BitVec 1 := Scalar.cmpi .ne v96 c0_i32_55
  v97

def k0_off14 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_50 : BitVec 32 := 1#32
  let v87 : BitVec 32 := Scalar.addi v5 c1_i32_50
  let c0_i32_51 : BitVec 32 := 0#32
  let v88 : BitVec 32 := Scalar.addi v87 c0_i32_51
  let c1024_i32_469 : BitVec 32 := 1024#32
  let v735 : BitVec 32 := Scalar.muli v88 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_478 : BitVec 32 := 0#32
  ![v738.toNat, 0]
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_47 : BitVec 32 := 2#32
  let v84 : BitVec 1 := Scalar.cmpi .sle v5 c2_i32_47
  let c1_i32_16 : BitVec 32 := 1#32
  let v32 : BitVec 1 := Scalar.cmpi .sge v5 c1_i32_16
  let v98 : BitVec 1 := Scalar.andi v84 v32
  let v99 : BitVec 32 := Scalar.extui v98
  let c0_i32_56 : BitVec 32 := 0#32
  let v100 : BitVec 1 := Scalar.cmpi .ne v99 c0_i32_56
  v100

def k0_off15 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_50 : BitVec 32 := 1#32
  let v87 : BitVec 32 := Scalar.addi v5 c1_i32_50
  let c0_i32_51 : BitVec 32 := 0#32
  let v88 : BitVec 32 := Scalar.addi v87 c0_i32_51
  let c1024_i32_472 : BitVec 32 := 1024#32
  let v739 : BitVec 32 := Scalar.muli v88 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_dev16 (d0 : Dev nD) : Nat :=
  let c0_i32_478 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_477 : BitVec 32 := 16#32
  let v743 : BitVec 32 := Scalar.muli v2 c16_i32_477
  let v744 : BitVec 32 := Scalar.addi c0_i32_478 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.subi v5 c1_i32_14
  let c4_i32_479 : BitVec 32 := 4#32
  let v745 : BitVec 32 := Scalar.muli v30 c4_i32_479
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_480 : BitVec 32 := 1#32
  let v747 : BitVec 32 := Scalar.muli v8 c1_i32_480
  let v748 : BitVec 32 := Scalar.addi v746 v747
  v748.toNat
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_47 : BitVec 32 := 2#32
  let v84 : BitVec 1 := Scalar.cmpi .sle v5 c2_i32_47
  let v101 : BitVec 32 := Scalar.extui v84
  let c0_i32_57 : BitVec 32 := 0#32
  let v102 : BitVec 1 := Scalar.cmpi .ne v101 c0_i32_57
  v102

def k0_off16 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_50 : BitVec 32 := 1#32
  let v87 : BitVec 32 := Scalar.addi v5 c1_i32_50
  let c0_i32_51 : BitVec 32 := 0#32
  let v88 : BitVec 32 := Scalar.addi v87 c0_i32_51
  let c1024_i32_472 : BitVec 32 := 1024#32
  let v739 : BitVec 32 := Scalar.muli v88 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_dev17 (d0 : Dev nD) : Nat :=
  let c0_i32_478 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_477 : BitVec 32 := 16#32
  let v743 : BitVec 32 := Scalar.muli v9 c16_i32_477
  let v744 : BitVec 32 := Scalar.addi c0_i32_478 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_479 : BitVec 32 := 4#32
  let v745 : BitVec 32 := Scalar.muli v5 c4_i32_479
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_480 : BitVec 32 := 1#32
  let v747 : BitVec 32 := Scalar.muli v8 c1_i32_480
  let v748 : BitVec 32 := Scalar.addi v746 v747
  v748.toNat
def k0_dev18 (d0 : Dev nD) : Nat :=
  let c0_i32_492 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_491 : BitVec 32 := 16#32
  let v763 : BitVec 32 := Scalar.muli v2 c16_i32_491
  let v764 : BitVec 32 := Scalar.addi c0_i32_492 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_493 : BitVec 32 := 4#32
  let v765 : BitVec 32 := Scalar.muli v5 c4_i32_493
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_494 : BitVec 32 := 1#32
  let v767 : BitVec 32 := Scalar.muli v22 c1_i32_494
  let v768 : BitVec 32 := Scalar.addi v766 v767
  v768.toNat
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_46 : BitVec 32 := 1#32
  let v83 : BitVec 1 := Scalar.cmpi .sge v5 c1_i32_46
  let v107 : BitVec 32 := Scalar.extui v83
  let c0_i32_62 : BitVec 32 := 0#32
  let v108 : BitVec 1 := Scalar.cmpi .ne v107 c0_i32_62
  v108

def k0_off17 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_58 : BitVec 32 := 1#32
  let v103 : BitVec 32 := Scalar.subi v5 c1_i32_58
  let c0_i32_59 : BitVec 32 := 0#32
  let v104 : BitVec 32 := Scalar.subi v103 c0_i32_59
  let c1024_i32_469 : BitVec 32 := 1024#32
  let v735 : BitVec 32 := Scalar.muli v104 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_477 : BitVec 32 := 0#32
  ![v738.toNat, 0]
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_46 : BitVec 32 := 1#32
  let v83 : BitVec 1 := Scalar.cmpi .sge v5 c1_i32_46
  let c2_i32_17 : BitVec 32 := 2#32
  let v33 : BitVec 1 := Scalar.cmpi .sle v5 c2_i32_17
  let v109 : BitVec 1 := Scalar.andi v83 v33
  let v110 : BitVec 32 := Scalar.extui v109
  let c0_i32_63 : BitVec 32 := 0#32
  let v111 : BitVec 1 := Scalar.cmpi .ne v110 c0_i32_63
  v111

def k0_off18 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_58 : BitVec 32 := 1#32
  let v103 : BitVec 32 := Scalar.subi v5 c1_i32_58
  let c0_i32_59 : BitVec 32 := 0#32
  let v104 : BitVec 32 := Scalar.subi v103 c0_i32_59
  let c1024_i32_471 : BitVec 32 := 1024#32
  let v739 : BitVec 32 := Scalar.muli v104 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_dev19 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v743 : BitVec 32 := Scalar.muli v2 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_477 : BitVec 32 := 4#32
  let v745 : BitVec 32 := Scalar.muli v31 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_46 : BitVec 32 := 1#32
  let v83 : BitVec 1 := Scalar.cmpi .sge v5 c1_i32_46
  let v112 : BitVec 32 := Scalar.extui v83
  let c0_i32_64 : BitVec 32 := 0#32
  let v113 : BitVec 1 := Scalar.cmpi .ne v112 c0_i32_64
  v113

def k0_off19 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_58 : BitVec 32 := 1#32
  let v103 : BitVec 32 := Scalar.subi v5 c1_i32_58
  let c0_i32_59 : BitVec 32 := 0#32
  let v104 : BitVec 32 := Scalar.subi v103 c0_i32_59
  let c1024_i32_471 : BitVec 32 := 1024#32
  let v739 : BitVec 32 := Scalar.muli v104 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_480 : BitVec 32 := 0#32
  ![v742.toNat, 0]
def k0_dev20 (d0 : Dev nD) : Nat :=
  let c0_i32_477 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_476 : BitVec 32 := 16#32
  let v743 : BitVec 32 := Scalar.muli v9 c16_i32_476
  let v744 : BitVec 32 := Scalar.addi c0_i32_477 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_478 : BitVec 32 := 4#32
  let v745 : BitVec 32 := Scalar.muli v5 c4_i32_478
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v747 : BitVec 32 := Scalar.muli v8 c1_i32_479
  let v748 : BitVec 32 := Scalar.addi v746 v747
  v748.toNat
def k0_dev21 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v763 : BitVec 32 := Scalar.muli v2 c16_i32_490
  let v764 : BitVec 32 := Scalar.addi c0_i32_491 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v765 : BitVec 32 := Scalar.muli v5 c4_i32_492
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_493 : BitVec 32 := 1#32
  let v767 : BitVec 32 := Scalar.muli v22 c1_i32_493
  let v768 : BitVec 32 := Scalar.addi v766 v767
  v768.toNat
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_47 : BitVec 32 := 2#32
  let v84 : BitVec 1 := Scalar.cmpi .sle v5 c2_i32_47
  let v114 : BitVec 32 := Scalar.extui v84
  let c0_i32_65 : BitVec 32 := 0#32
  let v115 : BitVec 1 := Scalar.cmpi .ne v114 c0_i32_65
  v115

def k0_off20 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_60 : BitVec 32 := 1#32
  let v105 : BitVec 32 := Scalar.addi v5 c1_i32_60
  let c0_i32_61 : BitVec 32 := 0#32
  let v106 : BitVec 32 := Scalar.addi v105 c0_i32_61
  let c1024_i32_469 : BitVec 32 := 1024#32
  let v735 : BitVec 32 := Scalar.muli v106 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_477 : BitVec 32 := 0#32
  ![v738.toNat, 0]
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_47 : BitVec 32 := 2#32
  let v84 : BitVec 1 := Scalar.cmpi .sle v5 c2_i32_47
  let c1_i32_16 : BitVec 32 := 1#32
  let v32 : BitVec 1 := Scalar.cmpi .sge v5 c1_i32_16
  let v116 : BitVec 1 := Scalar.andi v84 v32
  let v117 : BitVec 32 := Scalar.extui v116
  let c0_i32_66 : BitVec 32 := 0#32
  let v118 : BitVec 1 := Scalar.cmpi .ne v117 c0_i32_66
  v118

def k0_off21 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_60 : BitVec 32 := 1#32
  let v105 : BitVec 32 := Scalar.addi v5 c1_i32_60
  let c0_i32_61 : BitVec 32 := 0#32
  let v106 : BitVec 32 := Scalar.addi v105 c0_i32_61
  let c1024_i32_471 : BitVec 32 := 1024#32
  let v739 : BitVec 32 := Scalar.muli v106 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_dev22 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v743 : BitVec 32 := Scalar.muli v2 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.subi v5 c1_i32_14
  let c4_i32_477 : BitVec 32 := 4#32
  let v745 : BitVec 32 := Scalar.muli v30 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_47 : BitVec 32 := 2#32
  let v84 : BitVec 1 := Scalar.cmpi .sle v5 c2_i32_47
  let v119 : BitVec 32 := Scalar.extui v84
  let c0_i32_67 : BitVec 32 := 0#32
  let v120 : BitVec 1 := Scalar.cmpi .ne v119 c0_i32_67
  v120

def k0_off22 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_60 : BitVec 32 := 1#32
  let v105 : BitVec 32 := Scalar.addi v5 c1_i32_60
  let c0_i32_61 : BitVec 32 := 0#32
  let v106 : BitVec 32 := Scalar.addi v105 c0_i32_61
  let c1024_i32_471 : BitVec 32 := 1024#32
  let v739 : BitVec 32 := Scalar.muli v106 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_480 : BitVec 32 := 0#32
  ![v742.toNat, 0]
def k0_dev23 (d0 : Dev nD) : Nat :=
  let c0_i32_477 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_476 : BitVec 32 := 16#32
  let v743 : BitVec 32 := Scalar.muli v9 c16_i32_476
  let v744 : BitVec 32 := Scalar.addi c0_i32_477 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_478 : BitVec 32 := 4#32
  let v745 : BitVec 32 := Scalar.muli v5 c4_i32_478
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v747 : BitVec 32 := Scalar.muli v8 c1_i32_479
  let v748 : BitVec 32 := Scalar.addi v746 v747
  v748.toNat
def k0_dev24 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v763 : BitVec 32 := Scalar.muli v2 c16_i32_490
  let v764 : BitVec 32 := Scalar.addi c0_i32_491 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v765 : BitVec 32 := Scalar.muli v5 c4_i32_492
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_493 : BitVec 32 := 1#32
  let v767 : BitVec 32 := Scalar.muli v22 c1_i32_493
  let v768 : BitVec 32 := Scalar.addi v766 v767
  v768.toNat
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_46 : BitVec 32 := 1#32
  let v83 : BitVec 1 := Scalar.cmpi .sge v5 c1_i32_46
  let v125 : BitVec 32 := Scalar.extui v83
  let c0_i32_72 : BitVec 32 := 0#32
  let v126 : BitVec 1 := Scalar.cmpi .ne v125 c0_i32_72
  v126

def k0_off23 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_68 : BitVec 32 := 1#32
  let v121 : BitVec 32 := Scalar.subi v5 c1_i32_68
  let c0_i32_69 : BitVec 32 := 0#32
  let v122 : BitVec 32 := Scalar.subi v121 c0_i32_69
  let c1024_i32_469 : BitVec 32 := 1024#32
  let v735 : BitVec 32 := Scalar.muli v122 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_477 : BitVec 32 := 0#32
  ![v738.toNat, 0]
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_46 : BitVec 32 := 1#32
  let v83 : BitVec 1 := Scalar.cmpi .sge v5 c1_i32_46
  let c2_i32_17 : BitVec 32 := 2#32
  let v33 : BitVec 1 := Scalar.cmpi .sle v5 c2_i32_17
  let v127 : BitVec 1 := Scalar.andi v83 v33
  let v128 : BitVec 32 := Scalar.extui v127
  let c0_i32_73 : BitVec 32 := 0#32
  let v129 : BitVec 1 := Scalar.cmpi .ne v128 c0_i32_73
  v129

def k0_off24 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_68 : BitVec 32 := 1#32
  let v121 : BitVec 32 := Scalar.subi v5 c1_i32_68
  let c0_i32_69 : BitVec 32 := 0#32
  let v122 : BitVec 32 := Scalar.subi v121 c0_i32_69
  let c1024_i32_471 : BitVec 32 := 1024#32
  let v739 : BitVec 32 := Scalar.muli v122 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_dev25 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v743 : BitVec 32 := Scalar.muli v2 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_477 : BitVec 32 := 4#32
  let v745 : BitVec 32 := Scalar.muli v31 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_cond27 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_46 : BitVec 32 := 1#32
  let v83 : BitVec 1 := Scalar.cmpi .sge v5 c1_i32_46
  let v130 : BitVec 32 := Scalar.extui v83
  let c0_i32_74 : BitVec 32 := 0#32
  let v131 : BitVec 1 := Scalar.cmpi .ne v130 c0_i32_74
  v131

def k0_off25 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_68 : BitVec 32 := 1#32
  let v121 : BitVec 32 := Scalar.subi v5 c1_i32_68
  let c0_i32_69 : BitVec 32 := 0#32
  let v122 : BitVec 32 := Scalar.subi v121 c0_i32_69
  let c1024_i32_471 : BitVec 32 := 1024#32
  let v739 : BitVec 32 := Scalar.muli v122 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_480 : BitVec 32 := 0#32
  ![v742.toNat, 0]
def k0_dev26 (d0 : Dev nD) : Nat :=
  let c0_i32_477 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_476 : BitVec 32 := 16#32
  let v743 : BitVec 32 := Scalar.muli v9 c16_i32_476
  let v744 : BitVec 32 := Scalar.addi c0_i32_477 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_478 : BitVec 32 := 4#32
  let v745 : BitVec 32 := Scalar.muli v5 c4_i32_478
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v747 : BitVec 32 := Scalar.muli v8 c1_i32_479
  let v748 : BitVec 32 := Scalar.addi v746 v747
  v748.toNat
def k0_dev27 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v763 : BitVec 32 := Scalar.muli v2 c16_i32_490
  let v764 : BitVec 32 := Scalar.addi c0_i32_491 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v765 : BitVec 32 := Scalar.muli v5 c4_i32_492
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_493 : BitVec 32 := 1#32
  let v767 : BitVec 32 := Scalar.muli v22 c1_i32_493
  let v768 : BitVec 32 := Scalar.addi v766 v767
  v768.toNat
def k0_cond28 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_47 : BitVec 32 := 2#32
  let v84 : BitVec 1 := Scalar.cmpi .sle v5 c2_i32_47
  let v132 : BitVec 32 := Scalar.extui v84
  let c0_i32_75 : BitVec 32 := 0#32
  let v133 : BitVec 1 := Scalar.cmpi .ne v132 c0_i32_75
  v133

def k0_off26 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_70 : BitVec 32 := 1#32
  let v123 : BitVec 32 := Scalar.addi v5 c1_i32_70
  let c0_i32_71 : BitVec 32 := 0#32
  let v124 : BitVec 32 := Scalar.addi v123 c0_i32_71
  let c1024_i32_469 : BitVec 32 := 1024#32
  let v735 : BitVec 32 := Scalar.muli v124 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_477 : BitVec 32 := 0#32
  ![v738.toNat, 0]
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_47 : BitVec 32 := 2#32
  let v84 : BitVec 1 := Scalar.cmpi .sle v5 c2_i32_47
  let c1_i32_16 : BitVec 32 := 1#32
  let v32 : BitVec 1 := Scalar.cmpi .sge v5 c1_i32_16
  let v134 : BitVec 1 := Scalar.andi v84 v32
  let v135 : BitVec 32 := Scalar.extui v134
  let c0_i32_76 : BitVec 32 := 0#32
  let v136 : BitVec 1 := Scalar.cmpi .ne v135 c0_i32_76
  v136

def k0_off27 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_70 : BitVec 32 := 1#32
  let v123 : BitVec 32 := Scalar.addi v5 c1_i32_70
  let c0_i32_71 : BitVec 32 := 0#32
  let v124 : BitVec 32 := Scalar.addi v123 c0_i32_71
  let c1024_i32_471 : BitVec 32 := 1024#32
  let v739 : BitVec 32 := Scalar.muli v124 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_dev28 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v743 : BitVec 32 := Scalar.muli v2 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.subi v5 c1_i32_14
  let c4_i32_477 : BitVec 32 := 4#32
  let v745 : BitVec 32 := Scalar.muli v30 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_47 : BitVec 32 := 2#32
  let v84 : BitVec 1 := Scalar.cmpi .sle v5 c2_i32_47
  let v137 : BitVec 32 := Scalar.extui v84
  let c0_i32_77 : BitVec 32 := 0#32
  let v138 : BitVec 1 := Scalar.cmpi .ne v137 c0_i32_77
  v138

def k0_off28 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_70 : BitVec 32 := 1#32
  let v123 : BitVec 32 := Scalar.addi v5 c1_i32_70
  let c0_i32_71 : BitVec 32 := 0#32
  let v124 : BitVec 32 := Scalar.addi v123 c0_i32_71
  let c1024_i32_471 : BitVec 32 := 1024#32
  let v739 : BitVec 32 := Scalar.muli v124 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_480 : BitVec 32 := 0#32
  ![v742.toNat, 0]
def k0_dev29 (d0 : Dev nD) : Nat :=
  let c0_i32_477 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_476 : BitVec 32 := 16#32
  let v743 : BitVec 32 := Scalar.muli v9 c16_i32_476
  let v744 : BitVec 32 := Scalar.addi c0_i32_477 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_478 : BitVec 32 := 4#32
  let v745 : BitVec 32 := Scalar.muli v5 c4_i32_478
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v747 : BitVec 32 := Scalar.muli v8 c1_i32_479
  let v748 : BitVec 32 := Scalar.addi v746 v747
  v748.toNat
def k0_dev30 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v763 : BitVec 32 := Scalar.muli v2 c16_i32_490
  let v764 : BitVec 32 := Scalar.addi c0_i32_491 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v765 : BitVec 32 := Scalar.muli v5 c4_i32_492
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_493 : BitVec 32 := 1#32
  let v767 : BitVec 32 := Scalar.muli v22 c1_i32_493
  let v768 : BitVec 32 := Scalar.addi v766 v767
  v768.toNat
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_46 : BitVec 32 := 1#32
  let v83 : BitVec 1 := Scalar.cmpi .sge v5 c1_i32_46
  let v143 : BitVec 32 := Scalar.extui v83
  let c0_i32_82 : BitVec 32 := 0#32
  let v144 : BitVec 1 := Scalar.cmpi .ne v143 c0_i32_82
  v144

def k0_off29 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_78 : BitVec 32 := 1#32
  let v139 : BitVec 32 := Scalar.subi v5 c1_i32_78
  let c0_i32_79 : BitVec 32 := 0#32
  let v140 : BitVec 32 := Scalar.subi v139 c0_i32_79
  let c1024_i32_469 : BitVec 32 := 1024#32
  let v735 : BitVec 32 := Scalar.muli v140 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_477 : BitVec 32 := 0#32
  ![v738.toNat, 0]
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_46 : BitVec 32 := 1#32
  let v83 : BitVec 1 := Scalar.cmpi .sge v5 c1_i32_46
  let c2_i32_17 : BitVec 32 := 2#32
  let v33 : BitVec 1 := Scalar.cmpi .sle v5 c2_i32_17
  let v145 : BitVec 1 := Scalar.andi v83 v33
  let v146 : BitVec 32 := Scalar.extui v145
  let c0_i32_83 : BitVec 32 := 0#32
  let v147 : BitVec 1 := Scalar.cmpi .ne v146 c0_i32_83
  v147

def k0_off30 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_78 : BitVec 32 := 1#32
  let v139 : BitVec 32 := Scalar.subi v5 c1_i32_78
  let c0_i32_79 : BitVec 32 := 0#32
  let v140 : BitVec 32 := Scalar.subi v139 c0_i32_79
  let c1024_i32_471 : BitVec 32 := 1024#32
  let v739 : BitVec 32 := Scalar.muli v140 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_dev31 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v743 : BitVec 32 := Scalar.muli v2 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_477 : BitVec 32 := 4#32
  let v745 : BitVec 32 := Scalar.muli v31 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_cond33 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_46 : BitVec 32 := 1#32
  let v83 : BitVec 1 := Scalar.cmpi .sge v5 c1_i32_46
  let v148 : BitVec 32 := Scalar.extui v83
  let c0_i32_84 : BitVec 32 := 0#32
  let v149 : BitVec 1 := Scalar.cmpi .ne v148 c0_i32_84
  v149

def k0_off31 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_78 : BitVec 32 := 1#32
  let v139 : BitVec 32 := Scalar.subi v5 c1_i32_78
  let c0_i32_79 : BitVec 32 := 0#32
  let v140 : BitVec 32 := Scalar.subi v139 c0_i32_79
  let c1024_i32_471 : BitVec 32 := 1024#32
  let v739 : BitVec 32 := Scalar.muli v140 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_480 : BitVec 32 := 0#32
  ![v742.toNat, 0]
def k0_dev32 (d0 : Dev nD) : Nat :=
  let c0_i32_477 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_476 : BitVec 32 := 16#32
  let v743 : BitVec 32 := Scalar.muli v9 c16_i32_476
  let v744 : BitVec 32 := Scalar.addi c0_i32_477 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_478 : BitVec 32 := 4#32
  let v745 : BitVec 32 := Scalar.muli v5 c4_i32_478
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v747 : BitVec 32 := Scalar.muli v8 c1_i32_479
  let v748 : BitVec 32 := Scalar.addi v746 v747
  v748.toNat
def k0_dev33 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v763 : BitVec 32 := Scalar.muli v2 c16_i32_490
  let v764 : BitVec 32 := Scalar.addi c0_i32_491 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v765 : BitVec 32 := Scalar.muli v5 c4_i32_492
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_493 : BitVec 32 := 1#32
  let v767 : BitVec 32 := Scalar.muli v22 c1_i32_493
  let v768 : BitVec 32 := Scalar.addi v766 v767
  v768.toNat
def k0_cond34 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_47 : BitVec 32 := 2#32
  let v84 : BitVec 1 := Scalar.cmpi .sle v5 c2_i32_47
  let v150 : BitVec 32 := Scalar.extui v84
  let c0_i32_85 : BitVec 32 := 0#32
  let v151 : BitVec 1 := Scalar.cmpi .ne v150 c0_i32_85
  v151

def k0_off32 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_80 : BitVec 32 := 1#32
  let v141 : BitVec 32 := Scalar.addi v5 c1_i32_80
  let c0_i32_81 : BitVec 32 := 0#32
  let v142 : BitVec 32 := Scalar.addi v141 c0_i32_81
  let c1024_i32_469 : BitVec 32 := 1024#32
  let v735 : BitVec 32 := Scalar.muli v142 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_477 : BitVec 32 := 0#32
  ![v738.toNat, 0]
def k0_cond35 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_47 : BitVec 32 := 2#32
  let v84 : BitVec 1 := Scalar.cmpi .sle v5 c2_i32_47
  let c1_i32_16 : BitVec 32 := 1#32
  let v32 : BitVec 1 := Scalar.cmpi .sge v5 c1_i32_16
  let v152 : BitVec 1 := Scalar.andi v84 v32
  let v153 : BitVec 32 := Scalar.extui v152
  let c0_i32_86 : BitVec 32 := 0#32
  let v154 : BitVec 1 := Scalar.cmpi .ne v153 c0_i32_86
  v154

def k0_off33 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_80 : BitVec 32 := 1#32
  let v141 : BitVec 32 := Scalar.addi v5 c1_i32_80
  let c0_i32_81 : BitVec 32 := 0#32
  let v142 : BitVec 32 := Scalar.addi v141 c0_i32_81
  let c1024_i32_471 : BitVec 32 := 1024#32
  let v739 : BitVec 32 := Scalar.muli v142 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_dev34 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v743 : BitVec 32 := Scalar.muli v2 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.subi v5 c1_i32_14
  let c4_i32_477 : BitVec 32 := 4#32
  let v745 : BitVec 32 := Scalar.muli v30 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_cond36 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_47 : BitVec 32 := 2#32
  let v84 : BitVec 1 := Scalar.cmpi .sle v5 c2_i32_47
  let v155 : BitVec 32 := Scalar.extui v84
  let c0_i32_87 : BitVec 32 := 0#32
  let v156 : BitVec 1 := Scalar.cmpi .ne v155 c0_i32_87
  v156

def k0_off34 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_80 : BitVec 32 := 1#32
  let v141 : BitVec 32 := Scalar.addi v5 c1_i32_80
  let c0_i32_81 : BitVec 32 := 0#32
  let v142 : BitVec 32 := Scalar.addi v141 c0_i32_81
  let c1024_i32_471 : BitVec 32 := 1024#32
  let v739 : BitVec 32 := Scalar.muli v142 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_480 : BitVec 32 := 0#32
  ![v742.toNat, 0]
def k0_dev35 (d0 : Dev nD) : Nat :=
  let c0_i32_477 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_476 : BitVec 32 := 16#32
  let v743 : BitVec 32 := Scalar.muli v9 c16_i32_476
  let v744 : BitVec 32 := Scalar.addi c0_i32_477 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_478 : BitVec 32 := 4#32
  let v745 : BitVec 32 := Scalar.muli v5 c4_i32_478
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v747 : BitVec 32 := Scalar.muli v8 c1_i32_479
  let v748 : BitVec 32 := Scalar.addi v746 v747
  v748.toNat
def k0_dev36 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v763 : BitVec 32 := Scalar.muli v2 c16_i32_490
  let v764 : BitVec 32 := Scalar.addi c0_i32_491 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v765 : BitVec 32 := Scalar.muli v5 c4_i32_492
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_493 : BitVec 32 := 1#32
  let v767 : BitVec 32 := Scalar.muli v22 c1_i32_493
  let v768 : BitVec 32 := Scalar.addi v766 v767
  v768.toNat
def k0_cond37 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v157 : BitVec 1 := Scalar.cmpi .sge v5 c2_i32_88
  let v163 : BitVec 32 := Scalar.extui v157
  let c0_i32_94 : BitVec 32 := 0#32
  let v164 : BitVec 1 := Scalar.cmpi .ne v163 c0_i32_94
  v164

def k0_off35 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_90 : BitVec 32 := 1#32
  let v159 : BitVec 32 := Scalar.subi v5 c1_i32_90
  let c1_i32_91 : BitVec 32 := 1#32
  let v160 : BitVec 32 := Scalar.subi v159 c1_i32_91
  let c1024_i32_469 : BitVec 32 := 1024#32
  let v735 : BitVec 32 := Scalar.muli v160 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_478 : BitVec 32 := 0#32
  ![v738.toNat, 0]
def k0_cond38 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v157 : BitVec 1 := Scalar.cmpi .sge v5 c2_i32_88
  let c2_i32_17 : BitVec 32 := 2#32
  let v33 : BitVec 1 := Scalar.cmpi .sle v5 c2_i32_17
  let v165 : BitVec 1 := Scalar.andi v157 v33
  let v166 : BitVec 32 := Scalar.extui v165
  let c0_i32_95 : BitVec 32 := 0#32
  let v167 : BitVec 1 := Scalar.cmpi .ne v166 c0_i32_95
  v167

def k0_off36 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_90 : BitVec 32 := 1#32
  let v159 : BitVec 32 := Scalar.subi v5 c1_i32_90
  let c1_i32_91 : BitVec 32 := 1#32
  let v160 : BitVec 32 := Scalar.subi v159 c1_i32_91
  let c1024_i32_472 : BitVec 32 := 1024#32
  let v739 : BitVec 32 := Scalar.muli v160 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_480 : BitVec 32 := 0#32
  ![v742.toNat, 0]
def k0_dev37 (d0 : Dev nD) : Nat :=
  let c0_i32_477 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_476 : BitVec 32 := 16#32
  let v743 : BitVec 32 := Scalar.muli v2 c16_i32_476
  let v744 : BitVec 32 := Scalar.addi c0_i32_477 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_478 : BitVec 32 := 4#32
  let v745 : BitVec 32 := Scalar.muli v31 c4_i32_478
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v747 : BitVec 32 := Scalar.muli v8 c1_i32_479
  let v748 : BitVec 32 := Scalar.addi v746 v747
  v748.toNat
def k0_cond39 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v157 : BitVec 1 := Scalar.cmpi .sge v5 c2_i32_88
  let v168 : BitVec 32 := Scalar.extui v157
  let c0_i32_96 : BitVec 32 := 0#32
  let v169 : BitVec 1 := Scalar.cmpi .ne v168 c0_i32_96
  v169

def k0_off37 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_90 : BitVec 32 := 1#32
  let v159 : BitVec 32 := Scalar.subi v5 c1_i32_90
  let c1_i32_91 : BitVec 32 := 1#32
  let v160 : BitVec 32 := Scalar.subi v159 c1_i32_91
  let c1024_i32_472 : BitVec 32 := 1024#32
  let v739 : BitVec 32 := Scalar.muli v160 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_dev38 (d0 : Dev nD) : Nat :=
  let c0_i32_478 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_477 : BitVec 32 := 16#32
  let v743 : BitVec 32 := Scalar.muli v9 c16_i32_477
  let v744 : BitVec 32 := Scalar.addi c0_i32_478 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_479 : BitVec 32 := 4#32
  let v745 : BitVec 32 := Scalar.muli v5 c4_i32_479
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_480 : BitVec 32 := 1#32
  let v747 : BitVec 32 := Scalar.muli v8 c1_i32_480
  let v748 : BitVec 32 := Scalar.addi v746 v747
  v748.toNat
def k0_dev39 (d0 : Dev nD) : Nat :=
  let c0_i32_492 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_491 : BitVec 32 := 16#32
  let v763 : BitVec 32 := Scalar.muli v2 c16_i32_491
  let v764 : BitVec 32 := Scalar.addi c0_i32_492 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_493 : BitVec 32 := 4#32
  let v765 : BitVec 32 := Scalar.muli v5 c4_i32_493
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_494 : BitVec 32 := 1#32
  let v767 : BitVec 32 := Scalar.muli v22 c1_i32_494
  let v768 : BitVec 32 := Scalar.addi v766 v767
  v768.toNat
def k0_cond40 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_89 : BitVec 32 := 1#32
  let v158 : BitVec 1 := Scalar.cmpi .sle v5 c1_i32_89
  let v170 : BitVec 32 := Scalar.extui v158
  let c0_i32_97 : BitVec 32 := 0#32
  let v171 : BitVec 1 := Scalar.cmpi .ne v170 c0_i32_97
  v171

def k0_off38 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_92 : BitVec 32 := 1#32
  let v161 : BitVec 32 := Scalar.addi v5 c1_i32_92
  let c1_i32_93 : BitVec 32 := 1#32
  let v162 : BitVec 32 := Scalar.addi v161 c1_i32_93
  let c1024_i32_469 : BitVec 32 := 1024#32
  let v735 : BitVec 32 := Scalar.muli v162 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_478 : BitVec 32 := 0#32
  ![v738.toNat, 0]
def k0_cond41 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_89 : BitVec 32 := 1#32
  let v158 : BitVec 1 := Scalar.cmpi .sle v5 c1_i32_89
  let c1_i32_16 : BitVec 32 := 1#32
  let v32 : BitVec 1 := Scalar.cmpi .sge v5 c1_i32_16
  let v172 : BitVec 1 := Scalar.andi v158 v32
  let v173 : BitVec 32 := Scalar.extui v172
  let c0_i32_98 : BitVec 32 := 0#32
  let v174 : BitVec 1 := Scalar.cmpi .ne v173 c0_i32_98
  v174

def k0_off39 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_92 : BitVec 32 := 1#32
  let v161 : BitVec 32 := Scalar.addi v5 c1_i32_92
  let c1_i32_93 : BitVec 32 := 1#32
  let v162 : BitVec 32 := Scalar.addi v161 c1_i32_93
  let c1024_i32_472 : BitVec 32 := 1024#32
  let v739 : BitVec 32 := Scalar.muli v162 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_480 : BitVec 32 := 0#32
  ![v742.toNat, 0]
def k0_dev40 (d0 : Dev nD) : Nat :=
  let c0_i32_477 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_476 : BitVec 32 := 16#32
  let v743 : BitVec 32 := Scalar.muli v2 c16_i32_476
  let v744 : BitVec 32 := Scalar.addi c0_i32_477 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.subi v5 c1_i32_14
  let c4_i32_478 : BitVec 32 := 4#32
  let v745 : BitVec 32 := Scalar.muli v30 c4_i32_478
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v747 : BitVec 32 := Scalar.muli v8 c1_i32_479
  let v748 : BitVec 32 := Scalar.addi v746 v747
  v748.toNat
def k0_cond42 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_89 : BitVec 32 := 1#32
  let v158 : BitVec 1 := Scalar.cmpi .sle v5 c1_i32_89
  let v175 : BitVec 32 := Scalar.extui v158
  let c0_i32_99 : BitVec 32 := 0#32
  let v176 : BitVec 1 := Scalar.cmpi .ne v175 c0_i32_99
  v176

def k0_off40 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_92 : BitVec 32 := 1#32
  let v161 : BitVec 32 := Scalar.addi v5 c1_i32_92
  let c1_i32_93 : BitVec 32 := 1#32
  let v162 : BitVec 32 := Scalar.addi v161 c1_i32_93
  let c1024_i32_472 : BitVec 32 := 1024#32
  let v739 : BitVec 32 := Scalar.muli v162 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_dev41 (d0 : Dev nD) : Nat :=
  let c0_i32_478 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_477 : BitVec 32 := 16#32
  let v743 : BitVec 32 := Scalar.muli v9 c16_i32_477
  let v744 : BitVec 32 := Scalar.addi c0_i32_478 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_479 : BitVec 32 := 4#32
  let v745 : BitVec 32 := Scalar.muli v5 c4_i32_479
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_480 : BitVec 32 := 1#32
  let v747 : BitVec 32 := Scalar.muli v8 c1_i32_480
  let v748 : BitVec 32 := Scalar.addi v746 v747
  v748.toNat
def k0_dev42 (d0 : Dev nD) : Nat :=
  let c0_i32_492 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_491 : BitVec 32 := 16#32
  let v763 : BitVec 32 := Scalar.muli v2 c16_i32_491
  let v764 : BitVec 32 := Scalar.addi c0_i32_492 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_493 : BitVec 32 := 4#32
  let v765 : BitVec 32 := Scalar.muli v5 c4_i32_493
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_494 : BitVec 32 := 1#32
  let v767 : BitVec 32 := Scalar.muli v22 c1_i32_494
  let v768 : BitVec 32 := Scalar.addi v766 v767
  v768.toNat
def k0_cond43 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v157 : BitVec 1 := Scalar.cmpi .sge v5 c2_i32_88
  let v181 : BitVec 32 := Scalar.extui v157
  let c0_i32_104 : BitVec 32 := 0#32
  let v182 : BitVec 1 := Scalar.cmpi .ne v181 c0_i32_104
  v182

def k0_off41 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_100 : BitVec 32 := 1#32
  let v177 : BitVec 32 := Scalar.subi v5 c1_i32_100
  let c1_i32_101 : BitVec 32 := 1#32
  let v178 : BitVec 32 := Scalar.subi v177 c1_i32_101
  let c1024_i32_469 : BitVec 32 := 1024#32
  let v735 : BitVec 32 := Scalar.muli v178 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_cond44 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v157 : BitVec 1 := Scalar.cmpi .sge v5 c2_i32_88
  let c2_i32_17 : BitVec 32 := 2#32
  let v33 : BitVec 1 := Scalar.cmpi .sle v5 c2_i32_17
  let v183 : BitVec 1 := Scalar.andi v157 v33
  let v184 : BitVec 32 := Scalar.extui v183
  let c0_i32_105 : BitVec 32 := 0#32
  let v185 : BitVec 1 := Scalar.cmpi .ne v184 c0_i32_105
  v185

def k0_off42 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_100 : BitVec 32 := 1#32
  let v177 : BitVec 32 := Scalar.subi v5 c1_i32_100
  let c1_i32_101 : BitVec 32 := 1#32
  let v178 : BitVec 32 := Scalar.subi v177 c1_i32_101
  let c1024_i32_471 : BitVec 32 := 1024#32
  let v739 : BitVec 32 := Scalar.muli v178 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_dev43 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v743 : BitVec 32 := Scalar.muli v2 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_477 : BitVec 32 := 4#32
  let v745 : BitVec 32 := Scalar.muli v31 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_cond45 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v157 : BitVec 1 := Scalar.cmpi .sge v5 c2_i32_88
  let v186 : BitVec 32 := Scalar.extui v157
  let c0_i32_106 : BitVec 32 := 0#32
  let v187 : BitVec 1 := Scalar.cmpi .ne v186 c0_i32_106
  v187

def k0_off43 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_100 : BitVec 32 := 1#32
  let v177 : BitVec 32 := Scalar.subi v5 c1_i32_100
  let c1_i32_101 : BitVec 32 := 1#32
  let v178 : BitVec 32 := Scalar.subi v177 c1_i32_101
  let c1024_i32_471 : BitVec 32 := 1024#32
  let v739 : BitVec 32 := Scalar.muli v178 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_dev44 (d0 : Dev nD) : Nat :=
  let c0_i32_476 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_475 : BitVec 32 := 16#32
  let v743 : BitVec 32 := Scalar.muli v9 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_477 : BitVec 32 := 4#32
  let v745 : BitVec 32 := Scalar.muli v5 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_dev45 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v763 : BitVec 32 := Scalar.muli v2 c16_i32_489
  let v764 : BitVec 32 := Scalar.addi c0_i32_490 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v765 : BitVec 32 := Scalar.muli v5 c4_i32_491
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v767 : BitVec 32 := Scalar.muli v22 c1_i32_492
  let v768 : BitVec 32 := Scalar.addi v766 v767
  v768.toNat
def k0_cond46 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_89 : BitVec 32 := 1#32
  let v158 : BitVec 1 := Scalar.cmpi .sle v5 c1_i32_89
  let v188 : BitVec 32 := Scalar.extui v158
  let c0_i32_107 : BitVec 32 := 0#32
  let v189 : BitVec 1 := Scalar.cmpi .ne v188 c0_i32_107
  v189

def k0_off44 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_102 : BitVec 32 := 1#32
  let v179 : BitVec 32 := Scalar.addi v5 c1_i32_102
  let c1_i32_103 : BitVec 32 := 1#32
  let v180 : BitVec 32 := Scalar.addi v179 c1_i32_103
  let c1024_i32_469 : BitVec 32 := 1024#32
  let v735 : BitVec 32 := Scalar.muli v180 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_cond47 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_89 : BitVec 32 := 1#32
  let v158 : BitVec 1 := Scalar.cmpi .sle v5 c1_i32_89
  let c1_i32_16 : BitVec 32 := 1#32
  let v32 : BitVec 1 := Scalar.cmpi .sge v5 c1_i32_16
  let v190 : BitVec 1 := Scalar.andi v158 v32
  let v191 : BitVec 32 := Scalar.extui v190
  let c0_i32_108 : BitVec 32 := 0#32
  let v192 : BitVec 1 := Scalar.cmpi .ne v191 c0_i32_108
  v192

def k0_off45 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_102 : BitVec 32 := 1#32
  let v179 : BitVec 32 := Scalar.addi v5 c1_i32_102
  let c1_i32_103 : BitVec 32 := 1#32
  let v180 : BitVec 32 := Scalar.addi v179 c1_i32_103
  let c1024_i32_471 : BitVec 32 := 1024#32
  let v739 : BitVec 32 := Scalar.muli v180 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_dev46 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v743 : BitVec 32 := Scalar.muli v2 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.subi v5 c1_i32_14
  let c4_i32_477 : BitVec 32 := 4#32
  let v745 : BitVec 32 := Scalar.muli v30 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_cond48 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_89 : BitVec 32 := 1#32
  let v158 : BitVec 1 := Scalar.cmpi .sle v5 c1_i32_89
  let v193 : BitVec 32 := Scalar.extui v158
  let c0_i32_109 : BitVec 32 := 0#32
  let v194 : BitVec 1 := Scalar.cmpi .ne v193 c0_i32_109
  v194

def k0_off46 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_102 : BitVec 32 := 1#32
  let v179 : BitVec 32 := Scalar.addi v5 c1_i32_102
  let c1_i32_103 : BitVec 32 := 1#32
  let v180 : BitVec 32 := Scalar.addi v179 c1_i32_103
  let c1024_i32_471 : BitVec 32 := 1024#32
  let v739 : BitVec 32 := Scalar.muli v180 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_dev47 (d0 : Dev nD) : Nat :=
  let c0_i32_476 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_475 : BitVec 32 := 16#32
  let v743 : BitVec 32 := Scalar.muli v9 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_477 : BitVec 32 := 4#32
  let v745 : BitVec 32 := Scalar.muli v5 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_dev48 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v763 : BitVec 32 := Scalar.muli v2 c16_i32_489
  let v764 : BitVec 32 := Scalar.addi c0_i32_490 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v765 : BitVec 32 := Scalar.muli v5 c4_i32_491
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v767 : BitVec 32 := Scalar.muli v22 c1_i32_492
  let v768 : BitVec 32 := Scalar.addi v766 v767
  v768.toNat
def k0_cond49 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v157 : BitVec 1 := Scalar.cmpi .sge v5 c2_i32_88
  let v199 : BitVec 32 := Scalar.extui v157
  let c0_i32_114 : BitVec 32 := 0#32
  let v200 : BitVec 1 := Scalar.cmpi .ne v199 c0_i32_114
  v200

def k0_off47 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_110 : BitVec 32 := 1#32
  let v195 : BitVec 32 := Scalar.subi v5 c1_i32_110
  let c1_i32_111 : BitVec 32 := 1#32
  let v196 : BitVec 32 := Scalar.subi v195 c1_i32_111
  let c1024_i32_469 : BitVec 32 := 1024#32
  let v735 : BitVec 32 := Scalar.muli v196 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_cond50 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v157 : BitVec 1 := Scalar.cmpi .sge v5 c2_i32_88
  let c2_i32_17 : BitVec 32 := 2#32
  let v33 : BitVec 1 := Scalar.cmpi .sle v5 c2_i32_17
  let v201 : BitVec 1 := Scalar.andi v157 v33
  let v202 : BitVec 32 := Scalar.extui v201
  let c0_i32_115 : BitVec 32 := 0#32
  let v203 : BitVec 1 := Scalar.cmpi .ne v202 c0_i32_115
  v203

def k0_off48 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_110 : BitVec 32 := 1#32
  let v195 : BitVec 32 := Scalar.subi v5 c1_i32_110
  let c1_i32_111 : BitVec 32 := 1#32
  let v196 : BitVec 32 := Scalar.subi v195 c1_i32_111
  let c1024_i32_471 : BitVec 32 := 1024#32
  let v739 : BitVec 32 := Scalar.muli v196 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_dev49 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v743 : BitVec 32 := Scalar.muli v2 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_477 : BitVec 32 := 4#32
  let v745 : BitVec 32 := Scalar.muli v31 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_cond51 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v157 : BitVec 1 := Scalar.cmpi .sge v5 c2_i32_88
  let v204 : BitVec 32 := Scalar.extui v157
  let c0_i32_116 : BitVec 32 := 0#32
  let v205 : BitVec 1 := Scalar.cmpi .ne v204 c0_i32_116
  v205

def k0_off49 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_110 : BitVec 32 := 1#32
  let v195 : BitVec 32 := Scalar.subi v5 c1_i32_110
  let c1_i32_111 : BitVec 32 := 1#32
  let v196 : BitVec 32 := Scalar.subi v195 c1_i32_111
  let c1024_i32_471 : BitVec 32 := 1024#32
  let v739 : BitVec 32 := Scalar.muli v196 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_dev50 (d0 : Dev nD) : Nat :=
  let c0_i32_476 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_475 : BitVec 32 := 16#32
  let v743 : BitVec 32 := Scalar.muli v9 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_477 : BitVec 32 := 4#32
  let v745 : BitVec 32 := Scalar.muli v5 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_dev51 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v763 : BitVec 32 := Scalar.muli v2 c16_i32_489
  let v764 : BitVec 32 := Scalar.addi c0_i32_490 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v765 : BitVec 32 := Scalar.muli v5 c4_i32_491
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v767 : BitVec 32 := Scalar.muli v22 c1_i32_492
  let v768 : BitVec 32 := Scalar.addi v766 v767
  v768.toNat
def k0_cond52 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_89 : BitVec 32 := 1#32
  let v158 : BitVec 1 := Scalar.cmpi .sle v5 c1_i32_89
  let v206 : BitVec 32 := Scalar.extui v158
  let c0_i32_117 : BitVec 32 := 0#32
  let v207 : BitVec 1 := Scalar.cmpi .ne v206 c0_i32_117
  v207

def k0_off50 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_112 : BitVec 32 := 1#32
  let v197 : BitVec 32 := Scalar.addi v5 c1_i32_112
  let c1_i32_113 : BitVec 32 := 1#32
  let v198 : BitVec 32 := Scalar.addi v197 c1_i32_113
  let c1024_i32_469 : BitVec 32 := 1024#32
  let v735 : BitVec 32 := Scalar.muli v198 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_cond53 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_89 : BitVec 32 := 1#32
  let v158 : BitVec 1 := Scalar.cmpi .sle v5 c1_i32_89
  let c1_i32_16 : BitVec 32 := 1#32
  let v32 : BitVec 1 := Scalar.cmpi .sge v5 c1_i32_16
  let v208 : BitVec 1 := Scalar.andi v158 v32
  let v209 : BitVec 32 := Scalar.extui v208
  let c0_i32_118 : BitVec 32 := 0#32
  let v210 : BitVec 1 := Scalar.cmpi .ne v209 c0_i32_118
  v210

def k0_off51 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_112 : BitVec 32 := 1#32
  let v197 : BitVec 32 := Scalar.addi v5 c1_i32_112
  let c1_i32_113 : BitVec 32 := 1#32
  let v198 : BitVec 32 := Scalar.addi v197 c1_i32_113
  let c1024_i32_471 : BitVec 32 := 1024#32
  let v739 : BitVec 32 := Scalar.muli v198 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_dev52 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v743 : BitVec 32 := Scalar.muli v2 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.subi v5 c1_i32_14
  let c4_i32_477 : BitVec 32 := 4#32
  let v745 : BitVec 32 := Scalar.muli v30 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_cond54 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_89 : BitVec 32 := 1#32
  let v158 : BitVec 1 := Scalar.cmpi .sle v5 c1_i32_89
  let v211 : BitVec 32 := Scalar.extui v158
  let c0_i32_119 : BitVec 32 := 0#32
  let v212 : BitVec 1 := Scalar.cmpi .ne v211 c0_i32_119
  v212

def k0_off52 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_112 : BitVec 32 := 1#32
  let v197 : BitVec 32 := Scalar.addi v5 c1_i32_112
  let c1_i32_113 : BitVec 32 := 1#32
  let v198 : BitVec 32 := Scalar.addi v197 c1_i32_113
  let c1024_i32_471 : BitVec 32 := 1024#32
  let v739 : BitVec 32 := Scalar.muli v198 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_dev53 (d0 : Dev nD) : Nat :=
  let c0_i32_476 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_475 : BitVec 32 := 16#32
  let v743 : BitVec 32 := Scalar.muli v9 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_477 : BitVec 32 := 4#32
  let v745 : BitVec 32 := Scalar.muli v5 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_dev54 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v763 : BitVec 32 := Scalar.muli v2 c16_i32_489
  let v764 : BitVec 32 := Scalar.addi c0_i32_490 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v765 : BitVec 32 := Scalar.muli v5 c4_i32_491
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v767 : BitVec 32 := Scalar.muli v22 c1_i32_492
  let v768 : BitVec 32 := Scalar.addi v766 v767
  v768.toNat
def k0_cond55 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v157 : BitVec 1 := Scalar.cmpi .sge v5 c2_i32_88
  let v217 : BitVec 32 := Scalar.extui v157
  let c0_i32_124 : BitVec 32 := 0#32
  let v218 : BitVec 1 := Scalar.cmpi .ne v217 c0_i32_124
  v218

def k0_off53 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_120 : BitVec 32 := 1#32
  let v213 : BitVec 32 := Scalar.subi v5 c1_i32_120
  let c1_i32_121 : BitVec 32 := 1#32
  let v214 : BitVec 32 := Scalar.subi v213 c1_i32_121
  let c1024_i32_469 : BitVec 32 := 1024#32
  let v735 : BitVec 32 := Scalar.muli v214 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_cond56 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v157 : BitVec 1 := Scalar.cmpi .sge v5 c2_i32_88
  let c2_i32_17 : BitVec 32 := 2#32
  let v33 : BitVec 1 := Scalar.cmpi .sle v5 c2_i32_17
  let v219 : BitVec 1 := Scalar.andi v157 v33
  let v220 : BitVec 32 := Scalar.extui v219
  let c0_i32_125 : BitVec 32 := 0#32
  let v221 : BitVec 1 := Scalar.cmpi .ne v220 c0_i32_125
  v221

def k0_off54 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_120 : BitVec 32 := 1#32
  let v213 : BitVec 32 := Scalar.subi v5 c1_i32_120
  let c1_i32_121 : BitVec 32 := 1#32
  let v214 : BitVec 32 := Scalar.subi v213 c1_i32_121
  let c1024_i32_471 : BitVec 32 := 1024#32
  let v739 : BitVec 32 := Scalar.muli v214 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_dev55 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v743 : BitVec 32 := Scalar.muli v2 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_477 : BitVec 32 := 4#32
  let v745 : BitVec 32 := Scalar.muli v31 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_cond57 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v157 : BitVec 1 := Scalar.cmpi .sge v5 c2_i32_88
  let v222 : BitVec 32 := Scalar.extui v157
  let c0_i32_126 : BitVec 32 := 0#32
  let v223 : BitVec 1 := Scalar.cmpi .ne v222 c0_i32_126
  v223

def k0_off55 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_120 : BitVec 32 := 1#32
  let v213 : BitVec 32 := Scalar.subi v5 c1_i32_120
  let c1_i32_121 : BitVec 32 := 1#32
  let v214 : BitVec 32 := Scalar.subi v213 c1_i32_121
  let c1024_i32_471 : BitVec 32 := 1024#32
  let v739 : BitVec 32 := Scalar.muli v214 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_dev56 (d0 : Dev nD) : Nat :=
  let c0_i32_476 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_475 : BitVec 32 := 16#32
  let v743 : BitVec 32 := Scalar.muli v9 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_477 : BitVec 32 := 4#32
  let v745 : BitVec 32 := Scalar.muli v5 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_dev57 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v763 : BitVec 32 := Scalar.muli v2 c16_i32_489
  let v764 : BitVec 32 := Scalar.addi c0_i32_490 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v765 : BitVec 32 := Scalar.muli v5 c4_i32_491
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v767 : BitVec 32 := Scalar.muli v22 c1_i32_492
  let v768 : BitVec 32 := Scalar.addi v766 v767
  v768.toNat
def k0_cond58 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_89 : BitVec 32 := 1#32
  let v158 : BitVec 1 := Scalar.cmpi .sle v5 c1_i32_89
  let v224 : BitVec 32 := Scalar.extui v158
  let c0_i32_127 : BitVec 32 := 0#32
  let v225 : BitVec 1 := Scalar.cmpi .ne v224 c0_i32_127
  v225

def k0_off56 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_122 : BitVec 32 := 1#32
  let v215 : BitVec 32 := Scalar.addi v5 c1_i32_122
  let c1_i32_123 : BitVec 32 := 1#32
  let v216 : BitVec 32 := Scalar.addi v215 c1_i32_123
  let c1024_i32_469 : BitVec 32 := 1024#32
  let v735 : BitVec 32 := Scalar.muli v216 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_cond59 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_89 : BitVec 32 := 1#32
  let v158 : BitVec 1 := Scalar.cmpi .sle v5 c1_i32_89
  let c1_i32_16 : BitVec 32 := 1#32
  let v32 : BitVec 1 := Scalar.cmpi .sge v5 c1_i32_16
  let v226 : BitVec 1 := Scalar.andi v158 v32
  let v227 : BitVec 32 := Scalar.extui v226
  let c0_i32_128 : BitVec 32 := 0#32
  let v228 : BitVec 1 := Scalar.cmpi .ne v227 c0_i32_128
  v228

def k0_off57 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_122 : BitVec 32 := 1#32
  let v215 : BitVec 32 := Scalar.addi v5 c1_i32_122
  let c1_i32_123 : BitVec 32 := 1#32
  let v216 : BitVec 32 := Scalar.addi v215 c1_i32_123
  let c1024_i32_471 : BitVec 32 := 1024#32
  let v739 : BitVec 32 := Scalar.muli v216 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_dev58 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v743 : BitVec 32 := Scalar.muli v2 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.subi v5 c1_i32_14
  let c4_i32_477 : BitVec 32 := 4#32
  let v745 : BitVec 32 := Scalar.muli v30 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_cond60 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_89 : BitVec 32 := 1#32
  let v158 : BitVec 1 := Scalar.cmpi .sle v5 c1_i32_89
  let v229 : BitVec 32 := Scalar.extui v158
  let c0_i32_129 : BitVec 32 := 0#32
  let v230 : BitVec 1 := Scalar.cmpi .ne v229 c0_i32_129
  v230

def k0_off58 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_122 : BitVec 32 := 1#32
  let v215 : BitVec 32 := Scalar.addi v5 c1_i32_122
  let c1_i32_123 : BitVec 32 := 1#32
  let v216 : BitVec 32 := Scalar.addi v215 c1_i32_123
  let c1024_i32_471 : BitVec 32 := 1024#32
  let v739 : BitVec 32 := Scalar.muli v216 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_dev59 (d0 : Dev nD) : Nat :=
  let c0_i32_476 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_475 : BitVec 32 := 16#32
  let v743 : BitVec 32 := Scalar.muli v9 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_477 : BitVec 32 := 4#32
  let v745 : BitVec 32 := Scalar.muli v5 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_dev60 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v763 : BitVec 32 := Scalar.muli v2 c16_i32_489
  let v764 : BitVec 32 := Scalar.addi c0_i32_490 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v765 : BitVec 32 := Scalar.muli v5 c4_i32_491
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v767 : BitVec 32 := Scalar.muli v22 c1_i32_492
  let v768 : BitVec 32 := Scalar.addi v766 v767
  v768.toNat
def k0_cond61 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v231 : BitVec 1 := Scalar.cmpi .sge v5 c3_i32
  let v237 : BitVec 32 := Scalar.extui v231
  let c0_i32_135 : BitVec 32 := 0#32
  let v238 : BitVec 1 := Scalar.cmpi .ne v237 c0_i32_135
  v238

def k0_off59 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_131 : BitVec 32 := 1#32
  let v233 : BitVec 32 := Scalar.subi v5 c1_i32_131
  let c2_i32_132 : BitVec 32 := 2#32
  let v234 : BitVec 32 := Scalar.subi v233 c2_i32_132
  let c1024_i32_469 : BitVec 32 := 1024#32
  let v735 : BitVec 32 := Scalar.muli v234 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_477 : BitVec 32 := 0#32
  ![v738.toNat, 0]
def k0_cond62 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v231 : BitVec 1 := Scalar.cmpi .sge v5 c3_i32
  let v239 : BitVec 32 := Scalar.extui v231
  let c0_i32_136 : BitVec 32 := 0#32
  let v240 : BitVec 1 := Scalar.cmpi .ne v239 c0_i32_136
  v240

def k0_off60 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_131 : BitVec 32 := 1#32
  let v233 : BitVec 32 := Scalar.subi v5 c1_i32_131
  let c2_i32_132 : BitVec 32 := 2#32
  let v234 : BitVec 32 := Scalar.subi v233 c2_i32_132
  let c1024_i32_472 : BitVec 32 := 1024#32
  let v739 : BitVec 32 := Scalar.muli v234 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_480 : BitVec 32 := 0#32
  ![v742.toNat, 0]
def k0_dev61 (d0 : Dev nD) : Nat :=
  let c0_i32_477 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_476 : BitVec 32 := 16#32
  let v743 : BitVec 32 := Scalar.muli v9 c16_i32_476
  let v744 : BitVec 32 := Scalar.addi c0_i32_477 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_478 : BitVec 32 := 4#32
  let v745 : BitVec 32 := Scalar.muli v5 c4_i32_478
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v747 : BitVec 32 := Scalar.muli v8 c1_i32_479
  let v748 : BitVec 32 := Scalar.addi v746 v747
  v748.toNat
def k0_dev62 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v763 : BitVec 32 := Scalar.muli v2 c16_i32_490
  let v764 : BitVec 32 := Scalar.addi c0_i32_491 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v765 : BitVec 32 := Scalar.muli v5 c4_i32_492
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_493 : BitVec 32 := 1#32
  let v767 : BitVec 32 := Scalar.muli v22 c1_i32_493
  let v768 : BitVec 32 := Scalar.addi v766 v767
  v768.toNat
def k0_cond63 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_130 : BitVec 32 := 0#32
  let v232 : BitVec 1 := Scalar.cmpi .sle v5 c0_i32_130
  let v241 : BitVec 32 := Scalar.extui v232
  let c0_i32_137 : BitVec 32 := 0#32
  let v242 : BitVec 1 := Scalar.cmpi .ne v241 c0_i32_137
  v242

def k0_off61 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_133 : BitVec 32 := 1#32
  let v235 : BitVec 32 := Scalar.addi v5 c1_i32_133
  let c2_i32_134 : BitVec 32 := 2#32
  let v236 : BitVec 32 := Scalar.addi v235 c2_i32_134
  let c1024_i32_469 : BitVec 32 := 1024#32
  let v735 : BitVec 32 := Scalar.muli v236 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_477 : BitVec 32 := 0#32
  ![v738.toNat, 0]
def k0_cond64 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_130 : BitVec 32 := 0#32
  let v232 : BitVec 1 := Scalar.cmpi .sle v5 c0_i32_130
  let v243 : BitVec 32 := Scalar.extui v232
  let c0_i32_138 : BitVec 32 := 0#32
  let v244 : BitVec 1 := Scalar.cmpi .ne v243 c0_i32_138
  v244

def k0_off62 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_133 : BitVec 32 := 1#32
  let v235 : BitVec 32 := Scalar.addi v5 c1_i32_133
  let c2_i32_134 : BitVec 32 := 2#32
  let v236 : BitVec 32 := Scalar.addi v235 c2_i32_134
  let c1024_i32_472 : BitVec 32 := 1024#32
  let v739 : BitVec 32 := Scalar.muli v236 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_480 : BitVec 32 := 0#32
  ![v742.toNat, 0]
def k0_dev63 (d0 : Dev nD) : Nat :=
  let c0_i32_477 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_476 : BitVec 32 := 16#32
  let v743 : BitVec 32 := Scalar.muli v9 c16_i32_476
  let v744 : BitVec 32 := Scalar.addi c0_i32_477 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_478 : BitVec 32 := 4#32
  let v745 : BitVec 32 := Scalar.muli v5 c4_i32_478
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v747 : BitVec 32 := Scalar.muli v8 c1_i32_479
  let v748 : BitVec 32 := Scalar.addi v746 v747
  v748.toNat
def k0_dev64 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v763 : BitVec 32 := Scalar.muli v2 c16_i32_490
  let v764 : BitVec 32 := Scalar.addi c0_i32_491 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v765 : BitVec 32 := Scalar.muli v5 c4_i32_492
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_493 : BitVec 32 := 1#32
  let v767 : BitVec 32 := Scalar.muli v22 c1_i32_493
  let v768 : BitVec 32 := Scalar.addi v766 v767
  v768.toNat
def k0_cond65 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v231 : BitVec 1 := Scalar.cmpi .sge v5 c3_i32
  let v249 : BitVec 32 := Scalar.extui v231
  let c0_i32_143 : BitVec 32 := 0#32
  let v250 : BitVec 1 := Scalar.cmpi .ne v249 c0_i32_143
  v250

def k0_off63 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_139 : BitVec 32 := 1#32
  let v245 : BitVec 32 := Scalar.subi v5 c1_i32_139
  let c2_i32_140 : BitVec 32 := 2#32
  let v246 : BitVec 32 := Scalar.subi v245 c2_i32_140
  let c1024_i32_469 : BitVec 32 := 1024#32
  let v735 : BitVec 32 := Scalar.muli v246 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_cond66 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v231 : BitVec 1 := Scalar.cmpi .sge v5 c3_i32
  let v251 : BitVec 32 := Scalar.extui v231
  let c0_i32_144 : BitVec 32 := 0#32
  let v252 : BitVec 1 := Scalar.cmpi .ne v251 c0_i32_144
  v252

def k0_off64 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_139 : BitVec 32 := 1#32
  let v245 : BitVec 32 := Scalar.subi v5 c1_i32_139
  let c2_i32_140 : BitVec 32 := 2#32
  let v246 : BitVec 32 := Scalar.subi v245 c2_i32_140
  let c1024_i32_471 : BitVec 32 := 1024#32
  let v739 : BitVec 32 := Scalar.muli v246 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_dev65 (d0 : Dev nD) : Nat :=
  let c0_i32_476 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_475 : BitVec 32 := 16#32
  let v743 : BitVec 32 := Scalar.muli v9 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_477 : BitVec 32 := 4#32
  let v745 : BitVec 32 := Scalar.muli v5 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_dev66 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v763 : BitVec 32 := Scalar.muli v2 c16_i32_489
  let v764 : BitVec 32 := Scalar.addi c0_i32_490 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v765 : BitVec 32 := Scalar.muli v5 c4_i32_491
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v767 : BitVec 32 := Scalar.muli v22 c1_i32_492
  let v768 : BitVec 32 := Scalar.addi v766 v767
  v768.toNat
def k0_cond67 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_130 : BitVec 32 := 0#32
  let v232 : BitVec 1 := Scalar.cmpi .sle v5 c0_i32_130
  let v253 : BitVec 32 := Scalar.extui v232
  let c0_i32_145 : BitVec 32 := 0#32
  let v254 : BitVec 1 := Scalar.cmpi .ne v253 c0_i32_145
  v254

def k0_off65 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_141 : BitVec 32 := 1#32
  let v247 : BitVec 32 := Scalar.addi v5 c1_i32_141
  let c2_i32_142 : BitVec 32 := 2#32
  let v248 : BitVec 32 := Scalar.addi v247 c2_i32_142
  let c1024_i32_469 : BitVec 32 := 1024#32
  let v735 : BitVec 32 := Scalar.muli v248 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_cond68 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_130 : BitVec 32 := 0#32
  let v232 : BitVec 1 := Scalar.cmpi .sle v5 c0_i32_130
  let v255 : BitVec 32 := Scalar.extui v232
  let c0_i32_146 : BitVec 32 := 0#32
  let v256 : BitVec 1 := Scalar.cmpi .ne v255 c0_i32_146
  v256

def k0_off66 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_141 : BitVec 32 := 1#32
  let v247 : BitVec 32 := Scalar.addi v5 c1_i32_141
  let c2_i32_142 : BitVec 32 := 2#32
  let v248 : BitVec 32 := Scalar.addi v247 c2_i32_142
  let c1024_i32_471 : BitVec 32 := 1024#32
  let v739 : BitVec 32 := Scalar.muli v248 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_dev67 (d0 : Dev nD) : Nat :=
  let c0_i32_476 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_475 : BitVec 32 := 16#32
  let v743 : BitVec 32 := Scalar.muli v9 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_477 : BitVec 32 := 4#32
  let v745 : BitVec 32 := Scalar.muli v5 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_dev68 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v763 : BitVec 32 := Scalar.muli v2 c16_i32_489
  let v764 : BitVec 32 := Scalar.addi c0_i32_490 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v765 : BitVec 32 := Scalar.muli v5 c4_i32_491
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v767 : BitVec 32 := Scalar.muli v22 c1_i32_492
  let v768 : BitVec 32 := Scalar.addi v766 v767
  v768.toNat
def k0_cond69 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v231 : BitVec 1 := Scalar.cmpi .sge v5 c3_i32
  let v261 : BitVec 32 := Scalar.extui v231
  let c0_i32_151 : BitVec 32 := 0#32
  let v262 : BitVec 1 := Scalar.cmpi .ne v261 c0_i32_151
  v262

def k0_off67 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_147 : BitVec 32 := 1#32
  let v257 : BitVec 32 := Scalar.subi v5 c1_i32_147
  let c2_i32_148 : BitVec 32 := 2#32
  let v258 : BitVec 32 := Scalar.subi v257 c2_i32_148
  let c1024_i32_469 : BitVec 32 := 1024#32
  let v735 : BitVec 32 := Scalar.muli v258 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_cond70 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v231 : BitVec 1 := Scalar.cmpi .sge v5 c3_i32
  let v263 : BitVec 32 := Scalar.extui v231
  let c0_i32_152 : BitVec 32 := 0#32
  let v264 : BitVec 1 := Scalar.cmpi .ne v263 c0_i32_152
  v264

def k0_off68 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_147 : BitVec 32 := 1#32
  let v257 : BitVec 32 := Scalar.subi v5 c1_i32_147
  let c2_i32_148 : BitVec 32 := 2#32
  let v258 : BitVec 32 := Scalar.subi v257 c2_i32_148
  let c1024_i32_471 : BitVec 32 := 1024#32
  let v739 : BitVec 32 := Scalar.muli v258 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_dev69 (d0 : Dev nD) : Nat :=
  let c0_i32_476 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_475 : BitVec 32 := 16#32
  let v743 : BitVec 32 := Scalar.muli v9 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_477 : BitVec 32 := 4#32
  let v745 : BitVec 32 := Scalar.muli v5 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_dev70 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v763 : BitVec 32 := Scalar.muli v2 c16_i32_489
  let v764 : BitVec 32 := Scalar.addi c0_i32_490 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v765 : BitVec 32 := Scalar.muli v5 c4_i32_491
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v767 : BitVec 32 := Scalar.muli v22 c1_i32_492
  let v768 : BitVec 32 := Scalar.addi v766 v767
  v768.toNat
def k0_cond71 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_130 : BitVec 32 := 0#32
  let v232 : BitVec 1 := Scalar.cmpi .sle v5 c0_i32_130
  let v265 : BitVec 32 := Scalar.extui v232
  let c0_i32_153 : BitVec 32 := 0#32
  let v266 : BitVec 1 := Scalar.cmpi .ne v265 c0_i32_153
  v266

def k0_off69 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_149 : BitVec 32 := 1#32
  let v259 : BitVec 32 := Scalar.addi v5 c1_i32_149
  let c2_i32_150 : BitVec 32 := 2#32
  let v260 : BitVec 32 := Scalar.addi v259 c2_i32_150
  let c1024_i32_469 : BitVec 32 := 1024#32
  let v735 : BitVec 32 := Scalar.muli v260 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_cond72 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_130 : BitVec 32 := 0#32
  let v232 : BitVec 1 := Scalar.cmpi .sle v5 c0_i32_130
  let v267 : BitVec 32 := Scalar.extui v232
  let c0_i32_154 : BitVec 32 := 0#32
  let v268 : BitVec 1 := Scalar.cmpi .ne v267 c0_i32_154
  v268

def k0_off70 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_149 : BitVec 32 := 1#32
  let v259 : BitVec 32 := Scalar.addi v5 c1_i32_149
  let c2_i32_150 : BitVec 32 := 2#32
  let v260 : BitVec 32 := Scalar.addi v259 c2_i32_150
  let c1024_i32_471 : BitVec 32 := 1024#32
  let v739 : BitVec 32 := Scalar.muli v260 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_dev71 (d0 : Dev nD) : Nat :=
  let c0_i32_476 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_475 : BitVec 32 := 16#32
  let v743 : BitVec 32 := Scalar.muli v9 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_477 : BitVec 32 := 4#32
  let v745 : BitVec 32 := Scalar.muli v5 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_dev72 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v763 : BitVec 32 := Scalar.muli v2 c16_i32_489
  let v764 : BitVec 32 := Scalar.addi c0_i32_490 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v765 : BitVec 32 := Scalar.muli v5 c4_i32_491
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v767 : BitVec 32 := Scalar.muli v22 c1_i32_492
  let v768 : BitVec 32 := Scalar.addi v766 v767
  v768.toNat
def k0_cond73 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v231 : BitVec 1 := Scalar.cmpi .sge v5 c3_i32
  let v273 : BitVec 32 := Scalar.extui v231
  let c0_i32_159 : BitVec 32 := 0#32
  let v274 : BitVec 1 := Scalar.cmpi .ne v273 c0_i32_159
  v274

def k0_off71 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_155 : BitVec 32 := 1#32
  let v269 : BitVec 32 := Scalar.subi v5 c1_i32_155
  let c2_i32_156 : BitVec 32 := 2#32
  let v270 : BitVec 32 := Scalar.subi v269 c2_i32_156
  let c1024_i32_469 : BitVec 32 := 1024#32
  let v735 : BitVec 32 := Scalar.muli v270 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_cond74 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v231 : BitVec 1 := Scalar.cmpi .sge v5 c3_i32
  let v275 : BitVec 32 := Scalar.extui v231
  let c0_i32_160 : BitVec 32 := 0#32
  let v276 : BitVec 1 := Scalar.cmpi .ne v275 c0_i32_160
  v276

def k0_off72 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_155 : BitVec 32 := 1#32
  let v269 : BitVec 32 := Scalar.subi v5 c1_i32_155
  let c2_i32_156 : BitVec 32 := 2#32
  let v270 : BitVec 32 := Scalar.subi v269 c2_i32_156
  let c1024_i32_471 : BitVec 32 := 1024#32
  let v739 : BitVec 32 := Scalar.muli v270 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_dev73 (d0 : Dev nD) : Nat :=
  let c0_i32_476 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_475 : BitVec 32 := 16#32
  let v743 : BitVec 32 := Scalar.muli v9 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_477 : BitVec 32 := 4#32
  let v745 : BitVec 32 := Scalar.muli v5 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_dev74 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v763 : BitVec 32 := Scalar.muli v2 c16_i32_489
  let v764 : BitVec 32 := Scalar.addi c0_i32_490 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v765 : BitVec 32 := Scalar.muli v5 c4_i32_491
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v767 : BitVec 32 := Scalar.muli v22 c1_i32_492
  let v768 : BitVec 32 := Scalar.addi v766 v767
  v768.toNat
def k0_cond75 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_130 : BitVec 32 := 0#32
  let v232 : BitVec 1 := Scalar.cmpi .sle v5 c0_i32_130
  let v277 : BitVec 32 := Scalar.extui v232
  let c0_i32_161 : BitVec 32 := 0#32
  let v278 : BitVec 1 := Scalar.cmpi .ne v277 c0_i32_161
  v278

def k0_off73 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_157 : BitVec 32 := 1#32
  let v271 : BitVec 32 := Scalar.addi v5 c1_i32_157
  let c2_i32_158 : BitVec 32 := 2#32
  let v272 : BitVec 32 := Scalar.addi v271 c2_i32_158
  let c1024_i32_469 : BitVec 32 := 1024#32
  let v735 : BitVec 32 := Scalar.muli v272 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_cond76 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_130 : BitVec 32 := 0#32
  let v232 : BitVec 1 := Scalar.cmpi .sle v5 c0_i32_130
  let v279 : BitVec 32 := Scalar.extui v232
  let c0_i32_162 : BitVec 32 := 0#32
  let v280 : BitVec 1 := Scalar.cmpi .ne v279 c0_i32_162
  v280

def k0_off74 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_157 : BitVec 32 := 1#32
  let v271 : BitVec 32 := Scalar.addi v5 c1_i32_157
  let c2_i32_158 : BitVec 32 := 2#32
  let v272 : BitVec 32 := Scalar.addi v271 c2_i32_158
  let c1024_i32_471 : BitVec 32 := 1024#32
  let v739 : BitVec 32 := Scalar.muli v272 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_dev75 (d0 : Dev nD) : Nat :=
  let c0_i32_476 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_475 : BitVec 32 := 16#32
  let v743 : BitVec 32 := Scalar.muli v9 c16_i32_475
  let v744 : BitVec 32 := Scalar.addi c0_i32_476 v743
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_477 : BitVec 32 := 4#32
  let v745 : BitVec 32 := Scalar.muli v5 c4_i32_477
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v747 : BitVec 32 := Scalar.muli v8 c1_i32_478
  let v748 : BitVec 32 := Scalar.addi v746 v747
  v748.toNat
def k0_dev76 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v763 : BitVec 32 := Scalar.muli v2 c16_i32_489
  let v764 : BitVec 32 := Scalar.addi c0_i32_490 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v765 : BitVec 32 := Scalar.muli v5 c4_i32_491
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v767 : BitVec 32 := Scalar.muli v22 c1_i32_492
  let v768 : BitVec 32 := Scalar.addi v766 v767
  v768.toNat
def k0_cond77 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_163 : BitVec 32 := 1#32
  let v281 : BitVec 1 := Scalar.cmpi .sge v5 c1_i32_163
  let v287 : BitVec 32 := Scalar.extui v281
  let c0_i32_169 : BitVec 32 := 0#32
  let v288 : BitVec 1 := Scalar.cmpi .ne v287 c0_i32_169
  v288

def k0_off75 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_165 : BitVec 32 := 1#32
  let v283 : BitVec 32 := Scalar.subi v5 c1_i32_165
  let c0_i32_166 : BitVec 32 := 0#32
  let v284 : BitVec 32 := Scalar.subi v283 c0_i32_166
  let c1024_i32_472 : BitVec 32 := 1024#32
  let v739 : BitVec 32 := Scalar.muli v284 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_off76 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_165 : BitVec 32 := 1#32
  let v283 : BitVec 32 := Scalar.subi v5 c1_i32_165
  let c0_i32_166 : BitVec 32 := 0#32
  let v284 : BitVec 32 := Scalar.subi v283 c0_i32_166
  let c1024_i32_486 : BitVec 32 := 1024#32
  let v757 : BitVec 32 := Scalar.muli v284 c1024_i32_486
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_487 : BitVec 32 := 256#32
  let v758 : BitVec 32 := Scalar.muli v26 c256_i32_487
  let v759 : BitVec 32 := Scalar.addi v757 v758
  let c0_i32_488 : BitVec 32 := 0#32
  let v760 : BitVec 32 := Scalar.addi v759 c0_i32_488
  let c0_i32_495 : BitVec 32 := 0#32
  ![v760.toNat, 0]
def k0_dev77 (d0 : Dev nD) : Nat :=
  let c0_i32_492 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_491 : BitVec 32 := 16#32
  let v761 : BitVec 32 := Scalar.muli v2 c16_i32_491
  let v762 : BitVec 32 := Scalar.addi c0_i32_492 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_493 : BitVec 32 := 4#32
  let v763 : BitVec 32 := Scalar.muli v5 c4_i32_493
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_494 : BitVec 32 := 1#32
  let v765 : BitVec 32 := Scalar.muli v22 c1_i32_494
  let v766 : BitVec 32 := Scalar.addi v764 v765
  v766.toNat
def k0_cond78 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_164 : BitVec 32 := 2#32
  let v282 : BitVec 1 := Scalar.cmpi .sle v5 c2_i32_164
  let v289 : BitVec 32 := Scalar.extui v282
  let c0_i32_170 : BitVec 32 := 0#32
  let v290 : BitVec 1 := Scalar.cmpi .ne v289 c0_i32_170
  v290

def k0_off77 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_167 : BitVec 32 := 1#32
  let v285 : BitVec 32 := Scalar.addi v5 c1_i32_167
  let c0_i32_168 : BitVec 32 := 0#32
  let v286 : BitVec 32 := Scalar.addi v285 c0_i32_168
  let c1024_i32_472 : BitVec 32 := 1024#32
  let v739 : BitVec 32 := Scalar.muli v286 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_off78 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_167 : BitVec 32 := 1#32
  let v285 : BitVec 32 := Scalar.addi v5 c1_i32_167
  let c0_i32_168 : BitVec 32 := 0#32
  let v286 : BitVec 32 := Scalar.addi v285 c0_i32_168
  let c1024_i32_486 : BitVec 32 := 1024#32
  let v757 : BitVec 32 := Scalar.muli v286 c1024_i32_486
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_487 : BitVec 32 := 256#32
  let v758 : BitVec 32 := Scalar.muli v26 c256_i32_487
  let v759 : BitVec 32 := Scalar.addi v757 v758
  let c0_i32_488 : BitVec 32 := 0#32
  let v760 : BitVec 32 := Scalar.addi v759 c0_i32_488
  let c0_i32_495 : BitVec 32 := 0#32
  ![v760.toNat, 0]
def k0_dev78 (d0 : Dev nD) : Nat :=
  let c0_i32_492 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_491 : BitVec 32 := 16#32
  let v761 : BitVec 32 := Scalar.muli v2 c16_i32_491
  let v762 : BitVec 32 := Scalar.addi c0_i32_492 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_493 : BitVec 32 := 4#32
  let v763 : BitVec 32 := Scalar.muli v5 c4_i32_493
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_494 : BitVec 32 := 1#32
  let v765 : BitVec 32 := Scalar.muli v22 c1_i32_494
  let v766 : BitVec 32 := Scalar.addi v764 v765
  v766.toNat
def k0_cond79 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_163 : BitVec 32 := 1#32
  let v281 : BitVec 1 := Scalar.cmpi .sge v5 c1_i32_163
  let v291 : BitVec 32 := Scalar.extui v281
  let c0_i32_171 : BitVec 32 := 0#32
  let v292 : BitVec 1 := Scalar.cmpi .ne v291 c0_i32_171
  v292

def k0_off79 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_165 : BitVec 32 := 1#32
  let v283 : BitVec 32 := Scalar.subi v5 c1_i32_165
  let c0_i32_166 : BitVec 32 := 0#32
  let v284 : BitVec 32 := Scalar.subi v283 c0_i32_166
  let c1024_i32_472 : BitVec 32 := 1024#32
  let v739 : BitVec 32 := Scalar.muli v284 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_cond80 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_164 : BitVec 32 := 2#32
  let v282 : BitVec 1 := Scalar.cmpi .sle v5 c2_i32_164
  let v293 : BitVec 32 := Scalar.extui v282
  let c0_i32_172 : BitVec 32 := 0#32
  let v294 : BitVec 1 := Scalar.cmpi .ne v293 c0_i32_172
  v294

def k0_off80 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_167 : BitVec 32 := 1#32
  let v285 : BitVec 32 := Scalar.addi v5 c1_i32_167
  let c0_i32_168 : BitVec 32 := 0#32
  let v286 : BitVec 32 := Scalar.addi v285 c0_i32_168
  let c1024_i32_472 : BitVec 32 := 1024#32
  let v739 : BitVec 32 := Scalar.muli v286 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_cond81 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_163 : BitVec 32 := 1#32
  let v281 : BitVec 1 := Scalar.cmpi .sge v5 c1_i32_163
  let v299 : BitVec 32 := Scalar.extui v281
  let c0_i32_177 : BitVec 32 := 0#32
  let v300 : BitVec 1 := Scalar.cmpi .ne v299 c0_i32_177
  v300

def k0_off81 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_173 : BitVec 32 := 1#32
  let v295 : BitVec 32 := Scalar.subi v5 c1_i32_173
  let c0_i32_174 : BitVec 32 := 0#32
  let v296 : BitVec 32 := Scalar.subi v295 c0_i32_174
  let c1024_i32_471 : BitVec 32 := 1024#32
  let v739 : BitVec 32 := Scalar.muli v296 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_480 : BitVec 32 := 0#32
  ![v742.toNat, 0]
def k0_cond82 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_164 : BitVec 32 := 2#32
  let v282 : BitVec 1 := Scalar.cmpi .sle v5 c2_i32_164
  let v301 : BitVec 32 := Scalar.extui v282
  let c0_i32_178 : BitVec 32 := 0#32
  let v302 : BitVec 1 := Scalar.cmpi .ne v301 c0_i32_178
  v302

def k0_off82 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_175 : BitVec 32 := 1#32
  let v297 : BitVec 32 := Scalar.addi v5 c1_i32_175
  let c0_i32_176 : BitVec 32 := 0#32
  let v298 : BitVec 32 := Scalar.addi v297 c0_i32_176
  let c1024_i32_471 : BitVec 32 := 1024#32
  let v739 : BitVec 32 := Scalar.muli v298 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_480 : BitVec 32 := 0#32
  ![v742.toNat, 0]
def k0_cond83 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_163 : BitVec 32 := 1#32
  let v281 : BitVec 1 := Scalar.cmpi .sge v5 c1_i32_163
  let v303 : BitVec 32 := Scalar.extui v281
  let c0_i32_179 : BitVec 32 := 0#32
  let v304 : BitVec 1 := Scalar.cmpi .ne v303 c0_i32_179
  v304

def k0_off83 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_173 : BitVec 32 := 1#32
  let v295 : BitVec 32 := Scalar.subi v5 c1_i32_173
  let c0_i32_174 : BitVec 32 := 0#32
  let v296 : BitVec 32 := Scalar.subi v295 c0_i32_174
  let c1024_i32_471 : BitVec 32 := 1024#32
  let v739 : BitVec 32 := Scalar.muli v296 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_480 : BitVec 32 := 0#32
  ![v742.toNat, 0]
def k0_off84 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_173 : BitVec 32 := 1#32
  let v295 : BitVec 32 := Scalar.subi v5 c1_i32_173
  let c0_i32_174 : BitVec 32 := 0#32
  let v296 : BitVec 32 := Scalar.subi v295 c0_i32_174
  let c1024_i32_485 : BitVec 32 := 1024#32
  let v757 : BitVec 32 := Scalar.muli v296 c1024_i32_485
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_486 : BitVec 32 := 256#32
  let v758 : BitVec 32 := Scalar.muli v29 c256_i32_486
  let v759 : BitVec 32 := Scalar.addi v757 v758
  let c64_i32_487 : BitVec 32 := 64#32
  let v760 : BitVec 32 := Scalar.addi v759 c64_i32_487
  let c0_i32_494 : BitVec 32 := 0#32
  ![v760.toNat, 0]
def k0_dev79 (d0 : Dev nD) : Nat :=
  let c0_i32_491 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_490 : BitVec 32 := 16#32
  let v761 : BitVec 32 := Scalar.muli v9 c16_i32_490
  let v762 : BitVec 32 := Scalar.addi c0_i32_491 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v763 : BitVec 32 := Scalar.muli v5 c4_i32_492
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_493 : BitVec 32 := 1#32
  let v765 : BitVec 32 := Scalar.muli v8 c1_i32_493
  let v766 : BitVec 32 := Scalar.addi v764 v765
  v766.toNat
def k0_cond84 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_164 : BitVec 32 := 2#32
  let v282 : BitVec 1 := Scalar.cmpi .sle v5 c2_i32_164
  let v305 : BitVec 32 := Scalar.extui v282
  let c0_i32_180 : BitVec 32 := 0#32
  let v306 : BitVec 1 := Scalar.cmpi .ne v305 c0_i32_180
  v306

def k0_off85 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_175 : BitVec 32 := 1#32
  let v297 : BitVec 32 := Scalar.addi v5 c1_i32_175
  let c0_i32_176 : BitVec 32 := 0#32
  let v298 : BitVec 32 := Scalar.addi v297 c0_i32_176
  let c1024_i32_471 : BitVec 32 := 1024#32
  let v739 : BitVec 32 := Scalar.muli v298 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_480 : BitVec 32 := 0#32
  ![v742.toNat, 0]
def k0_off86 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_175 : BitVec 32 := 1#32
  let v297 : BitVec 32 := Scalar.addi v5 c1_i32_175
  let c0_i32_176 : BitVec 32 := 0#32
  let v298 : BitVec 32 := Scalar.addi v297 c0_i32_176
  let c1024_i32_485 : BitVec 32 := 1024#32
  let v757 : BitVec 32 := Scalar.muli v298 c1024_i32_485
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_486 : BitVec 32 := 256#32
  let v758 : BitVec 32 := Scalar.muli v29 c256_i32_486
  let v759 : BitVec 32 := Scalar.addi v757 v758
  let c64_i32_487 : BitVec 32 := 64#32
  let v760 : BitVec 32 := Scalar.addi v759 c64_i32_487
  let c0_i32_494 : BitVec 32 := 0#32
  ![v760.toNat, 0]
def k0_dev80 (d0 : Dev nD) : Nat :=
  let c0_i32_491 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_490 : BitVec 32 := 16#32
  let v761 : BitVec 32 := Scalar.muli v9 c16_i32_490
  let v762 : BitVec 32 := Scalar.addi c0_i32_491 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v763 : BitVec 32 := Scalar.muli v5 c4_i32_492
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_493 : BitVec 32 := 1#32
  let v765 : BitVec 32 := Scalar.muli v8 c1_i32_493
  let v766 : BitVec 32 := Scalar.addi v764 v765
  v766.toNat
def k0_cond85 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_163 : BitVec 32 := 1#32
  let v281 : BitVec 1 := Scalar.cmpi .sge v5 c1_i32_163
  let v311 : BitVec 32 := Scalar.extui v281
  let c0_i32_185 : BitVec 32 := 0#32
  let v312 : BitVec 1 := Scalar.cmpi .ne v311 c0_i32_185
  v312

def k0_off87 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_181 : BitVec 32 := 1#32
  let v307 : BitVec 32 := Scalar.subi v5 c1_i32_181
  let c0_i32_182 : BitVec 32 := 0#32
  let v308 : BitVec 32 := Scalar.subi v307 c0_i32_182
  let c1024_i32_471 : BitVec 32 := 1024#32
  let v739 : BitVec 32 := Scalar.muli v308 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_480 : BitVec 32 := 0#32
  ![v742.toNat, 0]
def k0_off88 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_181 : BitVec 32 := 1#32
  let v307 : BitVec 32 := Scalar.subi v5 c1_i32_181
  let c0_i32_182 : BitVec 32 := 0#32
  let v308 : BitVec 32 := Scalar.subi v307 c0_i32_182
  let c1024_i32_485 : BitVec 32 := 1024#32
  let v757 : BitVec 32 := Scalar.muli v308 c1024_i32_485
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_486 : BitVec 32 := 256#32
  let v758 : BitVec 32 := Scalar.muli v26 c256_i32_486
  let v759 : BitVec 32 := Scalar.addi v757 v758
  let c128_i32_487 : BitVec 32 := 128#32
  let v760 : BitVec 32 := Scalar.addi v759 c128_i32_487
  let c0_i32_494 : BitVec 32 := 0#32
  ![v760.toNat, 0]
def k0_dev81 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v761 : BitVec 32 := Scalar.muli v2 c16_i32_490
  let v762 : BitVec 32 := Scalar.addi c0_i32_491 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v763 : BitVec 32 := Scalar.muli v5 c4_i32_492
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_493 : BitVec 32 := 1#32
  let v765 : BitVec 32 := Scalar.muli v22 c1_i32_493
  let v766 : BitVec 32 := Scalar.addi v764 v765
  v766.toNat
def k0_cond86 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_164 : BitVec 32 := 2#32
  let v282 : BitVec 1 := Scalar.cmpi .sle v5 c2_i32_164
  let v313 : BitVec 32 := Scalar.extui v282
  let c0_i32_186 : BitVec 32 := 0#32
  let v314 : BitVec 1 := Scalar.cmpi .ne v313 c0_i32_186
  v314

def k0_off89 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_183 : BitVec 32 := 1#32
  let v309 : BitVec 32 := Scalar.addi v5 c1_i32_183
  let c0_i32_184 : BitVec 32 := 0#32
  let v310 : BitVec 32 := Scalar.addi v309 c0_i32_184
  let c1024_i32_471 : BitVec 32 := 1024#32
  let v739 : BitVec 32 := Scalar.muli v310 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_480 : BitVec 32 := 0#32
  ![v742.toNat, 0]
def k0_off90 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_183 : BitVec 32 := 1#32
  let v309 : BitVec 32 := Scalar.addi v5 c1_i32_183
  let c0_i32_184 : BitVec 32 := 0#32
  let v310 : BitVec 32 := Scalar.addi v309 c0_i32_184
  let c1024_i32_485 : BitVec 32 := 1024#32
  let v757 : BitVec 32 := Scalar.muli v310 c1024_i32_485
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_486 : BitVec 32 := 256#32
  let v758 : BitVec 32 := Scalar.muli v26 c256_i32_486
  let v759 : BitVec 32 := Scalar.addi v757 v758
  let c128_i32_487 : BitVec 32 := 128#32
  let v760 : BitVec 32 := Scalar.addi v759 c128_i32_487
  let c0_i32_494 : BitVec 32 := 0#32
  ![v760.toNat, 0]
def k0_dev82 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v761 : BitVec 32 := Scalar.muli v2 c16_i32_490
  let v762 : BitVec 32 := Scalar.addi c0_i32_491 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v763 : BitVec 32 := Scalar.muli v5 c4_i32_492
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_493 : BitVec 32 := 1#32
  let v765 : BitVec 32 := Scalar.muli v22 c1_i32_493
  let v766 : BitVec 32 := Scalar.addi v764 v765
  v766.toNat
def k0_cond87 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_163 : BitVec 32 := 1#32
  let v281 : BitVec 1 := Scalar.cmpi .sge v5 c1_i32_163
  let v315 : BitVec 32 := Scalar.extui v281
  let c0_i32_187 : BitVec 32 := 0#32
  let v316 : BitVec 1 := Scalar.cmpi .ne v315 c0_i32_187
  v316

def k0_off91 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_181 : BitVec 32 := 1#32
  let v307 : BitVec 32 := Scalar.subi v5 c1_i32_181
  let c0_i32_182 : BitVec 32 := 0#32
  let v308 : BitVec 32 := Scalar.subi v307 c0_i32_182
  let c1024_i32_471 : BitVec 32 := 1024#32
  let v739 : BitVec 32 := Scalar.muli v308 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_480 : BitVec 32 := 0#32
  ![v742.toNat, 0]
def k0_cond88 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_164 : BitVec 32 := 2#32
  let v282 : BitVec 1 := Scalar.cmpi .sle v5 c2_i32_164
  let v317 : BitVec 32 := Scalar.extui v282
  let c0_i32_188 : BitVec 32 := 0#32
  let v318 : BitVec 1 := Scalar.cmpi .ne v317 c0_i32_188
  v318

def k0_off92 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_183 : BitVec 32 := 1#32
  let v309 : BitVec 32 := Scalar.addi v5 c1_i32_183
  let c0_i32_184 : BitVec 32 := 0#32
  let v310 : BitVec 32 := Scalar.addi v309 c0_i32_184
  let c1024_i32_471 : BitVec 32 := 1024#32
  let v739 : BitVec 32 := Scalar.muli v310 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_480 : BitVec 32 := 0#32
  ![v742.toNat, 0]
def k0_cond89 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_163 : BitVec 32 := 1#32
  let v281 : BitVec 1 := Scalar.cmpi .sge v5 c1_i32_163
  let v323 : BitVec 32 := Scalar.extui v281
  let c0_i32_193 : BitVec 32 := 0#32
  let v324 : BitVec 1 := Scalar.cmpi .ne v323 c0_i32_193
  v324

def k0_off93 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_189 : BitVec 32 := 1#32
  let v319 : BitVec 32 := Scalar.subi v5 c1_i32_189
  let c0_i32_190 : BitVec 32 := 0#32
  let v320 : BitVec 32 := Scalar.subi v319 c0_i32_190
  let c1024_i32_471 : BitVec 32 := 1024#32
  let v739 : BitVec 32 := Scalar.muli v320 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_480 : BitVec 32 := 0#32
  ![v742.toNat, 0]
def k0_cond90 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_164 : BitVec 32 := 2#32
  let v282 : BitVec 1 := Scalar.cmpi .sle v5 c2_i32_164
  let v325 : BitVec 32 := Scalar.extui v282
  let c0_i32_194 : BitVec 32 := 0#32
  let v326 : BitVec 1 := Scalar.cmpi .ne v325 c0_i32_194
  v326

def k0_off94 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_191 : BitVec 32 := 1#32
  let v321 : BitVec 32 := Scalar.addi v5 c1_i32_191
  let c0_i32_192 : BitVec 32 := 0#32
  let v322 : BitVec 32 := Scalar.addi v321 c0_i32_192
  let c1024_i32_471 : BitVec 32 := 1024#32
  let v739 : BitVec 32 := Scalar.muli v322 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_480 : BitVec 32 := 0#32
  ![v742.toNat, 0]
def k0_cond91 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_163 : BitVec 32 := 1#32
  let v281 : BitVec 1 := Scalar.cmpi .sge v5 c1_i32_163
  let v327 : BitVec 32 := Scalar.extui v281
  let c0_i32_195 : BitVec 32 := 0#32
  let v328 : BitVec 1 := Scalar.cmpi .ne v327 c0_i32_195
  v328

def k0_off95 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_189 : BitVec 32 := 1#32
  let v319 : BitVec 32 := Scalar.subi v5 c1_i32_189
  let c0_i32_190 : BitVec 32 := 0#32
  let v320 : BitVec 32 := Scalar.subi v319 c0_i32_190
  let c1024_i32_471 : BitVec 32 := 1024#32
  let v739 : BitVec 32 := Scalar.muli v320 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_480 : BitVec 32 := 0#32
  ![v742.toNat, 0]
def k0_off96 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_189 : BitVec 32 := 1#32
  let v319 : BitVec 32 := Scalar.subi v5 c1_i32_189
  let c0_i32_190 : BitVec 32 := 0#32
  let v320 : BitVec 32 := Scalar.subi v319 c0_i32_190
  let c1024_i32_485 : BitVec 32 := 1024#32
  let v757 : BitVec 32 := Scalar.muli v320 c1024_i32_485
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_486 : BitVec 32 := 256#32
  let v758 : BitVec 32 := Scalar.muli v29 c256_i32_486
  let v759 : BitVec 32 := Scalar.addi v757 v758
  let c192_i32_487 : BitVec 32 := 192#32
  let v760 : BitVec 32 := Scalar.addi v759 c192_i32_487
  let c0_i32_494 : BitVec 32 := 0#32
  ![v760.toNat, 0]
def k0_dev83 (d0 : Dev nD) : Nat :=
  let c0_i32_491 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_490 : BitVec 32 := 16#32
  let v761 : BitVec 32 := Scalar.muli v9 c16_i32_490
  let v762 : BitVec 32 := Scalar.addi c0_i32_491 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v763 : BitVec 32 := Scalar.muli v5 c4_i32_492
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_493 : BitVec 32 := 1#32
  let v765 : BitVec 32 := Scalar.muli v8 c1_i32_493
  let v766 : BitVec 32 := Scalar.addi v764 v765
  v766.toNat
def k0_cond92 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_164 : BitVec 32 := 2#32
  let v282 : BitVec 1 := Scalar.cmpi .sle v5 c2_i32_164
  let v329 : BitVec 32 := Scalar.extui v282
  let c0_i32_196 : BitVec 32 := 0#32
  let v330 : BitVec 1 := Scalar.cmpi .ne v329 c0_i32_196
  v330

def k0_off97 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_191 : BitVec 32 := 1#32
  let v321 : BitVec 32 := Scalar.addi v5 c1_i32_191
  let c0_i32_192 : BitVec 32 := 0#32
  let v322 : BitVec 32 := Scalar.addi v321 c0_i32_192
  let c1024_i32_471 : BitVec 32 := 1024#32
  let v739 : BitVec 32 := Scalar.muli v322 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_480 : BitVec 32 := 0#32
  ![v742.toNat, 0]
def k0_off98 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_191 : BitVec 32 := 1#32
  let v321 : BitVec 32 := Scalar.addi v5 c1_i32_191
  let c0_i32_192 : BitVec 32 := 0#32
  let v322 : BitVec 32 := Scalar.addi v321 c0_i32_192
  let c1024_i32_485 : BitVec 32 := 1024#32
  let v757 : BitVec 32 := Scalar.muli v322 c1024_i32_485
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_486 : BitVec 32 := 256#32
  let v758 : BitVec 32 := Scalar.muli v29 c256_i32_486
  let v759 : BitVec 32 := Scalar.addi v757 v758
  let c192_i32_487 : BitVec 32 := 192#32
  let v760 : BitVec 32 := Scalar.addi v759 c192_i32_487
  let c0_i32_494 : BitVec 32 := 0#32
  ![v760.toNat, 0]
def k0_dev84 (d0 : Dev nD) : Nat :=
  let c0_i32_491 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_490 : BitVec 32 := 16#32
  let v761 : BitVec 32 := Scalar.muli v9 c16_i32_490
  let v762 : BitVec 32 := Scalar.addi c0_i32_491 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v763 : BitVec 32 := Scalar.muli v5 c4_i32_492
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_493 : BitVec 32 := 1#32
  let v765 : BitVec 32 := Scalar.muli v8 c1_i32_493
  let v766 : BitVec 32 := Scalar.addi v764 v765
  v766.toNat
def k0_cond93 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_197 : BitVec 32 := 2#32
  let v331 : BitVec 1 := Scalar.cmpi .sge v5 c2_i32_197
  let v337 : BitVec 32 := Scalar.extui v331
  let c0_i32_203 : BitVec 32 := 0#32
  let v338 : BitVec 1 := Scalar.cmpi .ne v337 c0_i32_203
  v338

def k0_off99 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_199 : BitVec 32 := 1#32
  let v333 : BitVec 32 := Scalar.subi v5 c1_i32_199
  let c1_i32_200 : BitVec 32 := 1#32
  let v334 : BitVec 32 := Scalar.subi v333 c1_i32_200
  let c1024_i32_472 : BitVec 32 := 1024#32
  let v739 : BitVec 32 := Scalar.muli v334 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_off100 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_199 : BitVec 32 := 1#32
  let v333 : BitVec 32 := Scalar.subi v5 c1_i32_199
  let c1_i32_200 : BitVec 32 := 1#32
  let v334 : BitVec 32 := Scalar.subi v333 c1_i32_200
  let c1024_i32_486 : BitVec 32 := 1024#32
  let v757 : BitVec 32 := Scalar.muli v334 c1024_i32_486
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_487 : BitVec 32 := 256#32
  let v758 : BitVec 32 := Scalar.muli v26 c256_i32_487
  let v759 : BitVec 32 := Scalar.addi v757 v758
  let c0_i32_488 : BitVec 32 := 0#32
  let v760 : BitVec 32 := Scalar.addi v759 c0_i32_488
  let c0_i32_495 : BitVec 32 := 0#32
  ![v760.toNat, 0]
def k0_dev85 (d0 : Dev nD) : Nat :=
  let c0_i32_492 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_491 : BitVec 32 := 16#32
  let v761 : BitVec 32 := Scalar.muli v2 c16_i32_491
  let v762 : BitVec 32 := Scalar.addi c0_i32_492 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_493 : BitVec 32 := 4#32
  let v763 : BitVec 32 := Scalar.muli v5 c4_i32_493
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_494 : BitVec 32 := 1#32
  let v765 : BitVec 32 := Scalar.muli v22 c1_i32_494
  let v766 : BitVec 32 := Scalar.addi v764 v765
  v766.toNat
def k0_cond94 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_198 : BitVec 32 := 1#32
  let v332 : BitVec 1 := Scalar.cmpi .sle v5 c1_i32_198
  let v339 : BitVec 32 := Scalar.extui v332
  let c0_i32_204 : BitVec 32 := 0#32
  let v340 : BitVec 1 := Scalar.cmpi .ne v339 c0_i32_204
  v340

def k0_off101 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_201 : BitVec 32 := 1#32
  let v335 : BitVec 32 := Scalar.addi v5 c1_i32_201
  let c1_i32_202 : BitVec 32 := 1#32
  let v336 : BitVec 32 := Scalar.addi v335 c1_i32_202
  let c1024_i32_472 : BitVec 32 := 1024#32
  let v739 : BitVec 32 := Scalar.muli v336 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_off102 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_201 : BitVec 32 := 1#32
  let v335 : BitVec 32 := Scalar.addi v5 c1_i32_201
  let c1_i32_202 : BitVec 32 := 1#32
  let v336 : BitVec 32 := Scalar.addi v335 c1_i32_202
  let c1024_i32_486 : BitVec 32 := 1024#32
  let v757 : BitVec 32 := Scalar.muli v336 c1024_i32_486
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_487 : BitVec 32 := 256#32
  let v758 : BitVec 32 := Scalar.muli v26 c256_i32_487
  let v759 : BitVec 32 := Scalar.addi v757 v758
  let c0_i32_488 : BitVec 32 := 0#32
  let v760 : BitVec 32 := Scalar.addi v759 c0_i32_488
  let c0_i32_495 : BitVec 32 := 0#32
  ![v760.toNat, 0]
def k0_dev86 (d0 : Dev nD) : Nat :=
  let c0_i32_492 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_491 : BitVec 32 := 16#32
  let v761 : BitVec 32 := Scalar.muli v2 c16_i32_491
  let v762 : BitVec 32 := Scalar.addi c0_i32_492 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_493 : BitVec 32 := 4#32
  let v763 : BitVec 32 := Scalar.muli v5 c4_i32_493
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_494 : BitVec 32 := 1#32
  let v765 : BitVec 32 := Scalar.muli v22 c1_i32_494
  let v766 : BitVec 32 := Scalar.addi v764 v765
  v766.toNat
def k0_cond95 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_197 : BitVec 32 := 2#32
  let v331 : BitVec 1 := Scalar.cmpi .sge v5 c2_i32_197
  let v341 : BitVec 32 := Scalar.extui v331
  let c0_i32_205 : BitVec 32 := 0#32
  let v342 : BitVec 1 := Scalar.cmpi .ne v341 c0_i32_205
  v342

def k0_off103 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_199 : BitVec 32 := 1#32
  let v333 : BitVec 32 := Scalar.subi v5 c1_i32_199
  let c1_i32_200 : BitVec 32 := 1#32
  let v334 : BitVec 32 := Scalar.subi v333 c1_i32_200
  let c1024_i32_472 : BitVec 32 := 1024#32
  let v739 : BitVec 32 := Scalar.muli v334 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_cond96 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_198 : BitVec 32 := 1#32
  let v332 : BitVec 1 := Scalar.cmpi .sle v5 c1_i32_198
  let v343 : BitVec 32 := Scalar.extui v332
  let c0_i32_206 : BitVec 32 := 0#32
  let v344 : BitVec 1 := Scalar.cmpi .ne v343 c0_i32_206
  v344

def k0_off104 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_201 : BitVec 32 := 1#32
  let v335 : BitVec 32 := Scalar.addi v5 c1_i32_201
  let c1_i32_202 : BitVec 32 := 1#32
  let v336 : BitVec 32 := Scalar.addi v335 c1_i32_202
  let c1024_i32_472 : BitVec 32 := 1024#32
  let v739 : BitVec 32 := Scalar.muli v336 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_cond97 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_197 : BitVec 32 := 2#32
  let v331 : BitVec 1 := Scalar.cmpi .sge v5 c2_i32_197
  let v349 : BitVec 32 := Scalar.extui v331
  let c0_i32_211 : BitVec 32 := 0#32
  let v350 : BitVec 1 := Scalar.cmpi .ne v349 c0_i32_211
  v350

def k0_off105 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_207 : BitVec 32 := 1#32
  let v345 : BitVec 32 := Scalar.subi v5 c1_i32_207
  let c1_i32_208 : BitVec 32 := 1#32
  let v346 : BitVec 32 := Scalar.subi v345 c1_i32_208
  let c1024_i32_471 : BitVec 32 := 1024#32
  let v739 : BitVec 32 := Scalar.muli v346 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_cond98 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_198 : BitVec 32 := 1#32
  let v332 : BitVec 1 := Scalar.cmpi .sle v5 c1_i32_198
  let v351 : BitVec 32 := Scalar.extui v332
  let c0_i32_212 : BitVec 32 := 0#32
  let v352 : BitVec 1 := Scalar.cmpi .ne v351 c0_i32_212
  v352

def k0_off106 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_209 : BitVec 32 := 1#32
  let v347 : BitVec 32 := Scalar.addi v5 c1_i32_209
  let c1_i32_210 : BitVec 32 := 1#32
  let v348 : BitVec 32 := Scalar.addi v347 c1_i32_210
  let c1024_i32_471 : BitVec 32 := 1024#32
  let v739 : BitVec 32 := Scalar.muli v348 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_cond99 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_197 : BitVec 32 := 2#32
  let v331 : BitVec 1 := Scalar.cmpi .sge v5 c2_i32_197
  let v353 : BitVec 32 := Scalar.extui v331
  let c0_i32_213 : BitVec 32 := 0#32
  let v354 : BitVec 1 := Scalar.cmpi .ne v353 c0_i32_213
  v354

def k0_off107 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_207 : BitVec 32 := 1#32
  let v345 : BitVec 32 := Scalar.subi v5 c1_i32_207
  let c1_i32_208 : BitVec 32 := 1#32
  let v346 : BitVec 32 := Scalar.subi v345 c1_i32_208
  let c1024_i32_471 : BitVec 32 := 1024#32
  let v739 : BitVec 32 := Scalar.muli v346 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_off108 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_207 : BitVec 32 := 1#32
  let v345 : BitVec 32 := Scalar.subi v5 c1_i32_207
  let c1_i32_208 : BitVec 32 := 1#32
  let v346 : BitVec 32 := Scalar.subi v345 c1_i32_208
  let c1024_i32_484 : BitVec 32 := 1024#32
  let v757 : BitVec 32 := Scalar.muli v346 c1024_i32_484
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_485 : BitVec 32 := 256#32
  let v758 : BitVec 32 := Scalar.muli v29 c256_i32_485
  let v759 : BitVec 32 := Scalar.addi v757 v758
  let c64_i32_486 : BitVec 32 := 64#32
  let v760 : BitVec 32 := Scalar.addi v759 c64_i32_486
  let c0_i32_493 : BitVec 32 := 0#32
  ![v760.toNat, 0]
def k0_dev87 (d0 : Dev nD) : Nat :=
  let c0_i32_490 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_489 : BitVec 32 := 16#32
  let v761 : BitVec 32 := Scalar.muli v9 c16_i32_489
  let v762 : BitVec 32 := Scalar.addi c0_i32_490 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v763 : BitVec 32 := Scalar.muli v5 c4_i32_491
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v765 : BitVec 32 := Scalar.muli v8 c1_i32_492
  let v766 : BitVec 32 := Scalar.addi v764 v765
  v766.toNat
def k0_cond100 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_198 : BitVec 32 := 1#32
  let v332 : BitVec 1 := Scalar.cmpi .sle v5 c1_i32_198
  let v355 : BitVec 32 := Scalar.extui v332
  let c0_i32_214 : BitVec 32 := 0#32
  let v356 : BitVec 1 := Scalar.cmpi .ne v355 c0_i32_214
  v356

def k0_off109 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_209 : BitVec 32 := 1#32
  let v347 : BitVec 32 := Scalar.addi v5 c1_i32_209
  let c1_i32_210 : BitVec 32 := 1#32
  let v348 : BitVec 32 := Scalar.addi v347 c1_i32_210
  let c1024_i32_471 : BitVec 32 := 1024#32
  let v739 : BitVec 32 := Scalar.muli v348 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_off110 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_209 : BitVec 32 := 1#32
  let v347 : BitVec 32 := Scalar.addi v5 c1_i32_209
  let c1_i32_210 : BitVec 32 := 1#32
  let v348 : BitVec 32 := Scalar.addi v347 c1_i32_210
  let c1024_i32_484 : BitVec 32 := 1024#32
  let v757 : BitVec 32 := Scalar.muli v348 c1024_i32_484
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_485 : BitVec 32 := 256#32
  let v758 : BitVec 32 := Scalar.muli v29 c256_i32_485
  let v759 : BitVec 32 := Scalar.addi v757 v758
  let c64_i32_486 : BitVec 32 := 64#32
  let v760 : BitVec 32 := Scalar.addi v759 c64_i32_486
  let c0_i32_493 : BitVec 32 := 0#32
  ![v760.toNat, 0]
def k0_dev88 (d0 : Dev nD) : Nat :=
  let c0_i32_490 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_489 : BitVec 32 := 16#32
  let v761 : BitVec 32 := Scalar.muli v9 c16_i32_489
  let v762 : BitVec 32 := Scalar.addi c0_i32_490 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v763 : BitVec 32 := Scalar.muli v5 c4_i32_491
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v765 : BitVec 32 := Scalar.muli v8 c1_i32_492
  let v766 : BitVec 32 := Scalar.addi v764 v765
  v766.toNat
def k0_cond101 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_197 : BitVec 32 := 2#32
  let v331 : BitVec 1 := Scalar.cmpi .sge v5 c2_i32_197
  let v361 : BitVec 32 := Scalar.extui v331
  let c0_i32_219 : BitVec 32 := 0#32
  let v362 : BitVec 1 := Scalar.cmpi .ne v361 c0_i32_219
  v362

def k0_off111 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_215 : BitVec 32 := 1#32
  let v357 : BitVec 32 := Scalar.subi v5 c1_i32_215
  let c1_i32_216 : BitVec 32 := 1#32
  let v358 : BitVec 32 := Scalar.subi v357 c1_i32_216
  let c1024_i32_471 : BitVec 32 := 1024#32
  let v739 : BitVec 32 := Scalar.muli v358 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_off112 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_215 : BitVec 32 := 1#32
  let v357 : BitVec 32 := Scalar.subi v5 c1_i32_215
  let c1_i32_216 : BitVec 32 := 1#32
  let v358 : BitVec 32 := Scalar.subi v357 c1_i32_216
  let c1024_i32_484 : BitVec 32 := 1024#32
  let v757 : BitVec 32 := Scalar.muli v358 c1024_i32_484
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_485 : BitVec 32 := 256#32
  let v758 : BitVec 32 := Scalar.muli v26 c256_i32_485
  let v759 : BitVec 32 := Scalar.addi v757 v758
  let c128_i32_486 : BitVec 32 := 128#32
  let v760 : BitVec 32 := Scalar.addi v759 c128_i32_486
  let c0_i32_493 : BitVec 32 := 0#32
  ![v760.toNat, 0]
def k0_dev89 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v761 : BitVec 32 := Scalar.muli v2 c16_i32_489
  let v762 : BitVec 32 := Scalar.addi c0_i32_490 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v763 : BitVec 32 := Scalar.muli v5 c4_i32_491
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v765 : BitVec 32 := Scalar.muli v22 c1_i32_492
  let v766 : BitVec 32 := Scalar.addi v764 v765
  v766.toNat
def k0_cond102 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_198 : BitVec 32 := 1#32
  let v332 : BitVec 1 := Scalar.cmpi .sle v5 c1_i32_198
  let v363 : BitVec 32 := Scalar.extui v332
  let c0_i32_220 : BitVec 32 := 0#32
  let v364 : BitVec 1 := Scalar.cmpi .ne v363 c0_i32_220
  v364

def k0_off113 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_217 : BitVec 32 := 1#32
  let v359 : BitVec 32 := Scalar.addi v5 c1_i32_217
  let c1_i32_218 : BitVec 32 := 1#32
  let v360 : BitVec 32 := Scalar.addi v359 c1_i32_218
  let c1024_i32_471 : BitVec 32 := 1024#32
  let v739 : BitVec 32 := Scalar.muli v360 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_off114 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_217 : BitVec 32 := 1#32
  let v359 : BitVec 32 := Scalar.addi v5 c1_i32_217
  let c1_i32_218 : BitVec 32 := 1#32
  let v360 : BitVec 32 := Scalar.addi v359 c1_i32_218
  let c1024_i32_484 : BitVec 32 := 1024#32
  let v757 : BitVec 32 := Scalar.muli v360 c1024_i32_484
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_485 : BitVec 32 := 256#32
  let v758 : BitVec 32 := Scalar.muli v26 c256_i32_485
  let v759 : BitVec 32 := Scalar.addi v757 v758
  let c128_i32_486 : BitVec 32 := 128#32
  let v760 : BitVec 32 := Scalar.addi v759 c128_i32_486
  let c0_i32_493 : BitVec 32 := 0#32
  ![v760.toNat, 0]
def k0_dev90 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v761 : BitVec 32 := Scalar.muli v2 c16_i32_489
  let v762 : BitVec 32 := Scalar.addi c0_i32_490 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v763 : BitVec 32 := Scalar.muli v5 c4_i32_491
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v765 : BitVec 32 := Scalar.muli v22 c1_i32_492
  let v766 : BitVec 32 := Scalar.addi v764 v765
  v766.toNat
def k0_cond103 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_197 : BitVec 32 := 2#32
  let v331 : BitVec 1 := Scalar.cmpi .sge v5 c2_i32_197
  let v365 : BitVec 32 := Scalar.extui v331
  let c0_i32_221 : BitVec 32 := 0#32
  let v366 : BitVec 1 := Scalar.cmpi .ne v365 c0_i32_221
  v366

def k0_off115 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_215 : BitVec 32 := 1#32
  let v357 : BitVec 32 := Scalar.subi v5 c1_i32_215
  let c1_i32_216 : BitVec 32 := 1#32
  let v358 : BitVec 32 := Scalar.subi v357 c1_i32_216
  let c1024_i32_471 : BitVec 32 := 1024#32
  let v739 : BitVec 32 := Scalar.muli v358 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_cond104 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_198 : BitVec 32 := 1#32
  let v332 : BitVec 1 := Scalar.cmpi .sle v5 c1_i32_198
  let v367 : BitVec 32 := Scalar.extui v332
  let c0_i32_222 : BitVec 32 := 0#32
  let v368 : BitVec 1 := Scalar.cmpi .ne v367 c0_i32_222
  v368

def k0_off116 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_217 : BitVec 32 := 1#32
  let v359 : BitVec 32 := Scalar.addi v5 c1_i32_217
  let c1_i32_218 : BitVec 32 := 1#32
  let v360 : BitVec 32 := Scalar.addi v359 c1_i32_218
  let c1024_i32_471 : BitVec 32 := 1024#32
  let v739 : BitVec 32 := Scalar.muli v360 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_cond105 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_197 : BitVec 32 := 2#32
  let v331 : BitVec 1 := Scalar.cmpi .sge v5 c2_i32_197
  let v373 : BitVec 32 := Scalar.extui v331
  let c0_i32_227 : BitVec 32 := 0#32
  let v374 : BitVec 1 := Scalar.cmpi .ne v373 c0_i32_227
  v374

def k0_off117 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_223 : BitVec 32 := 1#32
  let v369 : BitVec 32 := Scalar.subi v5 c1_i32_223
  let c1_i32_224 : BitVec 32 := 1#32
  let v370 : BitVec 32 := Scalar.subi v369 c1_i32_224
  let c1024_i32_471 : BitVec 32 := 1024#32
  let v739 : BitVec 32 := Scalar.muli v370 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_cond106 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_198 : BitVec 32 := 1#32
  let v332 : BitVec 1 := Scalar.cmpi .sle v5 c1_i32_198
  let v375 : BitVec 32 := Scalar.extui v332
  let c0_i32_228 : BitVec 32 := 0#32
  let v376 : BitVec 1 := Scalar.cmpi .ne v375 c0_i32_228
  v376

def k0_off118 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_225 : BitVec 32 := 1#32
  let v371 : BitVec 32 := Scalar.addi v5 c1_i32_225
  let c1_i32_226 : BitVec 32 := 1#32
  let v372 : BitVec 32 := Scalar.addi v371 c1_i32_226
  let c1024_i32_471 : BitVec 32 := 1024#32
  let v739 : BitVec 32 := Scalar.muli v372 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_cond107 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_197 : BitVec 32 := 2#32
  let v331 : BitVec 1 := Scalar.cmpi .sge v5 c2_i32_197
  let v377 : BitVec 32 := Scalar.extui v331
  let c0_i32_229 : BitVec 32 := 0#32
  let v378 : BitVec 1 := Scalar.cmpi .ne v377 c0_i32_229
  v378

def k0_off119 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_223 : BitVec 32 := 1#32
  let v369 : BitVec 32 := Scalar.subi v5 c1_i32_223
  let c1_i32_224 : BitVec 32 := 1#32
  let v370 : BitVec 32 := Scalar.subi v369 c1_i32_224
  let c1024_i32_471 : BitVec 32 := 1024#32
  let v739 : BitVec 32 := Scalar.muli v370 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_off120 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_223 : BitVec 32 := 1#32
  let v369 : BitVec 32 := Scalar.subi v5 c1_i32_223
  let c1_i32_224 : BitVec 32 := 1#32
  let v370 : BitVec 32 := Scalar.subi v369 c1_i32_224
  let c1024_i32_484 : BitVec 32 := 1024#32
  let v757 : BitVec 32 := Scalar.muli v370 c1024_i32_484
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_485 : BitVec 32 := 256#32
  let v758 : BitVec 32 := Scalar.muli v29 c256_i32_485
  let v759 : BitVec 32 := Scalar.addi v757 v758
  let c192_i32_486 : BitVec 32 := 192#32
  let v760 : BitVec 32 := Scalar.addi v759 c192_i32_486
  let c0_i32_493 : BitVec 32 := 0#32
  ![v760.toNat, 0]
def k0_dev91 (d0 : Dev nD) : Nat :=
  let c0_i32_490 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_489 : BitVec 32 := 16#32
  let v761 : BitVec 32 := Scalar.muli v9 c16_i32_489
  let v762 : BitVec 32 := Scalar.addi c0_i32_490 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v763 : BitVec 32 := Scalar.muli v5 c4_i32_491
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v765 : BitVec 32 := Scalar.muli v8 c1_i32_492
  let v766 : BitVec 32 := Scalar.addi v764 v765
  v766.toNat
def k0_cond108 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_198 : BitVec 32 := 1#32
  let v332 : BitVec 1 := Scalar.cmpi .sle v5 c1_i32_198
  let v379 : BitVec 32 := Scalar.extui v332
  let c0_i32_230 : BitVec 32 := 0#32
  let v380 : BitVec 1 := Scalar.cmpi .ne v379 c0_i32_230
  v380

def k0_off121 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_225 : BitVec 32 := 1#32
  let v371 : BitVec 32 := Scalar.addi v5 c1_i32_225
  let c1_i32_226 : BitVec 32 := 1#32
  let v372 : BitVec 32 := Scalar.addi v371 c1_i32_226
  let c1024_i32_471 : BitVec 32 := 1024#32
  let v739 : BitVec 32 := Scalar.muli v372 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_off122 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_225 : BitVec 32 := 1#32
  let v371 : BitVec 32 := Scalar.addi v5 c1_i32_225
  let c1_i32_226 : BitVec 32 := 1#32
  let v372 : BitVec 32 := Scalar.addi v371 c1_i32_226
  let c1024_i32_484 : BitVec 32 := 1024#32
  let v757 : BitVec 32 := Scalar.muli v372 c1024_i32_484
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_485 : BitVec 32 := 256#32
  let v758 : BitVec 32 := Scalar.muli v29 c256_i32_485
  let v759 : BitVec 32 := Scalar.addi v757 v758
  let c192_i32_486 : BitVec 32 := 192#32
  let v760 : BitVec 32 := Scalar.addi v759 c192_i32_486
  let c0_i32_493 : BitVec 32 := 0#32
  ![v760.toNat, 0]
def k0_dev92 (d0 : Dev nD) : Nat :=
  let c0_i32_490 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_489 : BitVec 32 := 16#32
  let v761 : BitVec 32 := Scalar.muli v9 c16_i32_489
  let v762 : BitVec 32 := Scalar.addi c0_i32_490 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v763 : BitVec 32 := Scalar.muli v5 c4_i32_491
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v765 : BitVec 32 := Scalar.muli v8 c1_i32_492
  let v766 : BitVec 32 := Scalar.addi v764 v765
  v766.toNat
def k0_cond109 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_231 : BitVec 32 := 3#32
  let v381 : BitVec 1 := Scalar.cmpi .sge v5 c3_i32_231
  let v387 : BitVec 32 := Scalar.extui v381
  let c0_i32_237 : BitVec 32 := 0#32
  let v388 : BitVec 1 := Scalar.cmpi .ne v387 c0_i32_237
  v388

def k0_off123 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_233 : BitVec 32 := 1#32
  let v383 : BitVec 32 := Scalar.subi v5 c1_i32_233
  let c2_i32_234 : BitVec 32 := 2#32
  let v384 : BitVec 32 := Scalar.subi v383 c2_i32_234
  let c1024_i32_472 : BitVec 32 := 1024#32
  let v739 : BitVec 32 := Scalar.muli v384 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_480 : BitVec 32 := 0#32
  ![v742.toNat, 0]
def k0_off124 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_233 : BitVec 32 := 1#32
  let v383 : BitVec 32 := Scalar.subi v5 c1_i32_233
  let c2_i32_234 : BitVec 32 := 2#32
  let v384 : BitVec 32 := Scalar.subi v383 c2_i32_234
  let c1024_i32_485 : BitVec 32 := 1024#32
  let v757 : BitVec 32 := Scalar.muli v384 c1024_i32_485
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_486 : BitVec 32 := 256#32
  let v758 : BitVec 32 := Scalar.muli v26 c256_i32_486
  let v759 : BitVec 32 := Scalar.addi v757 v758
  let c0_i32_487 : BitVec 32 := 0#32
  let v760 : BitVec 32 := Scalar.addi v759 c0_i32_487
  let c0_i32_494 : BitVec 32 := 0#32
  ![v760.toNat, 0]
def k0_dev93 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v761 : BitVec 32 := Scalar.muli v2 c16_i32_490
  let v762 : BitVec 32 := Scalar.addi c0_i32_491 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v763 : BitVec 32 := Scalar.muli v5 c4_i32_492
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_493 : BitVec 32 := 1#32
  let v765 : BitVec 32 := Scalar.muli v22 c1_i32_493
  let v766 : BitVec 32 := Scalar.addi v764 v765
  v766.toNat
def k0_cond110 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_232 : BitVec 32 := 0#32
  let v382 : BitVec 1 := Scalar.cmpi .sle v5 c0_i32_232
  let v389 : BitVec 32 := Scalar.extui v382
  let c0_i32_238 : BitVec 32 := 0#32
  let v390 : BitVec 1 := Scalar.cmpi .ne v389 c0_i32_238
  v390

def k0_off125 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_235 : BitVec 32 := 1#32
  let v385 : BitVec 32 := Scalar.addi v5 c1_i32_235
  let c2_i32_236 : BitVec 32 := 2#32
  let v386 : BitVec 32 := Scalar.addi v385 c2_i32_236
  let c1024_i32_472 : BitVec 32 := 1024#32
  let v739 : BitVec 32 := Scalar.muli v386 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_480 : BitVec 32 := 0#32
  ![v742.toNat, 0]
def k0_off126 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_235 : BitVec 32 := 1#32
  let v385 : BitVec 32 := Scalar.addi v5 c1_i32_235
  let c2_i32_236 : BitVec 32 := 2#32
  let v386 : BitVec 32 := Scalar.addi v385 c2_i32_236
  let c1024_i32_485 : BitVec 32 := 1024#32
  let v757 : BitVec 32 := Scalar.muli v386 c1024_i32_485
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_486 : BitVec 32 := 256#32
  let v758 : BitVec 32 := Scalar.muli v26 c256_i32_486
  let v759 : BitVec 32 := Scalar.addi v757 v758
  let c0_i32_487 : BitVec 32 := 0#32
  let v760 : BitVec 32 := Scalar.addi v759 c0_i32_487
  let c0_i32_494 : BitVec 32 := 0#32
  ![v760.toNat, 0]
def k0_dev94 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v761 : BitVec 32 := Scalar.muli v2 c16_i32_490
  let v762 : BitVec 32 := Scalar.addi c0_i32_491 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v763 : BitVec 32 := Scalar.muli v5 c4_i32_492
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_493 : BitVec 32 := 1#32
  let v765 : BitVec 32 := Scalar.muli v22 c1_i32_493
  let v766 : BitVec 32 := Scalar.addi v764 v765
  v766.toNat
def k0_cond111 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_231 : BitVec 32 := 3#32
  let v381 : BitVec 1 := Scalar.cmpi .sge v5 c3_i32_231
  let v391 : BitVec 32 := Scalar.extui v381
  let c0_i32_239 : BitVec 32 := 0#32
  let v392 : BitVec 1 := Scalar.cmpi .ne v391 c0_i32_239
  v392

def k0_off127 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_233 : BitVec 32 := 1#32
  let v383 : BitVec 32 := Scalar.subi v5 c1_i32_233
  let c2_i32_234 : BitVec 32 := 2#32
  let v384 : BitVec 32 := Scalar.subi v383 c2_i32_234
  let c1024_i32_472 : BitVec 32 := 1024#32
  let v739 : BitVec 32 := Scalar.muli v384 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_480 : BitVec 32 := 0#32
  ![v742.toNat, 0]
def k0_cond112 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_232 : BitVec 32 := 0#32
  let v382 : BitVec 1 := Scalar.cmpi .sle v5 c0_i32_232
  let v393 : BitVec 32 := Scalar.extui v382
  let c0_i32_240 : BitVec 32 := 0#32
  let v394 : BitVec 1 := Scalar.cmpi .ne v393 c0_i32_240
  v394

def k0_off128 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_235 : BitVec 32 := 1#32
  let v385 : BitVec 32 := Scalar.addi v5 c1_i32_235
  let c2_i32_236 : BitVec 32 := 2#32
  let v386 : BitVec 32 := Scalar.addi v385 c2_i32_236
  let c1024_i32_472 : BitVec 32 := 1024#32
  let v739 : BitVec 32 := Scalar.muli v386 c1024_i32_472
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_473 : BitVec 32 := 256#32
  let v740 : BitVec 32 := Scalar.muli v24 c256_i32_473
  let v741 : BitVec 32 := Scalar.addi v739 v740
  let c0_i32_474 : BitVec 32 := 0#32
  let v742 : BitVec 32 := Scalar.addi v741 c0_i32_474
  let c0_i32_480 : BitVec 32 := 0#32
  ![v742.toNat, 0]
def k0_cond113 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_231 : BitVec 32 := 3#32
  let v381 : BitVec 1 := Scalar.cmpi .sge v5 c3_i32_231
  let v399 : BitVec 32 := Scalar.extui v381
  let c0_i32_245 : BitVec 32 := 0#32
  let v400 : BitVec 1 := Scalar.cmpi .ne v399 c0_i32_245
  v400

def k0_off129 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_241 : BitVec 32 := 1#32
  let v395 : BitVec 32 := Scalar.subi v5 c1_i32_241
  let c2_i32_242 : BitVec 32 := 2#32
  let v396 : BitVec 32 := Scalar.subi v395 c2_i32_242
  let c1024_i32_471 : BitVec 32 := 1024#32
  let v739 : BitVec 32 := Scalar.muli v396 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_cond114 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_232 : BitVec 32 := 0#32
  let v382 : BitVec 1 := Scalar.cmpi .sle v5 c0_i32_232
  let v401 : BitVec 32 := Scalar.extui v382
  let c0_i32_246 : BitVec 32 := 0#32
  let v402 : BitVec 1 := Scalar.cmpi .ne v401 c0_i32_246
  v402

def k0_off130 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_243 : BitVec 32 := 1#32
  let v397 : BitVec 32 := Scalar.addi v5 c1_i32_243
  let c2_i32_244 : BitVec 32 := 2#32
  let v398 : BitVec 32 := Scalar.addi v397 c2_i32_244
  let c1024_i32_471 : BitVec 32 := 1024#32
  let v739 : BitVec 32 := Scalar.muli v398 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_cond115 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_231 : BitVec 32 := 3#32
  let v381 : BitVec 1 := Scalar.cmpi .sge v5 c3_i32_231
  let v403 : BitVec 32 := Scalar.extui v381
  let c0_i32_247 : BitVec 32 := 0#32
  let v404 : BitVec 1 := Scalar.cmpi .ne v403 c0_i32_247
  v404

def k0_off131 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_241 : BitVec 32 := 1#32
  let v395 : BitVec 32 := Scalar.subi v5 c1_i32_241
  let c2_i32_242 : BitVec 32 := 2#32
  let v396 : BitVec 32 := Scalar.subi v395 c2_i32_242
  let c1024_i32_471 : BitVec 32 := 1024#32
  let v739 : BitVec 32 := Scalar.muli v396 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_off132 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_241 : BitVec 32 := 1#32
  let v395 : BitVec 32 := Scalar.subi v5 c1_i32_241
  let c2_i32_242 : BitVec 32 := 2#32
  let v396 : BitVec 32 := Scalar.subi v395 c2_i32_242
  let c1024_i32_484 : BitVec 32 := 1024#32
  let v757 : BitVec 32 := Scalar.muli v396 c1024_i32_484
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_485 : BitVec 32 := 256#32
  let v758 : BitVec 32 := Scalar.muli v29 c256_i32_485
  let v759 : BitVec 32 := Scalar.addi v757 v758
  let c64_i32_486 : BitVec 32 := 64#32
  let v760 : BitVec 32 := Scalar.addi v759 c64_i32_486
  let c0_i32_493 : BitVec 32 := 0#32
  ![v760.toNat, 0]
def k0_dev95 (d0 : Dev nD) : Nat :=
  let c0_i32_490 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_489 : BitVec 32 := 16#32
  let v761 : BitVec 32 := Scalar.muli v9 c16_i32_489
  let v762 : BitVec 32 := Scalar.addi c0_i32_490 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v763 : BitVec 32 := Scalar.muli v5 c4_i32_491
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v765 : BitVec 32 := Scalar.muli v8 c1_i32_492
  let v766 : BitVec 32 := Scalar.addi v764 v765
  v766.toNat
def k0_cond116 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_232 : BitVec 32 := 0#32
  let v382 : BitVec 1 := Scalar.cmpi .sle v5 c0_i32_232
  let v405 : BitVec 32 := Scalar.extui v382
  let c0_i32_248 : BitVec 32 := 0#32
  let v406 : BitVec 1 := Scalar.cmpi .ne v405 c0_i32_248
  v406

def k0_off133 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_243 : BitVec 32 := 1#32
  let v397 : BitVec 32 := Scalar.addi v5 c1_i32_243
  let c2_i32_244 : BitVec 32 := 2#32
  let v398 : BitVec 32 := Scalar.addi v397 c2_i32_244
  let c1024_i32_471 : BitVec 32 := 1024#32
  let v739 : BitVec 32 := Scalar.muli v398 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_off134 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_243 : BitVec 32 := 1#32
  let v397 : BitVec 32 := Scalar.addi v5 c1_i32_243
  let c2_i32_244 : BitVec 32 := 2#32
  let v398 : BitVec 32 := Scalar.addi v397 c2_i32_244
  let c1024_i32_484 : BitVec 32 := 1024#32
  let v757 : BitVec 32 := Scalar.muli v398 c1024_i32_484
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_485 : BitVec 32 := 256#32
  let v758 : BitVec 32 := Scalar.muli v29 c256_i32_485
  let v759 : BitVec 32 := Scalar.addi v757 v758
  let c64_i32_486 : BitVec 32 := 64#32
  let v760 : BitVec 32 := Scalar.addi v759 c64_i32_486
  let c0_i32_493 : BitVec 32 := 0#32
  ![v760.toNat, 0]
def k0_dev96 (d0 : Dev nD) : Nat :=
  let c0_i32_490 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_489 : BitVec 32 := 16#32
  let v761 : BitVec 32 := Scalar.muli v9 c16_i32_489
  let v762 : BitVec 32 := Scalar.addi c0_i32_490 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v763 : BitVec 32 := Scalar.muli v5 c4_i32_491
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v765 : BitVec 32 := Scalar.muli v8 c1_i32_492
  let v766 : BitVec 32 := Scalar.addi v764 v765
  v766.toNat
def k0_cond117 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_231 : BitVec 32 := 3#32
  let v381 : BitVec 1 := Scalar.cmpi .sge v5 c3_i32_231
  let v411 : BitVec 32 := Scalar.extui v381
  let c0_i32_253 : BitVec 32 := 0#32
  let v412 : BitVec 1 := Scalar.cmpi .ne v411 c0_i32_253
  v412

def k0_off135 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_249 : BitVec 32 := 1#32
  let v407 : BitVec 32 := Scalar.subi v5 c1_i32_249
  let c2_i32_250 : BitVec 32 := 2#32
  let v408 : BitVec 32 := Scalar.subi v407 c2_i32_250
  let c1024_i32_471 : BitVec 32 := 1024#32
  let v739 : BitVec 32 := Scalar.muli v408 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_off136 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_249 : BitVec 32 := 1#32
  let v407 : BitVec 32 := Scalar.subi v5 c1_i32_249
  let c2_i32_250 : BitVec 32 := 2#32
  let v408 : BitVec 32 := Scalar.subi v407 c2_i32_250
  let c1024_i32_484 : BitVec 32 := 1024#32
  let v757 : BitVec 32 := Scalar.muli v408 c1024_i32_484
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_485 : BitVec 32 := 256#32
  let v758 : BitVec 32 := Scalar.muli v26 c256_i32_485
  let v759 : BitVec 32 := Scalar.addi v757 v758
  let c128_i32_486 : BitVec 32 := 128#32
  let v760 : BitVec 32 := Scalar.addi v759 c128_i32_486
  let c0_i32_493 : BitVec 32 := 0#32
  ![v760.toNat, 0]
def k0_dev97 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v761 : BitVec 32 := Scalar.muli v2 c16_i32_489
  let v762 : BitVec 32 := Scalar.addi c0_i32_490 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v763 : BitVec 32 := Scalar.muli v5 c4_i32_491
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v765 : BitVec 32 := Scalar.muli v22 c1_i32_492
  let v766 : BitVec 32 := Scalar.addi v764 v765
  v766.toNat
def k0_cond118 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_232 : BitVec 32 := 0#32
  let v382 : BitVec 1 := Scalar.cmpi .sle v5 c0_i32_232
  let v413 : BitVec 32 := Scalar.extui v382
  let c0_i32_254 : BitVec 32 := 0#32
  let v414 : BitVec 1 := Scalar.cmpi .ne v413 c0_i32_254
  v414

def k0_off137 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_251 : BitVec 32 := 1#32
  let v409 : BitVec 32 := Scalar.addi v5 c1_i32_251
  let c2_i32_252 : BitVec 32 := 2#32
  let v410 : BitVec 32 := Scalar.addi v409 c2_i32_252
  let c1024_i32_471 : BitVec 32 := 1024#32
  let v739 : BitVec 32 := Scalar.muli v410 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_off138 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_251 : BitVec 32 := 1#32
  let v409 : BitVec 32 := Scalar.addi v5 c1_i32_251
  let c2_i32_252 : BitVec 32 := 2#32
  let v410 : BitVec 32 := Scalar.addi v409 c2_i32_252
  let c1024_i32_484 : BitVec 32 := 1024#32
  let v757 : BitVec 32 := Scalar.muli v410 c1024_i32_484
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_485 : BitVec 32 := 256#32
  let v758 : BitVec 32 := Scalar.muli v26 c256_i32_485
  let v759 : BitVec 32 := Scalar.addi v757 v758
  let c128_i32_486 : BitVec 32 := 128#32
  let v760 : BitVec 32 := Scalar.addi v759 c128_i32_486
  let c0_i32_493 : BitVec 32 := 0#32
  ![v760.toNat, 0]
def k0_dev98 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v761 : BitVec 32 := Scalar.muli v2 c16_i32_489
  let v762 : BitVec 32 := Scalar.addi c0_i32_490 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v763 : BitVec 32 := Scalar.muli v5 c4_i32_491
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c2_i32_9 : BitVec 32 := 2#32
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v21 : BitVec 32 := Scalar.muli c2_i32_9 v19
  let v22 : BitVec 32 := Scalar.subi v20 v21
  let c1_i32_492 : BitVec 32 := 1#32
  let v765 : BitVec 32 := Scalar.muli v22 c1_i32_492
  let v766 : BitVec 32 := Scalar.addi v764 v765
  v766.toNat
def k0_cond119 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_231 : BitVec 32 := 3#32
  let v381 : BitVec 1 := Scalar.cmpi .sge v5 c3_i32_231
  let v415 : BitVec 32 := Scalar.extui v381
  let c0_i32_255 : BitVec 32 := 0#32
  let v416 : BitVec 1 := Scalar.cmpi .ne v415 c0_i32_255
  v416

def k0_off139 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_249 : BitVec 32 := 1#32
  let v407 : BitVec 32 := Scalar.subi v5 c1_i32_249
  let c2_i32_250 : BitVec 32 := 2#32
  let v408 : BitVec 32 := Scalar.subi v407 c2_i32_250
  let c1024_i32_471 : BitVec 32 := 1024#32
  let v739 : BitVec 32 := Scalar.muli v408 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_cond120 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_232 : BitVec 32 := 0#32
  let v382 : BitVec 1 := Scalar.cmpi .sle v5 c0_i32_232
  let v417 : BitVec 32 := Scalar.extui v382
  let c0_i32_256 : BitVec 32 := 0#32
  let v418 : BitVec 1 := Scalar.cmpi .ne v417 c0_i32_256
  v418

def k0_off140 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_251 : BitVec 32 := 1#32
  let v409 : BitVec 32 := Scalar.addi v5 c1_i32_251
  let c2_i32_252 : BitVec 32 := 2#32
  let v410 : BitVec 32 := Scalar.addi v409 c2_i32_252
  let c1024_i32_471 : BitVec 32 := 1024#32
  let v739 : BitVec 32 := Scalar.muli v410 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_cond121 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_231 : BitVec 32 := 3#32
  let v381 : BitVec 1 := Scalar.cmpi .sge v5 c3_i32_231
  let v423 : BitVec 32 := Scalar.extui v381
  let c0_i32_261 : BitVec 32 := 0#32
  let v424 : BitVec 1 := Scalar.cmpi .ne v423 c0_i32_261
  v424

def k0_off141 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_257 : BitVec 32 := 1#32
  let v419 : BitVec 32 := Scalar.subi v5 c1_i32_257
  let c2_i32_258 : BitVec 32 := 2#32
  let v420 : BitVec 32 := Scalar.subi v419 c2_i32_258
  let c1024_i32_471 : BitVec 32 := 1024#32
  let v739 : BitVec 32 := Scalar.muli v420 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_cond122 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_232 : BitVec 32 := 0#32
  let v382 : BitVec 1 := Scalar.cmpi .sle v5 c0_i32_232
  let v425 : BitVec 32 := Scalar.extui v382
  let c0_i32_262 : BitVec 32 := 0#32
  let v426 : BitVec 1 := Scalar.cmpi .ne v425 c0_i32_262
  v426

def k0_off142 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_259 : BitVec 32 := 1#32
  let v421 : BitVec 32 := Scalar.addi v5 c1_i32_259
  let c2_i32_260 : BitVec 32 := 2#32
  let v422 : BitVec 32 := Scalar.addi v421 c2_i32_260
  let c1024_i32_471 : BitVec 32 := 1024#32
  let v739 : BitVec 32 := Scalar.muli v422 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_cond123 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_231 : BitVec 32 := 3#32
  let v381 : BitVec 1 := Scalar.cmpi .sge v5 c3_i32_231
  let v427 : BitVec 32 := Scalar.extui v381
  let c0_i32_263 : BitVec 32 := 0#32
  let v428 : BitVec 1 := Scalar.cmpi .ne v427 c0_i32_263
  v428

def k0_off143 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_257 : BitVec 32 := 1#32
  let v419 : BitVec 32 := Scalar.subi v5 c1_i32_257
  let c2_i32_258 : BitVec 32 := 2#32
  let v420 : BitVec 32 := Scalar.subi v419 c2_i32_258
  let c1024_i32_471 : BitVec 32 := 1024#32
  let v739 : BitVec 32 := Scalar.muli v420 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_off144 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_257 : BitVec 32 := 1#32
  let v419 : BitVec 32 := Scalar.subi v5 c1_i32_257
  let c2_i32_258 : BitVec 32 := 2#32
  let v420 : BitVec 32 := Scalar.subi v419 c2_i32_258
  let c1024_i32_484 : BitVec 32 := 1024#32
  let v757 : BitVec 32 := Scalar.muli v420 c1024_i32_484
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_485 : BitVec 32 := 256#32
  let v758 : BitVec 32 := Scalar.muli v29 c256_i32_485
  let v759 : BitVec 32 := Scalar.addi v757 v758
  let c192_i32_486 : BitVec 32 := 192#32
  let v760 : BitVec 32 := Scalar.addi v759 c192_i32_486
  let c0_i32_493 : BitVec 32 := 0#32
  ![v760.toNat, 0]
def k0_dev99 (d0 : Dev nD) : Nat :=
  let c0_i32_490 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_489 : BitVec 32 := 16#32
  let v761 : BitVec 32 := Scalar.muli v9 c16_i32_489
  let v762 : BitVec 32 := Scalar.addi c0_i32_490 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v763 : BitVec 32 := Scalar.muli v5 c4_i32_491
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v765 : BitVec 32 := Scalar.muli v8 c1_i32_492
  let v766 : BitVec 32 := Scalar.addi v764 v765
  v766.toNat
def k0_cond124 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_232 : BitVec 32 := 0#32
  let v382 : BitVec 1 := Scalar.cmpi .sle v5 c0_i32_232
  let v429 : BitVec 32 := Scalar.extui v382
  let c0_i32_264 : BitVec 32 := 0#32
  let v430 : BitVec 1 := Scalar.cmpi .ne v429 c0_i32_264
  v430

def k0_off145 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_259 : BitVec 32 := 1#32
  let v421 : BitVec 32 := Scalar.addi v5 c1_i32_259
  let c2_i32_260 : BitVec 32 := 2#32
  let v422 : BitVec 32 := Scalar.addi v421 c2_i32_260
  let c1024_i32_471 : BitVec 32 := 1024#32
  let v739 : BitVec 32 := Scalar.muli v422 c1024_i32_471
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_472 : BitVec 32 := 256#32
  let v740 : BitVec 32 := Scalar.muli v24 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_off146 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_259 : BitVec 32 := 1#32
  let v421 : BitVec 32 := Scalar.addi v5 c1_i32_259
  let c2_i32_260 : BitVec 32 := 2#32
  let v422 : BitVec 32 := Scalar.addi v421 c2_i32_260
  let c1024_i32_484 : BitVec 32 := 1024#32
  let v757 : BitVec 32 := Scalar.muli v422 c1024_i32_484
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_485 : BitVec 32 := 256#32
  let v758 : BitVec 32 := Scalar.muli v29 c256_i32_485
  let v759 : BitVec 32 := Scalar.addi v757 v758
  let c192_i32_486 : BitVec 32 := 192#32
  let v760 : BitVec 32 := Scalar.addi v759 c192_i32_486
  let c0_i32_493 : BitVec 32 := 0#32
  ![v760.toNat, 0]
def k0_dev100 (d0 : Dev nD) : Nat :=
  let c0_i32_490 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_489 : BitVec 32 := 16#32
  let v761 : BitVec 32 := Scalar.muli v9 c16_i32_489
  let v762 : BitVec 32 := Scalar.addi c0_i32_490 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v763 : BitVec 32 := Scalar.muli v5 c4_i32_491
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v765 : BitVec 32 := Scalar.muli v8 c1_i32_492
  let v766 : BitVec 32 := Scalar.addi v764 v765
  v766.toNat
def k0_cond125 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_265 : BitVec 32 := 1#32
  let v431 : BitVec 1 := Scalar.cmpi .sge v5 c1_i32_265
  let v440 : BitVec 32 := Scalar.extui v431
  let c0_i32_273 : BitVec 32 := 0#32
  let v441 : BitVec 1 := Scalar.cmpi .ne v440 c0_i32_273
  v441

def k0_off147 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_267 : BitVec 32 := 1#32
  let v433 : BitVec 32 := Scalar.subi v5 c1_i32_267
  let c0_i32_268 : BitVec 32 := 0#32
  let v434 : BitVec 32 := Scalar.subi v433 c0_i32_268
  let c1024_i32_472 : BitVec 32 := 1024#32
  let v739 : BitVec 32 := Scalar.muli v434 c1024_i32_472
  let c2_i32_271 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v437 : BitVec 32 := Scalar.muli c2_i32_271 v9
  let c1_i32_272 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v438 : BitVec 32 := Scalar.subi c1_i32_272 v19
  let v439 : BitVec 32 := Scalar.addi v437 v438
  let c256_i32_473 : BitVec 32 := 256#32
  let v740 : BitVec 32 := Scalar.muli v439 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_cond126 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_266 : BitVec 32 := 2#32
  let v432 : BitVec 1 := Scalar.cmpi .sle v5 c2_i32_266
  let v442 : BitVec 32 := Scalar.extui v432
  let c0_i32_274 : BitVec 32 := 0#32
  let v443 : BitVec 1 := Scalar.cmpi .ne v442 c0_i32_274
  v443

def k0_off148 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_269 : BitVec 32 := 1#32
  let v435 : BitVec 32 := Scalar.addi v5 c1_i32_269
  let c0_i32_270 : BitVec 32 := 0#32
  let v436 : BitVec 32 := Scalar.addi v435 c0_i32_270
  let c1024_i32_472 : BitVec 32 := 1024#32
  let v739 : BitVec 32 := Scalar.muli v436 c1024_i32_472
  let c2_i32_271 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v437 : BitVec 32 := Scalar.muli c2_i32_271 v9
  let c1_i32_272 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v438 : BitVec 32 := Scalar.subi c1_i32_272 v19
  let v439 : BitVec 32 := Scalar.addi v437 v438
  let c256_i32_473 : BitVec 32 := 256#32
  let v740 : BitVec 32 := Scalar.muli v439 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_cond127 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_265 : BitVec 32 := 1#32
  let v431 : BitVec 1 := Scalar.cmpi .sge v5 c1_i32_265
  let v451 : BitVec 32 := Scalar.extui v431
  let c0_i32_281 : BitVec 32 := 0#32
  let v452 : BitVec 1 := Scalar.cmpi .ne v451 c0_i32_281
  v452

def k0_off149 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_275 : BitVec 32 := 1#32
  let v444 : BitVec 32 := Scalar.subi v5 c1_i32_275
  let c0_i32_276 : BitVec 32 := 0#32
  let v445 : BitVec 32 := Scalar.subi v444 c0_i32_276
  let c1024_i32_471 : BitVec 32 := 1024#32
  let v739 : BitVec 32 := Scalar.muli v445 c1024_i32_471
  let c2_i32_279 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v448 : BitVec 32 := Scalar.muli c2_i32_279 v9
  let c1_i32_280 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v449 : BitVec 32 := Scalar.subi c1_i32_280 v19
  let v450 : BitVec 32 := Scalar.addi v448 v449
  let c256_i32_472 : BitVec 32 := 256#32
  let v740 : BitVec 32 := Scalar.muli v450 c256_i32_472
  let v741 : BitVec 32 := Scalar.addi v739 v740
  let c64_i32_473 : BitVec 32 := 64#32
  let v742 : BitVec 32 := Scalar.addi v741 c64_i32_473
  let c0_i32_480 : BitVec 32 := 0#32
  ![v742.toNat, 0]
def k0_cond128 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_266 : BitVec 32 := 2#32
  let v432 : BitVec 1 := Scalar.cmpi .sle v5 c2_i32_266
  let v453 : BitVec 32 := Scalar.extui v432
  let c0_i32_282 : BitVec 32 := 0#32
  let v454 : BitVec 1 := Scalar.cmpi .ne v453 c0_i32_282
  v454

def k0_off150 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_277 : BitVec 32 := 1#32
  let v446 : BitVec 32 := Scalar.addi v5 c1_i32_277
  let c0_i32_278 : BitVec 32 := 0#32
  let v447 : BitVec 32 := Scalar.addi v446 c0_i32_278
  let c1024_i32_471 : BitVec 32 := 1024#32
  let v739 : BitVec 32 := Scalar.muli v447 c1024_i32_471
  let c2_i32_279 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v448 : BitVec 32 := Scalar.muli c2_i32_279 v9
  let c1_i32_280 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v449 : BitVec 32 := Scalar.subi c1_i32_280 v19
  let v450 : BitVec 32 := Scalar.addi v448 v449
  let c256_i32_472 : BitVec 32 := 256#32
  let v740 : BitVec 32 := Scalar.muli v450 c256_i32_472
  let v741 : BitVec 32 := Scalar.addi v739 v740
  let c64_i32_473 : BitVec 32 := 64#32
  let v742 : BitVec 32 := Scalar.addi v741 c64_i32_473
  let c0_i32_480 : BitVec 32 := 0#32
  ![v742.toNat, 0]
def k0_cond129 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_265 : BitVec 32 := 1#32
  let v431 : BitVec 1 := Scalar.cmpi .sge v5 c1_i32_265
  let v462 : BitVec 32 := Scalar.extui v431
  let c0_i32_289 : BitVec 32 := 0#32
  let v463 : BitVec 1 := Scalar.cmpi .ne v462 c0_i32_289
  v463

def k0_off151 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v455 : BitVec 32 := Scalar.subi v5 c1_i32_283
  let c0_i32_284 : BitVec 32 := 0#32
  let v456 : BitVec 32 := Scalar.subi v455 c0_i32_284
  let c1024_i32_471 : BitVec 32 := 1024#32
  let v739 : BitVec 32 := Scalar.muli v456 c1024_i32_471
  let c2_i32_287 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v459 : BitVec 32 := Scalar.muli c2_i32_287 v9
  let c1_i32_288 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v460 : BitVec 32 := Scalar.subi c1_i32_288 v19
  let v461 : BitVec 32 := Scalar.addi v459 v460
  let c256_i32_472 : BitVec 32 := 256#32
  let v740 : BitVec 32 := Scalar.muli v461 c256_i32_472
  let v741 : BitVec 32 := Scalar.addi v739 v740
  let c128_i32_473 : BitVec 32 := 128#32
  let v742 : BitVec 32 := Scalar.addi v741 c128_i32_473
  let c0_i32_480 : BitVec 32 := 0#32
  ![v742.toNat, 0]
def k0_cond130 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_266 : BitVec 32 := 2#32
  let v432 : BitVec 1 := Scalar.cmpi .sle v5 c2_i32_266
  let v464 : BitVec 32 := Scalar.extui v432
  let c0_i32_290 : BitVec 32 := 0#32
  let v465 : BitVec 1 := Scalar.cmpi .ne v464 c0_i32_290
  v465

def k0_off152 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_285 : BitVec 32 := 1#32
  let v457 : BitVec 32 := Scalar.addi v5 c1_i32_285
  let c0_i32_286 : BitVec 32 := 0#32
  let v458 : BitVec 32 := Scalar.addi v457 c0_i32_286
  let c1024_i32_471 : BitVec 32 := 1024#32
  let v739 : BitVec 32 := Scalar.muli v458 c1024_i32_471
  let c2_i32_287 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v459 : BitVec 32 := Scalar.muli c2_i32_287 v9
  let c1_i32_288 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v460 : BitVec 32 := Scalar.subi c1_i32_288 v19
  let v461 : BitVec 32 := Scalar.addi v459 v460
  let c256_i32_472 : BitVec 32 := 256#32
  let v740 : BitVec 32 := Scalar.muli v461 c256_i32_472
  let v741 : BitVec 32 := Scalar.addi v739 v740
  let c128_i32_473 : BitVec 32 := 128#32
  let v742 : BitVec 32 := Scalar.addi v741 c128_i32_473
  let c0_i32_480 : BitVec 32 := 0#32
  ![v742.toNat, 0]
def k0_cond131 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_265 : BitVec 32 := 1#32
  let v431 : BitVec 1 := Scalar.cmpi .sge v5 c1_i32_265
  let v473 : BitVec 32 := Scalar.extui v431
  let c0_i32_297 : BitVec 32 := 0#32
  let v474 : BitVec 1 := Scalar.cmpi .ne v473 c0_i32_297
  v474

def k0_off153 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v466 : BitVec 32 := Scalar.subi v5 c1_i32_291
  let c0_i32_292 : BitVec 32 := 0#32
  let v467 : BitVec 32 := Scalar.subi v466 c0_i32_292
  let c1024_i32_471 : BitVec 32 := 1024#32
  let v739 : BitVec 32 := Scalar.muli v467 c1024_i32_471
  let c2_i32_295 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v470 : BitVec 32 := Scalar.muli c2_i32_295 v9
  let c1_i32_296 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v471 : BitVec 32 := Scalar.subi c1_i32_296 v19
  let v472 : BitVec 32 := Scalar.addi v470 v471
  let c256_i32_472 : BitVec 32 := 256#32
  let v740 : BitVec 32 := Scalar.muli v472 c256_i32_472
  let v741 : BitVec 32 := Scalar.addi v739 v740
  let c192_i32_473 : BitVec 32 := 192#32
  let v742 : BitVec 32 := Scalar.addi v741 c192_i32_473
  let c0_i32_480 : BitVec 32 := 0#32
  ![v742.toNat, 0]
def k0_cond132 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_266 : BitVec 32 := 2#32
  let v432 : BitVec 1 := Scalar.cmpi .sle v5 c2_i32_266
  let v475 : BitVec 32 := Scalar.extui v432
  let c0_i32_298 : BitVec 32 := 0#32
  let v476 : BitVec 1 := Scalar.cmpi .ne v475 c0_i32_298
  v476

def k0_off154 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_293 : BitVec 32 := 1#32
  let v468 : BitVec 32 := Scalar.addi v5 c1_i32_293
  let c0_i32_294 : BitVec 32 := 0#32
  let v469 : BitVec 32 := Scalar.addi v468 c0_i32_294
  let c1024_i32_471 : BitVec 32 := 1024#32
  let v739 : BitVec 32 := Scalar.muli v469 c1024_i32_471
  let c2_i32_295 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v470 : BitVec 32 := Scalar.muli c2_i32_295 v9
  let c1_i32_296 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v471 : BitVec 32 := Scalar.subi c1_i32_296 v19
  let v472 : BitVec 32 := Scalar.addi v470 v471
  let c256_i32_472 : BitVec 32 := 256#32
  let v740 : BitVec 32 := Scalar.muli v472 c256_i32_472
  let v741 : BitVec 32 := Scalar.addi v739 v740
  let c192_i32_473 : BitVec 32 := 192#32
  let v742 : BitVec 32 := Scalar.addi v741 c192_i32_473
  let c0_i32_480 : BitVec 32 := 0#32
  ![v742.toNat, 0]
def k0_cond133 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_299 : BitVec 32 := 2#32
  let v477 : BitVec 1 := Scalar.cmpi .sge v5 c2_i32_299
  let v486 : BitVec 32 := Scalar.extui v477
  let c0_i32_307 : BitVec 32 := 0#32
  let v487 : BitVec 1 := Scalar.cmpi .ne v486 c0_i32_307
  v487

def k0_off155 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_301 : BitVec 32 := 1#32
  let v479 : BitVec 32 := Scalar.subi v5 c1_i32_301
  let c1_i32_302 : BitVec 32 := 1#32
  let v480 : BitVec 32 := Scalar.subi v479 c1_i32_302
  let c1024_i32_472 : BitVec 32 := 1024#32
  let v739 : BitVec 32 := Scalar.muli v480 c1024_i32_472
  let c2_i32_305 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v483 : BitVec 32 := Scalar.muli c2_i32_305 v9
  let c1_i32_306 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v484 : BitVec 32 := Scalar.subi c1_i32_306 v19
  let v485 : BitVec 32 := Scalar.addi v483 v484
  let c256_i32_473 : BitVec 32 := 256#32
  let v740 : BitVec 32 := Scalar.muli v485 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_cond134 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_300 : BitVec 32 := 1#32
  let v478 : BitVec 1 := Scalar.cmpi .sle v5 c1_i32_300
  let v488 : BitVec 32 := Scalar.extui v478
  let c0_i32_308 : BitVec 32 := 0#32
  let v489 : BitVec 1 := Scalar.cmpi .ne v488 c0_i32_308
  v489

def k0_off156 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_303 : BitVec 32 := 1#32
  let v481 : BitVec 32 := Scalar.addi v5 c1_i32_303
  let c1_i32_304 : BitVec 32 := 1#32
  let v482 : BitVec 32 := Scalar.addi v481 c1_i32_304
  let c1024_i32_472 : BitVec 32 := 1024#32
  let v739 : BitVec 32 := Scalar.muli v482 c1024_i32_472
  let c2_i32_305 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v483 : BitVec 32 := Scalar.muli c2_i32_305 v9
  let c1_i32_306 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v484 : BitVec 32 := Scalar.subi c1_i32_306 v19
  let v485 : BitVec 32 := Scalar.addi v483 v484
  let c256_i32_473 : BitVec 32 := 256#32
  let v740 : BitVec 32 := Scalar.muli v485 c256_i32_473
  let v741 : BitVec 32 := Scalar.addi v739 v740
  let c0_i32_474 : BitVec 32 := 0#32
  let v742 : BitVec 32 := Scalar.addi v741 c0_i32_474
  let c0_i32_481 : BitVec 32 := 0#32
  ![v742.toNat, 0]
def k0_cond135 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_299 : BitVec 32 := 2#32
  let v477 : BitVec 1 := Scalar.cmpi .sge v5 c2_i32_299
  let v497 : BitVec 32 := Scalar.extui v477
  let c0_i32_315 : BitVec 32 := 0#32
  let v498 : BitVec 1 := Scalar.cmpi .ne v497 c0_i32_315
  v498

def k0_off157 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_309 : BitVec 32 := 1#32
  let v490 : BitVec 32 := Scalar.subi v5 c1_i32_309
  let c1_i32_310 : BitVec 32 := 1#32
  let v491 : BitVec 32 := Scalar.subi v490 c1_i32_310
  let c1024_i32_471 : BitVec 32 := 1024#32
  let v739 : BitVec 32 := Scalar.muli v491 c1024_i32_471
  let c2_i32_313 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v494 : BitVec 32 := Scalar.muli c2_i32_313 v9
  let c1_i32_314 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v495 : BitVec 32 := Scalar.subi c1_i32_314 v19
  let v496 : BitVec 32 := Scalar.addi v494 v495
  let c256_i32_472 : BitVec 32 := 256#32
  let v740 : BitVec 32 := Scalar.muli v496 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_cond136 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_300 : BitVec 32 := 1#32
  let v478 : BitVec 1 := Scalar.cmpi .sle v5 c1_i32_300
  let v499 : BitVec 32 := Scalar.extui v478
  let c0_i32_316 : BitVec 32 := 0#32
  let v500 : BitVec 1 := Scalar.cmpi .ne v499 c0_i32_316
  v500

def k0_off158 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_311 : BitVec 32 := 1#32
  let v492 : BitVec 32 := Scalar.addi v5 c1_i32_311
  let c1_i32_312 : BitVec 32 := 1#32
  let v493 : BitVec 32 := Scalar.addi v492 c1_i32_312
  let c1024_i32_471 : BitVec 32 := 1024#32
  let v739 : BitVec 32 := Scalar.muli v493 c1024_i32_471
  let c2_i32_313 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v494 : BitVec 32 := Scalar.muli c2_i32_313 v9
  let c1_i32_314 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v495 : BitVec 32 := Scalar.subi c1_i32_314 v19
  let v496 : BitVec 32 := Scalar.addi v494 v495
  let c256_i32_472 : BitVec 32 := 256#32
  let v740 : BitVec 32 := Scalar.muli v496 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_cond137 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_299 : BitVec 32 := 2#32
  let v477 : BitVec 1 := Scalar.cmpi .sge v5 c2_i32_299
  let v508 : BitVec 32 := Scalar.extui v477
  let c0_i32_323 : BitVec 32 := 0#32
  let v509 : BitVec 1 := Scalar.cmpi .ne v508 c0_i32_323
  v509

def k0_off159 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_317 : BitVec 32 := 1#32
  let v501 : BitVec 32 := Scalar.subi v5 c1_i32_317
  let c1_i32_318 : BitVec 32 := 1#32
  let v502 : BitVec 32 := Scalar.subi v501 c1_i32_318
  let c1024_i32_471 : BitVec 32 := 1024#32
  let v739 : BitVec 32 := Scalar.muli v502 c1024_i32_471
  let c2_i32_321 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v505 : BitVec 32 := Scalar.muli c2_i32_321 v9
  let c1_i32_322 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v506 : BitVec 32 := Scalar.subi c1_i32_322 v19
  let v507 : BitVec 32 := Scalar.addi v505 v506
  let c256_i32_472 : BitVec 32 := 256#32
  let v740 : BitVec 32 := Scalar.muli v507 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_cond138 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_300 : BitVec 32 := 1#32
  let v478 : BitVec 1 := Scalar.cmpi .sle v5 c1_i32_300
  let v510 : BitVec 32 := Scalar.extui v478
  let c0_i32_324 : BitVec 32 := 0#32
  let v511 : BitVec 1 := Scalar.cmpi .ne v510 c0_i32_324
  v511

def k0_off160 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_319 : BitVec 32 := 1#32
  let v503 : BitVec 32 := Scalar.addi v5 c1_i32_319
  let c1_i32_320 : BitVec 32 := 1#32
  let v504 : BitVec 32 := Scalar.addi v503 c1_i32_320
  let c1024_i32_471 : BitVec 32 := 1024#32
  let v739 : BitVec 32 := Scalar.muli v504 c1024_i32_471
  let c2_i32_321 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v505 : BitVec 32 := Scalar.muli c2_i32_321 v9
  let c1_i32_322 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v506 : BitVec 32 := Scalar.subi c1_i32_322 v19
  let v507 : BitVec 32 := Scalar.addi v505 v506
  let c256_i32_472 : BitVec 32 := 256#32
  let v740 : BitVec 32 := Scalar.muli v507 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_cond139 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_299 : BitVec 32 := 2#32
  let v477 : BitVec 1 := Scalar.cmpi .sge v5 c2_i32_299
  let v519 : BitVec 32 := Scalar.extui v477
  let c0_i32_331 : BitVec 32 := 0#32
  let v520 : BitVec 1 := Scalar.cmpi .ne v519 c0_i32_331
  v520

def k0_off161 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_325 : BitVec 32 := 1#32
  let v512 : BitVec 32 := Scalar.subi v5 c1_i32_325
  let c1_i32_326 : BitVec 32 := 1#32
  let v513 : BitVec 32 := Scalar.subi v512 c1_i32_326
  let c1024_i32_471 : BitVec 32 := 1024#32
  let v739 : BitVec 32 := Scalar.muli v513 c1024_i32_471
  let c2_i32_329 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v516 : BitVec 32 := Scalar.muli c2_i32_329 v9
  let c1_i32_330 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v517 : BitVec 32 := Scalar.subi c1_i32_330 v19
  let v518 : BitVec 32 := Scalar.addi v516 v517
  let c256_i32_472 : BitVec 32 := 256#32
  let v740 : BitVec 32 := Scalar.muli v518 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_cond140 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_300 : BitVec 32 := 1#32
  let v478 : BitVec 1 := Scalar.cmpi .sle v5 c1_i32_300
  let v521 : BitVec 32 := Scalar.extui v478
  let c0_i32_332 : BitVec 32 := 0#32
  let v522 : BitVec 1 := Scalar.cmpi .ne v521 c0_i32_332
  v522

def k0_off162 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_327 : BitVec 32 := 1#32
  let v514 : BitVec 32 := Scalar.addi v5 c1_i32_327
  let c1_i32_328 : BitVec 32 := 1#32
  let v515 : BitVec 32 := Scalar.addi v514 c1_i32_328
  let c1024_i32_471 : BitVec 32 := 1024#32
  let v739 : BitVec 32 := Scalar.muli v515 c1024_i32_471
  let c2_i32_329 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v516 : BitVec 32 := Scalar.muli c2_i32_329 v9
  let c1_i32_330 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v517 : BitVec 32 := Scalar.subi c1_i32_330 v19
  let v518 : BitVec 32 := Scalar.addi v516 v517
  let c256_i32_472 : BitVec 32 := 256#32
  let v740 : BitVec 32 := Scalar.muli v518 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_cond141 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_333 : BitVec 32 := 3#32
  let v523 : BitVec 1 := Scalar.cmpi .sge v5 c3_i32_333
  let v532 : BitVec 32 := Scalar.extui v523
  let c0_i32_341 : BitVec 32 := 0#32
  let v533 : BitVec 1 := Scalar.cmpi .ne v532 c0_i32_341
  v533

def k0_off163 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_335 : BitVec 32 := 1#32
  let v525 : BitVec 32 := Scalar.subi v5 c1_i32_335
  let c2_i32_336 : BitVec 32 := 2#32
  let v526 : BitVec 32 := Scalar.subi v525 c2_i32_336
  let c1024_i32_472 : BitVec 32 := 1024#32
  let v739 : BitVec 32 := Scalar.muli v526 c1024_i32_472
  let c2_i32_339 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v529 : BitVec 32 := Scalar.muli c2_i32_339 v9
  let c1_i32_340 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v530 : BitVec 32 := Scalar.subi c1_i32_340 v19
  let v531 : BitVec 32 := Scalar.addi v529 v530
  let c256_i32_473 : BitVec 32 := 256#32
  let v740 : BitVec 32 := Scalar.muli v531 c256_i32_473
  let v741 : BitVec 32 := Scalar.addi v739 v740
  let c0_i32_474 : BitVec 32 := 0#32
  let v742 : BitVec 32 := Scalar.addi v741 c0_i32_474
  let c0_i32_480 : BitVec 32 := 0#32
  ![v742.toNat, 0]
def k0_cond142 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_334 : BitVec 32 := 0#32
  let v524 : BitVec 1 := Scalar.cmpi .sle v5 c0_i32_334
  let v534 : BitVec 32 := Scalar.extui v524
  let c0_i32_342 : BitVec 32 := 0#32
  let v535 : BitVec 1 := Scalar.cmpi .ne v534 c0_i32_342
  v535

def k0_off164 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_337 : BitVec 32 := 1#32
  let v527 : BitVec 32 := Scalar.addi v5 c1_i32_337
  let c2_i32_338 : BitVec 32 := 2#32
  let v528 : BitVec 32 := Scalar.addi v527 c2_i32_338
  let c1024_i32_472 : BitVec 32 := 1024#32
  let v739 : BitVec 32 := Scalar.muli v528 c1024_i32_472
  let c2_i32_339 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v529 : BitVec 32 := Scalar.muli c2_i32_339 v9
  let c1_i32_340 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v530 : BitVec 32 := Scalar.subi c1_i32_340 v19
  let v531 : BitVec 32 := Scalar.addi v529 v530
  let c256_i32_473 : BitVec 32 := 256#32
  let v740 : BitVec 32 := Scalar.muli v531 c256_i32_473
  let v741 : BitVec 32 := Scalar.addi v739 v740
  let c0_i32_474 : BitVec 32 := 0#32
  let v742 : BitVec 32 := Scalar.addi v741 c0_i32_474
  let c0_i32_480 : BitVec 32 := 0#32
  ![v742.toNat, 0]
def k0_cond143 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_333 : BitVec 32 := 3#32
  let v523 : BitVec 1 := Scalar.cmpi .sge v5 c3_i32_333
  let v543 : BitVec 32 := Scalar.extui v523
  let c0_i32_349 : BitVec 32 := 0#32
  let v544 : BitVec 1 := Scalar.cmpi .ne v543 c0_i32_349
  v544

def k0_off165 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_343 : BitVec 32 := 1#32
  let v536 : BitVec 32 := Scalar.subi v5 c1_i32_343
  let c2_i32_344 : BitVec 32 := 2#32
  let v537 : BitVec 32 := Scalar.subi v536 c2_i32_344
  let c1024_i32_471 : BitVec 32 := 1024#32
  let v739 : BitVec 32 := Scalar.muli v537 c1024_i32_471
  let c2_i32_347 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v540 : BitVec 32 := Scalar.muli c2_i32_347 v9
  let c1_i32_348 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v541 : BitVec 32 := Scalar.subi c1_i32_348 v19
  let v542 : BitVec 32 := Scalar.addi v540 v541
  let c256_i32_472 : BitVec 32 := 256#32
  let v740 : BitVec 32 := Scalar.muli v542 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_cond144 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_334 : BitVec 32 := 0#32
  let v524 : BitVec 1 := Scalar.cmpi .sle v5 c0_i32_334
  let v545 : BitVec 32 := Scalar.extui v524
  let c0_i32_350 : BitVec 32 := 0#32
  let v546 : BitVec 1 := Scalar.cmpi .ne v545 c0_i32_350
  v546

def k0_off166 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_345 : BitVec 32 := 1#32
  let v538 : BitVec 32 := Scalar.addi v5 c1_i32_345
  let c2_i32_346 : BitVec 32 := 2#32
  let v539 : BitVec 32 := Scalar.addi v538 c2_i32_346
  let c1024_i32_471 : BitVec 32 := 1024#32
  let v739 : BitVec 32 := Scalar.muli v539 c1024_i32_471
  let c2_i32_347 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v540 : BitVec 32 := Scalar.muli c2_i32_347 v9
  let c1_i32_348 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v541 : BitVec 32 := Scalar.subi c1_i32_348 v19
  let v542 : BitVec 32 := Scalar.addi v540 v541
  let c256_i32_472 : BitVec 32 := 256#32
  let v740 : BitVec 32 := Scalar.muli v542 c256_i32_472
  let v741 : BitVec 32 := Scalar.addi v739 v740
  let c64_i32_473 : BitVec 32 := 64#32
  let v742 : BitVec 32 := Scalar.addi v741 c64_i32_473
  let c0_i32_479 : BitVec 32 := 0#32
  ![v742.toNat, 0]
def k0_cond145 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_333 : BitVec 32 := 3#32
  let v523 : BitVec 1 := Scalar.cmpi .sge v5 c3_i32_333
  let v554 : BitVec 32 := Scalar.extui v523
  let c0_i32_357 : BitVec 32 := 0#32
  let v555 : BitVec 1 := Scalar.cmpi .ne v554 c0_i32_357
  v555

def k0_off167 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_351 : BitVec 32 := 1#32
  let v547 : BitVec 32 := Scalar.subi v5 c1_i32_351
  let c2_i32_352 : BitVec 32 := 2#32
  let v548 : BitVec 32 := Scalar.subi v547 c2_i32_352
  let c1024_i32_471 : BitVec 32 := 1024#32
  let v739 : BitVec 32 := Scalar.muli v548 c1024_i32_471
  let c2_i32_355 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v551 : BitVec 32 := Scalar.muli c2_i32_355 v9
  let c1_i32_356 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v552 : BitVec 32 := Scalar.subi c1_i32_356 v19
  let v553 : BitVec 32 := Scalar.addi v551 v552
  let c256_i32_472 : BitVec 32 := 256#32
  let v740 : BitVec 32 := Scalar.muli v553 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_cond146 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_334 : BitVec 32 := 0#32
  let v524 : BitVec 1 := Scalar.cmpi .sle v5 c0_i32_334
  let v556 : BitVec 32 := Scalar.extui v524
  let c0_i32_358 : BitVec 32 := 0#32
  let v557 : BitVec 1 := Scalar.cmpi .ne v556 c0_i32_358
  v557

def k0_off168 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_353 : BitVec 32 := 1#32
  let v549 : BitVec 32 := Scalar.addi v5 c1_i32_353
  let c2_i32_354 : BitVec 32 := 2#32
  let v550 : BitVec 32 := Scalar.addi v549 c2_i32_354
  let c1024_i32_471 : BitVec 32 := 1024#32
  let v739 : BitVec 32 := Scalar.muli v550 c1024_i32_471
  let c2_i32_355 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v551 : BitVec 32 := Scalar.muli c2_i32_355 v9
  let c1_i32_356 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v552 : BitVec 32 := Scalar.subi c1_i32_356 v19
  let v553 : BitVec 32 := Scalar.addi v551 v552
  let c256_i32_472 : BitVec 32 := 256#32
  let v740 : BitVec 32 := Scalar.muli v553 c256_i32_472
  let v741 : BitVec 32 := Scalar.addi v739 v740
  let c128_i32_473 : BitVec 32 := 128#32
  let v742 : BitVec 32 := Scalar.addi v741 c128_i32_473
  let c0_i32_479 : BitVec 32 := 0#32
  ![v742.toNat, 0]
def k0_cond147 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_333 : BitVec 32 := 3#32
  let v523 : BitVec 1 := Scalar.cmpi .sge v5 c3_i32_333
  let v565 : BitVec 32 := Scalar.extui v523
  let c0_i32_365 : BitVec 32 := 0#32
  let v566 : BitVec 1 := Scalar.cmpi .ne v565 c0_i32_365
  v566

def k0_off169 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_359 : BitVec 32 := 1#32
  let v558 : BitVec 32 := Scalar.subi v5 c1_i32_359
  let c2_i32_360 : BitVec 32 := 2#32
  let v559 : BitVec 32 := Scalar.subi v558 c2_i32_360
  let c1024_i32_471 : BitVec 32 := 1024#32
  let v739 : BitVec 32 := Scalar.muli v559 c1024_i32_471
  let c2_i32_363 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v562 : BitVec 32 := Scalar.muli c2_i32_363 v9
  let c1_i32_364 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v563 : BitVec 32 := Scalar.subi c1_i32_364 v19
  let v564 : BitVec 32 := Scalar.addi v562 v563
  let c256_i32_472 : BitVec 32 := 256#32
  let v740 : BitVec 32 := Scalar.muli v564 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_cond148 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_334 : BitVec 32 := 0#32
  let v524 : BitVec 1 := Scalar.cmpi .sle v5 c0_i32_334
  let v567 : BitVec 32 := Scalar.extui v524
  let c0_i32_366 : BitVec 32 := 0#32
  let v568 : BitVec 1 := Scalar.cmpi .ne v567 c0_i32_366
  v568

def k0_off170 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_361 : BitVec 32 := 1#32
  let v560 : BitVec 32 := Scalar.addi v5 c1_i32_361
  let c2_i32_362 : BitVec 32 := 2#32
  let v561 : BitVec 32 := Scalar.addi v560 c2_i32_362
  let c1024_i32_471 : BitVec 32 := 1024#32
  let v739 : BitVec 32 := Scalar.muli v561 c1024_i32_471
  let c2_i32_363 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v562 : BitVec 32 := Scalar.muli c2_i32_363 v9
  let c1_i32_364 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v563 : BitVec 32 := Scalar.subi c1_i32_364 v19
  let v564 : BitVec 32 := Scalar.addi v562 v563
  let c256_i32_472 : BitVec 32 := 256#32
  let v740 : BitVec 32 := Scalar.muli v564 c256_i32_472
  let v741 : BitVec 32 := Scalar.addi v739 v740
  let c192_i32_473 : BitVec 32 := 192#32
  let v742 : BitVec 32 := Scalar.addi v741 c192_i32_473
  let c0_i32_479 : BitVec 32 := 0#32
  ![v742.toNat, 0]
def k0_cond149 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_17 : BitVec 32 := 2#32
  let v33 : BitVec 1 := Scalar.cmpi .sle v5 c2_i32_17
  let v569 : BitVec 32 := Scalar.extui v33
  let c0_i32_367 : BitVec 32 := 0#32
  let v570 : BitVec 1 := Scalar.cmpi .ne v569 c0_i32_367
  v570

def k0_off171 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_477 : BitVec 32 := 0#32
  ![v738.toNat, 0]
def k0_cond150 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_16 : BitVec 32 := 1#32
  let v32 : BitVec 1 := Scalar.cmpi .sge v5 c1_i32_16
  let v571 : BitVec 32 := Scalar.extui v32
  let c0_i32_368 : BitVec 32 := 0#32
  let v572 : BitVec 1 := Scalar.cmpi .ne v571 c0_i32_368
  v572

def k0_off172 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_477 : BitVec 32 := 0#32
  ![v738.toNat, 0]
def k0_cond151 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_17 : BitVec 32 := 2#32
  let v33 : BitVec 1 := Scalar.cmpi .sle v5 c2_i32_17
  let v573 : BitVec 32 := Scalar.extui v33
  let c0_i32_369 : BitVec 32 := 0#32
  let v574 : BitVec 1 := Scalar.cmpi .ne v573 c0_i32_369
  v574

def k0_off173 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_cond152 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_16 : BitVec 32 := 1#32
  let v32 : BitVec 1 := Scalar.cmpi .sge v5 c1_i32_16
  let v575 : BitVec 32 := Scalar.extui v32
  let c0_i32_370 : BitVec 32 := 0#32
  let v576 : BitVec 1 := Scalar.cmpi .ne v575 c0_i32_370
  v576

def k0_off174 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_cond153 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_17 : BitVec 32 := 2#32
  let v33 : BitVec 1 := Scalar.cmpi .sle v5 c2_i32_17
  let v577 : BitVec 32 := Scalar.extui v33
  let c0_i32_371 : BitVec 32 := 0#32
  let v578 : BitVec 1 := Scalar.cmpi .ne v577 c0_i32_371
  v578

def k0_off175 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_cond154 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_16 : BitVec 32 := 1#32
  let v32 : BitVec 1 := Scalar.cmpi .sge v5 c1_i32_16
  let v579 : BitVec 32 := Scalar.extui v32
  let c0_i32_372 : BitVec 32 := 0#32
  let v580 : BitVec 1 := Scalar.cmpi .ne v579 c0_i32_372
  v580

def k0_off176 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_cond155 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_17 : BitVec 32 := 2#32
  let v33 : BitVec 1 := Scalar.cmpi .sle v5 c2_i32_17
  let v581 : BitVec 32 := Scalar.extui v33
  let c0_i32_373 : BitVec 32 := 0#32
  let v582 : BitVec 1 := Scalar.cmpi .ne v581 c0_i32_373
  v582

def k0_off177 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_cond156 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_16 : BitVec 32 := 1#32
  let v32 : BitVec 1 := Scalar.cmpi .sge v5 c1_i32_16
  let v583 : BitVec 32 := Scalar.extui v32
  let c0_i32_374 : BitVec 32 := 0#32
  let v584 : BitVec 1 := Scalar.cmpi .ne v583 c0_i32_374
  v584

def k0_off178 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_469 : BitVec 32 := 1024#32
  let v735 : BitVec 32 := Scalar.muli v5 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_cond157 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_375 : BitVec 32 := 1#32
  let v585 : BitVec 1 := Scalar.cmpi .sge v5 c1_i32_375
  let c2_i32_17 : BitVec 32 := 2#32
  let v33 : BitVec 1 := Scalar.cmpi .sle v5 c2_i32_17
  let v591 : BitVec 1 := Scalar.andi v585 v33
  let v592 : BitVec 32 := Scalar.extui v591
  let c0_i32_381 : BitVec 32 := 0#32
  let v593 : BitVec 1 := Scalar.cmpi .ne v592 c0_i32_381
  v593

def k0_off179 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_377 : BitVec 32 := 1#32
  let v587 : BitVec 32 := Scalar.subi v5 c1_i32_377
  let c0_i32_378 : BitVec 32 := 0#32
  let v588 : BitVec 32 := Scalar.subi v587 c0_i32_378
  let c1024_i32_469 : BitVec 32 := 1024#32
  let v735 : BitVec 32 := Scalar.muli v588 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_478 : BitVec 32 := 0#32
  ![v738.toNat, 0]
def k0_cond158 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_376 : BitVec 32 := 2#32
  let v586 : BitVec 1 := Scalar.cmpi .sle v5 c2_i32_376
  let c1_i32_16 : BitVec 32 := 1#32
  let v32 : BitVec 1 := Scalar.cmpi .sge v5 c1_i32_16
  let v594 : BitVec 1 := Scalar.andi v586 v32
  let v595 : BitVec 32 := Scalar.extui v594
  let c0_i32_382 : BitVec 32 := 0#32
  let v596 : BitVec 1 := Scalar.cmpi .ne v595 c0_i32_382
  v596

def k0_off180 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_379 : BitVec 32 := 1#32
  let v589 : BitVec 32 := Scalar.addi v5 c1_i32_379
  let c0_i32_380 : BitVec 32 := 0#32
  let v590 : BitVec 32 := Scalar.addi v589 c0_i32_380
  let c1024_i32_469 : BitVec 32 := 1024#32
  let v735 : BitVec 32 := Scalar.muli v590 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_478 : BitVec 32 := 0#32
  ![v738.toNat, 0]
def k0_cond159 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_375 : BitVec 32 := 1#32
  let v585 : BitVec 1 := Scalar.cmpi .sge v5 c1_i32_375
  let v597 : BitVec 32 := Scalar.extui v585
  let c0_i32_383 : BitVec 32 := 0#32
  let v598 : BitVec 1 := Scalar.cmpi .ne v597 c0_i32_383
  v598

def k0_off181 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_377 : BitVec 32 := 1#32
  let v587 : BitVec 32 := Scalar.subi v5 c1_i32_377
  let c0_i32_378 : BitVec 32 := 0#32
  let v588 : BitVec 32 := Scalar.subi v587 c0_i32_378
  let c1024_i32_469 : BitVec 32 := 1024#32
  let v735 : BitVec 32 := Scalar.muli v588 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_478 : BitVec 32 := 0#32
  ![v738.toNat, 0]
def k0_off182 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_377 : BitVec 32 := 1#32
  let v587 : BitVec 32 := Scalar.subi v5 c1_i32_377
  let c0_i32_378 : BitVec 32 := 0#32
  let v588 : BitVec 32 := Scalar.subi v587 c0_i32_378
  let c1024_i32_491 : BitVec 32 := 1024#32
  let v759 : BitVec 32 := Scalar.muli v588 c1024_i32_491
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_492 : BitVec 32 := 256#32
  let v760 : BitVec 32 := Scalar.muli v26 c256_i32_492
  let v761 : BitVec 32 := Scalar.addi v759 v760
  let c0_i32_493 : BitVec 32 := 0#32
  let v762 : BitVec 32 := Scalar.addi v761 c0_i32_493
  let c0_i32_500 : BitVec 32 := 0#32
  ![v762.toNat, 0]
def k0_cond160 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_376 : BitVec 32 := 2#32
  let v586 : BitVec 1 := Scalar.cmpi .sle v5 c2_i32_376
  let v599 : BitVec 32 := Scalar.extui v586
  let c0_i32_384 : BitVec 32 := 0#32
  let v600 : BitVec 1 := Scalar.cmpi .ne v599 c0_i32_384
  v600

def k0_off183 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_379 : BitVec 32 := 1#32
  let v589 : BitVec 32 := Scalar.addi v5 c1_i32_379
  let c0_i32_380 : BitVec 32 := 0#32
  let v590 : BitVec 32 := Scalar.addi v589 c0_i32_380
  let c1024_i32_469 : BitVec 32 := 1024#32
  let v735 : BitVec 32 := Scalar.muli v590 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_478 : BitVec 32 := 0#32
  ![v738.toNat, 0]
def k0_off184 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_379 : BitVec 32 := 1#32
  let v589 : BitVec 32 := Scalar.addi v5 c1_i32_379
  let c0_i32_380 : BitVec 32 := 0#32
  let v590 : BitVec 32 := Scalar.addi v589 c0_i32_380
  let c1024_i32_491 : BitVec 32 := 1024#32
  let v759 : BitVec 32 := Scalar.muli v590 c1024_i32_491
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_492 : BitVec 32 := 256#32
  let v760 : BitVec 32 := Scalar.muli v26 c256_i32_492
  let v761 : BitVec 32 := Scalar.addi v759 v760
  let c0_i32_493 : BitVec 32 := 0#32
  let v762 : BitVec 32 := Scalar.addi v761 c0_i32_493
  let c0_i32_500 : BitVec 32 := 0#32
  ![v762.toNat, 0]
def k0_cond161 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_375 : BitVec 32 := 1#32
  let v585 : BitVec 1 := Scalar.cmpi .sge v5 c1_i32_375
  let c2_i32_17 : BitVec 32 := 2#32
  let v33 : BitVec 1 := Scalar.cmpi .sle v5 c2_i32_17
  let v605 : BitVec 1 := Scalar.andi v585 v33
  let v606 : BitVec 32 := Scalar.extui v605
  let c0_i32_389 : BitVec 32 := 0#32
  let v607 : BitVec 1 := Scalar.cmpi .ne v606 c0_i32_389
  v607

def k0_off185 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_385 : BitVec 32 := 1#32
  let v601 : BitVec 32 := Scalar.subi v5 c1_i32_385
  let c0_i32_386 : BitVec 32 := 0#32
  let v602 : BitVec 32 := Scalar.subi v601 c0_i32_386
  let c1024_i32_469 : BitVec 32 := 1024#32
  let v735 : BitVec 32 := Scalar.muli v602 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_cond162 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_376 : BitVec 32 := 2#32
  let v586 : BitVec 1 := Scalar.cmpi .sle v5 c2_i32_376
  let c1_i32_16 : BitVec 32 := 1#32
  let v32 : BitVec 1 := Scalar.cmpi .sge v5 c1_i32_16
  let v608 : BitVec 1 := Scalar.andi v586 v32
  let v609 : BitVec 32 := Scalar.extui v608
  let c0_i32_390 : BitVec 32 := 0#32
  let v610 : BitVec 1 := Scalar.cmpi .ne v609 c0_i32_390
  v610

def k0_off186 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_387 : BitVec 32 := 1#32
  let v603 : BitVec 32 := Scalar.addi v5 c1_i32_387
  let c0_i32_388 : BitVec 32 := 0#32
  let v604 : BitVec 32 := Scalar.addi v603 c0_i32_388
  let c1024_i32_469 : BitVec 32 := 1024#32
  let v735 : BitVec 32 := Scalar.muli v604 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_cond163 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_375 : BitVec 32 := 1#32
  let v585 : BitVec 1 := Scalar.cmpi .sge v5 c1_i32_375
  let v611 : BitVec 32 := Scalar.extui v585
  let c0_i32_391 : BitVec 32 := 0#32
  let v612 : BitVec 1 := Scalar.cmpi .ne v611 c0_i32_391
  v612

def k0_off187 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_385 : BitVec 32 := 1#32
  let v601 : BitVec 32 := Scalar.subi v5 c1_i32_385
  let c0_i32_386 : BitVec 32 := 0#32
  let v602 : BitVec 32 := Scalar.subi v601 c0_i32_386
  let c1024_i32_469 : BitVec 32 := 1024#32
  let v735 : BitVec 32 := Scalar.muli v602 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_477 : BitVec 32 := 0#32
  ![v738.toNat, 0]
def k0_off188 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_385 : BitVec 32 := 1#32
  let v601 : BitVec 32 := Scalar.subi v5 c1_i32_385
  let c0_i32_386 : BitVec 32 := 0#32
  let v602 : BitVec 32 := Scalar.subi v601 c0_i32_386
  let c1024_i32_490 : BitVec 32 := 1024#32
  let v759 : BitVec 32 := Scalar.muli v602 c1024_i32_490
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_491 : BitVec 32 := 256#32
  let v760 : BitVec 32 := Scalar.muli v29 c256_i32_491
  let v761 : BitVec 32 := Scalar.addi v759 v760
  let c64_i32_492 : BitVec 32 := 64#32
  let v762 : BitVec 32 := Scalar.addi v761 c64_i32_492
  let c0_i32_499 : BitVec 32 := 0#32
  ![v762.toNat, 0]
def k0_cond164 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_376 : BitVec 32 := 2#32
  let v586 : BitVec 1 := Scalar.cmpi .sle v5 c2_i32_376
  let v613 : BitVec 32 := Scalar.extui v586
  let c0_i32_392 : BitVec 32 := 0#32
  let v614 : BitVec 1 := Scalar.cmpi .ne v613 c0_i32_392
  v614

def k0_off189 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_387 : BitVec 32 := 1#32
  let v603 : BitVec 32 := Scalar.addi v5 c1_i32_387
  let c0_i32_388 : BitVec 32 := 0#32
  let v604 : BitVec 32 := Scalar.addi v603 c0_i32_388
  let c1024_i32_469 : BitVec 32 := 1024#32
  let v735 : BitVec 32 := Scalar.muli v604 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_477 : BitVec 32 := 0#32
  ![v738.toNat, 0]
def k0_off190 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_387 : BitVec 32 := 1#32
  let v603 : BitVec 32 := Scalar.addi v5 c1_i32_387
  let c0_i32_388 : BitVec 32 := 0#32
  let v604 : BitVec 32 := Scalar.addi v603 c0_i32_388
  let c1024_i32_490 : BitVec 32 := 1024#32
  let v759 : BitVec 32 := Scalar.muli v604 c1024_i32_490
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_491 : BitVec 32 := 256#32
  let v760 : BitVec 32 := Scalar.muli v29 c256_i32_491
  let v761 : BitVec 32 := Scalar.addi v759 v760
  let c64_i32_492 : BitVec 32 := 64#32
  let v762 : BitVec 32 := Scalar.addi v761 c64_i32_492
  let c0_i32_499 : BitVec 32 := 0#32
  ![v762.toNat, 0]
def k0_cond165 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_375 : BitVec 32 := 1#32
  let v585 : BitVec 1 := Scalar.cmpi .sge v5 c1_i32_375
  let c2_i32_17 : BitVec 32 := 2#32
  let v33 : BitVec 1 := Scalar.cmpi .sle v5 c2_i32_17
  let v619 : BitVec 1 := Scalar.andi v585 v33
  let v620 : BitVec 32 := Scalar.extui v619
  let c0_i32_397 : BitVec 32 := 0#32
  let v621 : BitVec 1 := Scalar.cmpi .ne v620 c0_i32_397
  v621

def k0_off191 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_393 : BitVec 32 := 1#32
  let v615 : BitVec 32 := Scalar.subi v5 c1_i32_393
  let c0_i32_394 : BitVec 32 := 0#32
  let v616 : BitVec 32 := Scalar.subi v615 c0_i32_394
  let c1024_i32_469 : BitVec 32 := 1024#32
  let v735 : BitVec 32 := Scalar.muli v616 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_cond166 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_376 : BitVec 32 := 2#32
  let v586 : BitVec 1 := Scalar.cmpi .sle v5 c2_i32_376
  let c1_i32_16 : BitVec 32 := 1#32
  let v32 : BitVec 1 := Scalar.cmpi .sge v5 c1_i32_16
  let v622 : BitVec 1 := Scalar.andi v586 v32
  let v623 : BitVec 32 := Scalar.extui v622
  let c0_i32_398 : BitVec 32 := 0#32
  let v624 : BitVec 1 := Scalar.cmpi .ne v623 c0_i32_398
  v624

def k0_off192 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v617 : BitVec 32 := Scalar.addi v5 c1_i32_395
  let c0_i32_396 : BitVec 32 := 0#32
  let v618 : BitVec 32 := Scalar.addi v617 c0_i32_396
  let c1024_i32_469 : BitVec 32 := 1024#32
  let v735 : BitVec 32 := Scalar.muli v618 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_cond167 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_375 : BitVec 32 := 1#32
  let v585 : BitVec 1 := Scalar.cmpi .sge v5 c1_i32_375
  let v625 : BitVec 32 := Scalar.extui v585
  let c0_i32_399 : BitVec 32 := 0#32
  let v626 : BitVec 1 := Scalar.cmpi .ne v625 c0_i32_399
  v626

def k0_off193 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_393 : BitVec 32 := 1#32
  let v615 : BitVec 32 := Scalar.subi v5 c1_i32_393
  let c0_i32_394 : BitVec 32 := 0#32
  let v616 : BitVec 32 := Scalar.subi v615 c0_i32_394
  let c1024_i32_469 : BitVec 32 := 1024#32
  let v735 : BitVec 32 := Scalar.muli v616 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_477 : BitVec 32 := 0#32
  ![v738.toNat, 0]
def k0_off194 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_393 : BitVec 32 := 1#32
  let v615 : BitVec 32 := Scalar.subi v5 c1_i32_393
  let c0_i32_394 : BitVec 32 := 0#32
  let v616 : BitVec 32 := Scalar.subi v615 c0_i32_394
  let c1024_i32_490 : BitVec 32 := 1024#32
  let v759 : BitVec 32 := Scalar.muli v616 c1024_i32_490
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_491 : BitVec 32 := 256#32
  let v760 : BitVec 32 := Scalar.muli v26 c256_i32_491
  let v761 : BitVec 32 := Scalar.addi v759 v760
  let c128_i32_492 : BitVec 32 := 128#32
  let v762 : BitVec 32 := Scalar.addi v761 c128_i32_492
  let c0_i32_499 : BitVec 32 := 0#32
  ![v762.toNat, 0]
def k0_cond168 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_376 : BitVec 32 := 2#32
  let v586 : BitVec 1 := Scalar.cmpi .sle v5 c2_i32_376
  let v627 : BitVec 32 := Scalar.extui v586
  let c0_i32_400 : BitVec 32 := 0#32
  let v628 : BitVec 1 := Scalar.cmpi .ne v627 c0_i32_400
  v628

def k0_off195 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v617 : BitVec 32 := Scalar.addi v5 c1_i32_395
  let c0_i32_396 : BitVec 32 := 0#32
  let v618 : BitVec 32 := Scalar.addi v617 c0_i32_396
  let c1024_i32_469 : BitVec 32 := 1024#32
  let v735 : BitVec 32 := Scalar.muli v618 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_477 : BitVec 32 := 0#32
  ![v738.toNat, 0]
def k0_off196 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v617 : BitVec 32 := Scalar.addi v5 c1_i32_395
  let c0_i32_396 : BitVec 32 := 0#32
  let v618 : BitVec 32 := Scalar.addi v617 c0_i32_396
  let c1024_i32_490 : BitVec 32 := 1024#32
  let v759 : BitVec 32 := Scalar.muli v618 c1024_i32_490
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_491 : BitVec 32 := 256#32
  let v760 : BitVec 32 := Scalar.muli v26 c256_i32_491
  let v761 : BitVec 32 := Scalar.addi v759 v760
  let c128_i32_492 : BitVec 32 := 128#32
  let v762 : BitVec 32 := Scalar.addi v761 c128_i32_492
  let c0_i32_499 : BitVec 32 := 0#32
  ![v762.toNat, 0]
def k0_cond169 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_375 : BitVec 32 := 1#32
  let v585 : BitVec 1 := Scalar.cmpi .sge v5 c1_i32_375
  let c2_i32_17 : BitVec 32 := 2#32
  let v33 : BitVec 1 := Scalar.cmpi .sle v5 c2_i32_17
  let v633 : BitVec 1 := Scalar.andi v585 v33
  let v634 : BitVec 32 := Scalar.extui v633
  let c0_i32_405 : BitVec 32 := 0#32
  let v635 : BitVec 1 := Scalar.cmpi .ne v634 c0_i32_405
  v635

def k0_off197 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_401 : BitVec 32 := 1#32
  let v629 : BitVec 32 := Scalar.subi v5 c1_i32_401
  let c0_i32_402 : BitVec 32 := 0#32
  let v630 : BitVec 32 := Scalar.subi v629 c0_i32_402
  let c1024_i32_469 : BitVec 32 := 1024#32
  let v735 : BitVec 32 := Scalar.muli v630 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_cond170 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_376 : BitVec 32 := 2#32
  let v586 : BitVec 1 := Scalar.cmpi .sle v5 c2_i32_376
  let c1_i32_16 : BitVec 32 := 1#32
  let v32 : BitVec 1 := Scalar.cmpi .sge v5 c1_i32_16
  let v636 : BitVec 1 := Scalar.andi v586 v32
  let v637 : BitVec 32 := Scalar.extui v636
  let c0_i32_406 : BitVec 32 := 0#32
  let v638 : BitVec 1 := Scalar.cmpi .ne v637 c0_i32_406
  v638

def k0_off198 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_403 : BitVec 32 := 1#32
  let v631 : BitVec 32 := Scalar.addi v5 c1_i32_403
  let c0_i32_404 : BitVec 32 := 0#32
  let v632 : BitVec 32 := Scalar.addi v631 c0_i32_404
  let c1024_i32_469 : BitVec 32 := 1024#32
  let v735 : BitVec 32 := Scalar.muli v632 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_cond171 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_375 : BitVec 32 := 1#32
  let v585 : BitVec 1 := Scalar.cmpi .sge v5 c1_i32_375
  let v639 : BitVec 32 := Scalar.extui v585
  let c0_i32_407 : BitVec 32 := 0#32
  let v640 : BitVec 1 := Scalar.cmpi .ne v639 c0_i32_407
  v640

def k0_off199 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_401 : BitVec 32 := 1#32
  let v629 : BitVec 32 := Scalar.subi v5 c1_i32_401
  let c0_i32_402 : BitVec 32 := 0#32
  let v630 : BitVec 32 := Scalar.subi v629 c0_i32_402
  let c1024_i32_469 : BitVec 32 := 1024#32
  let v735 : BitVec 32 := Scalar.muli v630 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_477 : BitVec 32 := 0#32
  ![v738.toNat, 0]
def k0_off200 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_401 : BitVec 32 := 1#32
  let v629 : BitVec 32 := Scalar.subi v5 c1_i32_401
  let c0_i32_402 : BitVec 32 := 0#32
  let v630 : BitVec 32 := Scalar.subi v629 c0_i32_402
  let c1024_i32_490 : BitVec 32 := 1024#32
  let v759 : BitVec 32 := Scalar.muli v630 c1024_i32_490
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_491 : BitVec 32 := 256#32
  let v760 : BitVec 32 := Scalar.muli v29 c256_i32_491
  let v761 : BitVec 32 := Scalar.addi v759 v760
  let c192_i32_492 : BitVec 32 := 192#32
  let v762 : BitVec 32 := Scalar.addi v761 c192_i32_492
  let c0_i32_499 : BitVec 32 := 0#32
  ![v762.toNat, 0]
def k0_cond172 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_376 : BitVec 32 := 2#32
  let v586 : BitVec 1 := Scalar.cmpi .sle v5 c2_i32_376
  let v641 : BitVec 32 := Scalar.extui v586
  let c0_i32_408 : BitVec 32 := 0#32
  let v642 : BitVec 1 := Scalar.cmpi .ne v641 c0_i32_408
  v642

def k0_off201 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_403 : BitVec 32 := 1#32
  let v631 : BitVec 32 := Scalar.addi v5 c1_i32_403
  let c0_i32_404 : BitVec 32 := 0#32
  let v632 : BitVec 32 := Scalar.addi v631 c0_i32_404
  let c1024_i32_469 : BitVec 32 := 1024#32
  let v735 : BitVec 32 := Scalar.muli v632 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_477 : BitVec 32 := 0#32
  ![v738.toNat, 0]
def k0_off202 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_403 : BitVec 32 := 1#32
  let v631 : BitVec 32 := Scalar.addi v5 c1_i32_403
  let c0_i32_404 : BitVec 32 := 0#32
  let v632 : BitVec 32 := Scalar.addi v631 c0_i32_404
  let c1024_i32_490 : BitVec 32 := 1024#32
  let v759 : BitVec 32 := Scalar.muli v632 c1024_i32_490
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_491 : BitVec 32 := 256#32
  let v760 : BitVec 32 := Scalar.muli v29 c256_i32_491
  let v761 : BitVec 32 := Scalar.addi v759 v760
  let c192_i32_492 : BitVec 32 := 192#32
  let v762 : BitVec 32 := Scalar.addi v761 c192_i32_492
  let c0_i32_499 : BitVec 32 := 0#32
  ![v762.toNat, 0]
def k0_cond173 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_409 : BitVec 32 := 2#32
  let v643 : BitVec 1 := Scalar.cmpi .sge v5 c2_i32_409
  let c2_i32_17 : BitVec 32 := 2#32
  let v33 : BitVec 1 := Scalar.cmpi .sle v5 c2_i32_17
  let v649 : BitVec 1 := Scalar.andi v643 v33
  let v650 : BitVec 32 := Scalar.extui v649
  let c0_i32_415 : BitVec 32 := 0#32
  let v651 : BitVec 1 := Scalar.cmpi .ne v650 c0_i32_415
  v651

def k0_off203 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_411 : BitVec 32 := 1#32
  let v645 : BitVec 32 := Scalar.subi v5 c1_i32_411
  let c1_i32_412 : BitVec 32 := 1#32
  let v646 : BitVec 32 := Scalar.subi v645 c1_i32_412
  let c1024_i32_469 : BitVec 32 := 1024#32
  let v735 : BitVec 32 := Scalar.muli v646 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_477 : BitVec 32 := 0#32
  ![v738.toNat, 0]
def k0_cond174 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_410 : BitVec 32 := 1#32
  let v644 : BitVec 1 := Scalar.cmpi .sle v5 c1_i32_410
  let c1_i32_16 : BitVec 32 := 1#32
  let v32 : BitVec 1 := Scalar.cmpi .sge v5 c1_i32_16
  let v652 : BitVec 1 := Scalar.andi v644 v32
  let v653 : BitVec 32 := Scalar.extui v652
  let c0_i32_416 : BitVec 32 := 0#32
  let v654 : BitVec 1 := Scalar.cmpi .ne v653 c0_i32_416
  v654

def k0_off204 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_413 : BitVec 32 := 1#32
  let v647 : BitVec 32 := Scalar.addi v5 c1_i32_413
  let c1_i32_414 : BitVec 32 := 1#32
  let v648 : BitVec 32 := Scalar.addi v647 c1_i32_414
  let c1024_i32_469 : BitVec 32 := 1024#32
  let v735 : BitVec 32 := Scalar.muli v648 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_477 : BitVec 32 := 0#32
  ![v738.toNat, 0]
def k0_cond175 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_409 : BitVec 32 := 2#32
  let v643 : BitVec 1 := Scalar.cmpi .sge v5 c2_i32_409
  let v655 : BitVec 32 := Scalar.extui v643
  let c0_i32_417 : BitVec 32 := 0#32
  let v656 : BitVec 1 := Scalar.cmpi .ne v655 c0_i32_417
  v656

def k0_off205 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_411 : BitVec 32 := 1#32
  let v645 : BitVec 32 := Scalar.subi v5 c1_i32_411
  let c1_i32_412 : BitVec 32 := 1#32
  let v646 : BitVec 32 := Scalar.subi v645 c1_i32_412
  let c1024_i32_469 : BitVec 32 := 1024#32
  let v735 : BitVec 32 := Scalar.muli v646 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_478 : BitVec 32 := 0#32
  ![v738.toNat, 0]
def k0_off206 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_411 : BitVec 32 := 1#32
  let v645 : BitVec 32 := Scalar.subi v5 c1_i32_411
  let c1_i32_412 : BitVec 32 := 1#32
  let v646 : BitVec 32 := Scalar.subi v645 c1_i32_412
  let c1024_i32_491 : BitVec 32 := 1024#32
  let v759 : BitVec 32 := Scalar.muli v646 c1024_i32_491
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_492 : BitVec 32 := 256#32
  let v760 : BitVec 32 := Scalar.muli v26 c256_i32_492
  let v761 : BitVec 32 := Scalar.addi v759 v760
  let c0_i32_493 : BitVec 32 := 0#32
  let v762 : BitVec 32 := Scalar.addi v761 c0_i32_493
  let c0_i32_500 : BitVec 32 := 0#32
  ![v762.toNat, 0]
def k0_cond176 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_410 : BitVec 32 := 1#32
  let v644 : BitVec 1 := Scalar.cmpi .sle v5 c1_i32_410
  let v657 : BitVec 32 := Scalar.extui v644
  let c0_i32_418 : BitVec 32 := 0#32
  let v658 : BitVec 1 := Scalar.cmpi .ne v657 c0_i32_418
  v658

def k0_off207 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_413 : BitVec 32 := 1#32
  let v647 : BitVec 32 := Scalar.addi v5 c1_i32_413
  let c1_i32_414 : BitVec 32 := 1#32
  let v648 : BitVec 32 := Scalar.addi v647 c1_i32_414
  let c1024_i32_469 : BitVec 32 := 1024#32
  let v735 : BitVec 32 := Scalar.muli v648 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_478 : BitVec 32 := 0#32
  ![v738.toNat, 0]
def k0_off208 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_413 : BitVec 32 := 1#32
  let v647 : BitVec 32 := Scalar.addi v5 c1_i32_413
  let c1_i32_414 : BitVec 32 := 1#32
  let v648 : BitVec 32 := Scalar.addi v647 c1_i32_414
  let c1024_i32_491 : BitVec 32 := 1024#32
  let v759 : BitVec 32 := Scalar.muli v648 c1024_i32_491
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_492 : BitVec 32 := 256#32
  let v760 : BitVec 32 := Scalar.muli v26 c256_i32_492
  let v761 : BitVec 32 := Scalar.addi v759 v760
  let c0_i32_493 : BitVec 32 := 0#32
  let v762 : BitVec 32 := Scalar.addi v761 c0_i32_493
  let c0_i32_500 : BitVec 32 := 0#32
  ![v762.toNat, 0]
def k0_cond177 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_409 : BitVec 32 := 2#32
  let v643 : BitVec 1 := Scalar.cmpi .sge v5 c2_i32_409
  let c2_i32_17 : BitVec 32 := 2#32
  let v33 : BitVec 1 := Scalar.cmpi .sle v5 c2_i32_17
  let v663 : BitVec 1 := Scalar.andi v643 v33
  let v664 : BitVec 32 := Scalar.extui v663
  let c0_i32_423 : BitVec 32 := 0#32
  let v665 : BitVec 1 := Scalar.cmpi .ne v664 c0_i32_423
  v665

def k0_off209 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_419 : BitVec 32 := 1#32
  let v659 : BitVec 32 := Scalar.subi v5 c1_i32_419
  let c1_i32_420 : BitVec 32 := 1#32
  let v660 : BitVec 32 := Scalar.subi v659 c1_i32_420
  let c1024_i32_469 : BitVec 32 := 1024#32
  let v735 : BitVec 32 := Scalar.muli v660 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_cond178 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_410 : BitVec 32 := 1#32
  let v644 : BitVec 1 := Scalar.cmpi .sle v5 c1_i32_410
  let c1_i32_16 : BitVec 32 := 1#32
  let v32 : BitVec 1 := Scalar.cmpi .sge v5 c1_i32_16
  let v666 : BitVec 1 := Scalar.andi v644 v32
  let v667 : BitVec 32 := Scalar.extui v666
  let c0_i32_424 : BitVec 32 := 0#32
  let v668 : BitVec 1 := Scalar.cmpi .ne v667 c0_i32_424
  v668

def k0_off210 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_421 : BitVec 32 := 1#32
  let v661 : BitVec 32 := Scalar.addi v5 c1_i32_421
  let c1_i32_422 : BitVec 32 := 1#32
  let v662 : BitVec 32 := Scalar.addi v661 c1_i32_422
  let c1024_i32_469 : BitVec 32 := 1024#32
  let v735 : BitVec 32 := Scalar.muli v662 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_cond179 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_409 : BitVec 32 := 2#32
  let v643 : BitVec 1 := Scalar.cmpi .sge v5 c2_i32_409
  let v669 : BitVec 32 := Scalar.extui v643
  let c0_i32_425 : BitVec 32 := 0#32
  let v670 : BitVec 1 := Scalar.cmpi .ne v669 c0_i32_425
  v670

def k0_off211 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_419 : BitVec 32 := 1#32
  let v659 : BitVec 32 := Scalar.subi v5 c1_i32_419
  let c1_i32_420 : BitVec 32 := 1#32
  let v660 : BitVec 32 := Scalar.subi v659 c1_i32_420
  let c1024_i32_469 : BitVec 32 := 1024#32
  let v735 : BitVec 32 := Scalar.muli v660 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_off212 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_419 : BitVec 32 := 1#32
  let v659 : BitVec 32 := Scalar.subi v5 c1_i32_419
  let c1_i32_420 : BitVec 32 := 1#32
  let v660 : BitVec 32 := Scalar.subi v659 c1_i32_420
  let c1024_i32_489 : BitVec 32 := 1024#32
  let v759 : BitVec 32 := Scalar.muli v660 c1024_i32_489
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_490 : BitVec 32 := 256#32
  let v760 : BitVec 32 := Scalar.muli v29 c256_i32_490
  let v761 : BitVec 32 := Scalar.addi v759 v760
  let c64_i32_491 : BitVec 32 := 64#32
  let v762 : BitVec 32 := Scalar.addi v761 c64_i32_491
  let c0_i32_498 : BitVec 32 := 0#32
  ![v762.toNat, 0]
def k0_cond180 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_410 : BitVec 32 := 1#32
  let v644 : BitVec 1 := Scalar.cmpi .sle v5 c1_i32_410
  let v671 : BitVec 32 := Scalar.extui v644
  let c0_i32_426 : BitVec 32 := 0#32
  let v672 : BitVec 1 := Scalar.cmpi .ne v671 c0_i32_426
  v672

def k0_off213 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_421 : BitVec 32 := 1#32
  let v661 : BitVec 32 := Scalar.addi v5 c1_i32_421
  let c1_i32_422 : BitVec 32 := 1#32
  let v662 : BitVec 32 := Scalar.addi v661 c1_i32_422
  let c1024_i32_469 : BitVec 32 := 1024#32
  let v735 : BitVec 32 := Scalar.muli v662 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_off214 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_421 : BitVec 32 := 1#32
  let v661 : BitVec 32 := Scalar.addi v5 c1_i32_421
  let c1_i32_422 : BitVec 32 := 1#32
  let v662 : BitVec 32 := Scalar.addi v661 c1_i32_422
  let c1024_i32_489 : BitVec 32 := 1024#32
  let v759 : BitVec 32 := Scalar.muli v662 c1024_i32_489
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_490 : BitVec 32 := 256#32
  let v760 : BitVec 32 := Scalar.muli v29 c256_i32_490
  let v761 : BitVec 32 := Scalar.addi v759 v760
  let c64_i32_491 : BitVec 32 := 64#32
  let v762 : BitVec 32 := Scalar.addi v761 c64_i32_491
  let c0_i32_498 : BitVec 32 := 0#32
  ![v762.toNat, 0]
def k0_cond181 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_409 : BitVec 32 := 2#32
  let v643 : BitVec 1 := Scalar.cmpi .sge v5 c2_i32_409
  let c2_i32_17 : BitVec 32 := 2#32
  let v33 : BitVec 1 := Scalar.cmpi .sle v5 c2_i32_17
  let v677 : BitVec 1 := Scalar.andi v643 v33
  let v678 : BitVec 32 := Scalar.extui v677
  let c0_i32_431 : BitVec 32 := 0#32
  let v679 : BitVec 1 := Scalar.cmpi .ne v678 c0_i32_431
  v679

def k0_off215 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_427 : BitVec 32 := 1#32
  let v673 : BitVec 32 := Scalar.subi v5 c1_i32_427
  let c1_i32_428 : BitVec 32 := 1#32
  let v674 : BitVec 32 := Scalar.subi v673 c1_i32_428
  let c1024_i32_469 : BitVec 32 := 1024#32
  let v735 : BitVec 32 := Scalar.muli v674 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_cond182 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_410 : BitVec 32 := 1#32
  let v644 : BitVec 1 := Scalar.cmpi .sle v5 c1_i32_410
  let c1_i32_16 : BitVec 32 := 1#32
  let v32 : BitVec 1 := Scalar.cmpi .sge v5 c1_i32_16
  let v680 : BitVec 1 := Scalar.andi v644 v32
  let v681 : BitVec 32 := Scalar.extui v680
  let c0_i32_432 : BitVec 32 := 0#32
  let v682 : BitVec 1 := Scalar.cmpi .ne v681 c0_i32_432
  v682

def k0_off216 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_429 : BitVec 32 := 1#32
  let v675 : BitVec 32 := Scalar.addi v5 c1_i32_429
  let c1_i32_430 : BitVec 32 := 1#32
  let v676 : BitVec 32 := Scalar.addi v675 c1_i32_430
  let c1024_i32_469 : BitVec 32 := 1024#32
  let v735 : BitVec 32 := Scalar.muli v676 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_cond183 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_409 : BitVec 32 := 2#32
  let v643 : BitVec 1 := Scalar.cmpi .sge v5 c2_i32_409
  let v683 : BitVec 32 := Scalar.extui v643
  let c0_i32_433 : BitVec 32 := 0#32
  let v684 : BitVec 1 := Scalar.cmpi .ne v683 c0_i32_433
  v684

def k0_off217 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_427 : BitVec 32 := 1#32
  let v673 : BitVec 32 := Scalar.subi v5 c1_i32_427
  let c1_i32_428 : BitVec 32 := 1#32
  let v674 : BitVec 32 := Scalar.subi v673 c1_i32_428
  let c1024_i32_469 : BitVec 32 := 1024#32
  let v735 : BitVec 32 := Scalar.muli v674 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_off218 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_427 : BitVec 32 := 1#32
  let v673 : BitVec 32 := Scalar.subi v5 c1_i32_427
  let c1_i32_428 : BitVec 32 := 1#32
  let v674 : BitVec 32 := Scalar.subi v673 c1_i32_428
  let c1024_i32_489 : BitVec 32 := 1024#32
  let v759 : BitVec 32 := Scalar.muli v674 c1024_i32_489
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_490 : BitVec 32 := 256#32
  let v760 : BitVec 32 := Scalar.muli v26 c256_i32_490
  let v761 : BitVec 32 := Scalar.addi v759 v760
  let c128_i32_491 : BitVec 32 := 128#32
  let v762 : BitVec 32 := Scalar.addi v761 c128_i32_491
  let c0_i32_498 : BitVec 32 := 0#32
  ![v762.toNat, 0]
def k0_cond184 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_410 : BitVec 32 := 1#32
  let v644 : BitVec 1 := Scalar.cmpi .sle v5 c1_i32_410
  let v685 : BitVec 32 := Scalar.extui v644
  let c0_i32_434 : BitVec 32 := 0#32
  let v686 : BitVec 1 := Scalar.cmpi .ne v685 c0_i32_434
  v686

def k0_off219 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_429 : BitVec 32 := 1#32
  let v675 : BitVec 32 := Scalar.addi v5 c1_i32_429
  let c1_i32_430 : BitVec 32 := 1#32
  let v676 : BitVec 32 := Scalar.addi v675 c1_i32_430
  let c1024_i32_469 : BitVec 32 := 1024#32
  let v735 : BitVec 32 := Scalar.muli v676 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_off220 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_429 : BitVec 32 := 1#32
  let v675 : BitVec 32 := Scalar.addi v5 c1_i32_429
  let c1_i32_430 : BitVec 32 := 1#32
  let v676 : BitVec 32 := Scalar.addi v675 c1_i32_430
  let c1024_i32_489 : BitVec 32 := 1024#32
  let v759 : BitVec 32 := Scalar.muli v676 c1024_i32_489
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_490 : BitVec 32 := 256#32
  let v760 : BitVec 32 := Scalar.muli v26 c256_i32_490
  let v761 : BitVec 32 := Scalar.addi v759 v760
  let c128_i32_491 : BitVec 32 := 128#32
  let v762 : BitVec 32 := Scalar.addi v761 c128_i32_491
  let c0_i32_498 : BitVec 32 := 0#32
  ![v762.toNat, 0]
def k0_cond185 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_409 : BitVec 32 := 2#32
  let v643 : BitVec 1 := Scalar.cmpi .sge v5 c2_i32_409
  let c2_i32_17 : BitVec 32 := 2#32
  let v33 : BitVec 1 := Scalar.cmpi .sle v5 c2_i32_17
  let v691 : BitVec 1 := Scalar.andi v643 v33
  let v692 : BitVec 32 := Scalar.extui v691
  let c0_i32_439 : BitVec 32 := 0#32
  let v693 : BitVec 1 := Scalar.cmpi .ne v692 c0_i32_439
  v693

def k0_off221 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_435 : BitVec 32 := 1#32
  let v687 : BitVec 32 := Scalar.subi v5 c1_i32_435
  let c1_i32_436 : BitVec 32 := 1#32
  let v688 : BitVec 32 := Scalar.subi v687 c1_i32_436
  let c1024_i32_469 : BitVec 32 := 1024#32
  let v735 : BitVec 32 := Scalar.muli v688 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_cond186 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_410 : BitVec 32 := 1#32
  let v644 : BitVec 1 := Scalar.cmpi .sle v5 c1_i32_410
  let c1_i32_16 : BitVec 32 := 1#32
  let v32 : BitVec 1 := Scalar.cmpi .sge v5 c1_i32_16
  let v694 : BitVec 1 := Scalar.andi v644 v32
  let v695 : BitVec 32 := Scalar.extui v694
  let c0_i32_440 : BitVec 32 := 0#32
  let v696 : BitVec 1 := Scalar.cmpi .ne v695 c0_i32_440
  v696

def k0_off222 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_437 : BitVec 32 := 1#32
  let v689 : BitVec 32 := Scalar.addi v5 c1_i32_437
  let c1_i32_438 : BitVec 32 := 1#32
  let v690 : BitVec 32 := Scalar.addi v689 c1_i32_438
  let c1024_i32_469 : BitVec 32 := 1024#32
  let v735 : BitVec 32 := Scalar.muli v690 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_cond187 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_409 : BitVec 32 := 2#32
  let v643 : BitVec 1 := Scalar.cmpi .sge v5 c2_i32_409
  let v697 : BitVec 32 := Scalar.extui v643
  let c0_i32_441 : BitVec 32 := 0#32
  let v698 : BitVec 1 := Scalar.cmpi .ne v697 c0_i32_441
  v698

def k0_off223 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_435 : BitVec 32 := 1#32
  let v687 : BitVec 32 := Scalar.subi v5 c1_i32_435
  let c1_i32_436 : BitVec 32 := 1#32
  let v688 : BitVec 32 := Scalar.subi v687 c1_i32_436
  let c1024_i32_469 : BitVec 32 := 1024#32
  let v735 : BitVec 32 := Scalar.muli v688 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_off224 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_435 : BitVec 32 := 1#32
  let v687 : BitVec 32 := Scalar.subi v5 c1_i32_435
  let c1_i32_436 : BitVec 32 := 1#32
  let v688 : BitVec 32 := Scalar.subi v687 c1_i32_436
  let c1024_i32_489 : BitVec 32 := 1024#32
  let v759 : BitVec 32 := Scalar.muli v688 c1024_i32_489
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_490 : BitVec 32 := 256#32
  let v760 : BitVec 32 := Scalar.muli v29 c256_i32_490
  let v761 : BitVec 32 := Scalar.addi v759 v760
  let c192_i32_491 : BitVec 32 := 192#32
  let v762 : BitVec 32 := Scalar.addi v761 c192_i32_491
  let c0_i32_498 : BitVec 32 := 0#32
  ![v762.toNat, 0]
def k0_cond188 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_410 : BitVec 32 := 1#32
  let v644 : BitVec 1 := Scalar.cmpi .sle v5 c1_i32_410
  let v699 : BitVec 32 := Scalar.extui v644
  let c0_i32_442 : BitVec 32 := 0#32
  let v700 : BitVec 1 := Scalar.cmpi .ne v699 c0_i32_442
  v700

def k0_off225 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_437 : BitVec 32 := 1#32
  let v689 : BitVec 32 := Scalar.addi v5 c1_i32_437
  let c1_i32_438 : BitVec 32 := 1#32
  let v690 : BitVec 32 := Scalar.addi v689 c1_i32_438
  let c1024_i32_469 : BitVec 32 := 1024#32
  let v735 : BitVec 32 := Scalar.muli v690 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_off226 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_437 : BitVec 32 := 1#32
  let v689 : BitVec 32 := Scalar.addi v5 c1_i32_437
  let c1_i32_438 : BitVec 32 := 1#32
  let v690 : BitVec 32 := Scalar.addi v689 c1_i32_438
  let c1024_i32_489 : BitVec 32 := 1024#32
  let v759 : BitVec 32 := Scalar.muli v690 c1024_i32_489
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_490 : BitVec 32 := 256#32
  let v760 : BitVec 32 := Scalar.muli v29 c256_i32_490
  let v761 : BitVec 32 := Scalar.addi v759 v760
  let c192_i32_491 : BitVec 32 := 192#32
  let v762 : BitVec 32 := Scalar.addi v761 c192_i32_491
  let c0_i32_498 : BitVec 32 := 0#32
  ![v762.toNat, 0]
def k0_cond189 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_443 : BitVec 32 := 3#32
  let v701 : BitVec 1 := Scalar.cmpi .sge v5 c3_i32_443
  let v707 : BitVec 32 := Scalar.extui v701
  let c0_i32_449 : BitVec 32 := 0#32
  let v708 : BitVec 1 := Scalar.cmpi .ne v707 c0_i32_449
  v708

def k0_off227 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_445 : BitVec 32 := 1#32
  let v703 : BitVec 32 := Scalar.subi v5 c1_i32_445
  let c2_i32_446 : BitVec 32 := 2#32
  let v704 : BitVec 32 := Scalar.subi v703 c2_i32_446
  let c1024_i32_469 : BitVec 32 := 1024#32
  let v735 : BitVec 32 := Scalar.muli v704 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_477 : BitVec 32 := 0#32
  ![v738.toNat, 0]
def k0_off228 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_445 : BitVec 32 := 1#32
  let v703 : BitVec 32 := Scalar.subi v5 c1_i32_445
  let c2_i32_446 : BitVec 32 := 2#32
  let v704 : BitVec 32 := Scalar.subi v703 c2_i32_446
  let c1024_i32_490 : BitVec 32 := 1024#32
  let v759 : BitVec 32 := Scalar.muli v704 c1024_i32_490
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_491 : BitVec 32 := 256#32
  let v760 : BitVec 32 := Scalar.muli v26 c256_i32_491
  let v761 : BitVec 32 := Scalar.addi v759 v760
  let c0_i32_492 : BitVec 32 := 0#32
  let v762 : BitVec 32 := Scalar.addi v761 c0_i32_492
  let c0_i32_499 : BitVec 32 := 0#32
  ![v762.toNat, 0]
def k0_cond190 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_444 : BitVec 32 := 0#32
  let v702 : BitVec 1 := Scalar.cmpi .sle v5 c0_i32_444
  let v709 : BitVec 32 := Scalar.extui v702
  let c0_i32_450 : BitVec 32 := 0#32
  let v710 : BitVec 1 := Scalar.cmpi .ne v709 c0_i32_450
  v710

def k0_off229 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_447 : BitVec 32 := 1#32
  let v705 : BitVec 32 := Scalar.addi v5 c1_i32_447
  let c2_i32_448 : BitVec 32 := 2#32
  let v706 : BitVec 32 := Scalar.addi v705 c2_i32_448
  let c1024_i32_469 : BitVec 32 := 1024#32
  let v735 : BitVec 32 := Scalar.muli v706 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c0_i32_471 : BitVec 32 := 0#32
  let v738 : BitVec 32 := Scalar.addi v737 c0_i32_471
  let c0_i32_477 : BitVec 32 := 0#32
  ![v738.toNat, 0]
def k0_off230 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_447 : BitVec 32 := 1#32
  let v705 : BitVec 32 := Scalar.addi v5 c1_i32_447
  let c2_i32_448 : BitVec 32 := 2#32
  let v706 : BitVec 32 := Scalar.addi v705 c2_i32_448
  let c1024_i32_490 : BitVec 32 := 1024#32
  let v759 : BitVec 32 := Scalar.muli v706 c1024_i32_490
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_491 : BitVec 32 := 256#32
  let v760 : BitVec 32 := Scalar.muli v26 c256_i32_491
  let v761 : BitVec 32 := Scalar.addi v759 v760
  let c0_i32_492 : BitVec 32 := 0#32
  let v762 : BitVec 32 := Scalar.addi v761 c0_i32_492
  let c0_i32_499 : BitVec 32 := 0#32
  ![v762.toNat, 0]
def k0_cond191 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_443 : BitVec 32 := 3#32
  let v701 : BitVec 1 := Scalar.cmpi .sge v5 c3_i32_443
  let v715 : BitVec 32 := Scalar.extui v701
  let c0_i32_455 : BitVec 32 := 0#32
  let v716 : BitVec 1 := Scalar.cmpi .ne v715 c0_i32_455
  v716

def k0_off231 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_451 : BitVec 32 := 1#32
  let v711 : BitVec 32 := Scalar.subi v5 c1_i32_451
  let c2_i32_452 : BitVec 32 := 2#32
  let v712 : BitVec 32 := Scalar.subi v711 c2_i32_452
  let c1024_i32_469 : BitVec 32 := 1024#32
  let v735 : BitVec 32 := Scalar.muli v712 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_off232 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_451 : BitVec 32 := 1#32
  let v711 : BitVec 32 := Scalar.subi v5 c1_i32_451
  let c2_i32_452 : BitVec 32 := 2#32
  let v712 : BitVec 32 := Scalar.subi v711 c2_i32_452
  let c1024_i32_489 : BitVec 32 := 1024#32
  let v759 : BitVec 32 := Scalar.muli v712 c1024_i32_489
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_490 : BitVec 32 := 256#32
  let v760 : BitVec 32 := Scalar.muli v29 c256_i32_490
  let v761 : BitVec 32 := Scalar.addi v759 v760
  let c64_i32_491 : BitVec 32 := 64#32
  let v762 : BitVec 32 := Scalar.addi v761 c64_i32_491
  let c0_i32_498 : BitVec 32 := 0#32
  ![v762.toNat, 0]
def k0_cond192 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_444 : BitVec 32 := 0#32
  let v702 : BitVec 1 := Scalar.cmpi .sle v5 c0_i32_444
  let v717 : BitVec 32 := Scalar.extui v702
  let c0_i32_456 : BitVec 32 := 0#32
  let v718 : BitVec 1 := Scalar.cmpi .ne v717 c0_i32_456
  v718

def k0_off233 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_453 : BitVec 32 := 1#32
  let v713 : BitVec 32 := Scalar.addi v5 c1_i32_453
  let c2_i32_454 : BitVec 32 := 2#32
  let v714 : BitVec 32 := Scalar.addi v713 c2_i32_454
  let c1024_i32_469 : BitVec 32 := 1024#32
  let v735 : BitVec 32 := Scalar.muli v714 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c64_i32 : BitVec 32 := 64#32
  let v738 : BitVec 32 := Scalar.addi v737 c64_i32
  let c0_i32_476 : BitVec 32 := 0#32
  ![v738.toNat, 0]
def k0_off234 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_453 : BitVec 32 := 1#32
  let v713 : BitVec 32 := Scalar.addi v5 c1_i32_453
  let c2_i32_454 : BitVec 32 := 2#32
  let v714 : BitVec 32 := Scalar.addi v713 c2_i32_454
  let c1024_i32_489 : BitVec 32 := 1024#32
  let v759 : BitVec 32 := Scalar.muli v714 c1024_i32_489
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_490 : BitVec 32 := 256#32
  let v760 : BitVec 32 := Scalar.muli v29 c256_i32_490
  let v761 : BitVec 32 := Scalar.addi v759 v760
  let c64_i32_491 : BitVec 32 := 64#32
  let v762 : BitVec 32 := Scalar.addi v761 c64_i32_491
  let c0_i32_498 : BitVec 32 := 0#32
  ![v762.toNat, 0]
def k0_cond193 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_443 : BitVec 32 := 3#32
  let v701 : BitVec 1 := Scalar.cmpi .sge v5 c3_i32_443
  let v723 : BitVec 32 := Scalar.extui v701
  let c0_i32_461 : BitVec 32 := 0#32
  let v724 : BitVec 1 := Scalar.cmpi .ne v723 c0_i32_461
  v724

def k0_off235 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_457 : BitVec 32 := 1#32
  let v719 : BitVec 32 := Scalar.subi v5 c1_i32_457
  let c2_i32_458 : BitVec 32 := 2#32
  let v720 : BitVec 32 := Scalar.subi v719 c2_i32_458
  let c1024_i32_469 : BitVec 32 := 1024#32
  let v735 : BitVec 32 := Scalar.muli v720 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_off236 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_457 : BitVec 32 := 1#32
  let v719 : BitVec 32 := Scalar.subi v5 c1_i32_457
  let c2_i32_458 : BitVec 32 := 2#32
  let v720 : BitVec 32 := Scalar.subi v719 c2_i32_458
  let c1024_i32_489 : BitVec 32 := 1024#32
  let v759 : BitVec 32 := Scalar.muli v720 c1024_i32_489
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_490 : BitVec 32 := 256#32
  let v760 : BitVec 32 := Scalar.muli v26 c256_i32_490
  let v761 : BitVec 32 := Scalar.addi v759 v760
  let c128_i32_491 : BitVec 32 := 128#32
  let v762 : BitVec 32 := Scalar.addi v761 c128_i32_491
  let c0_i32_498 : BitVec 32 := 0#32
  ![v762.toNat, 0]
def k0_cond194 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_444 : BitVec 32 := 0#32
  let v702 : BitVec 1 := Scalar.cmpi .sle v5 c0_i32_444
  let v725 : BitVec 32 := Scalar.extui v702
  let c0_i32_462 : BitVec 32 := 0#32
  let v726 : BitVec 1 := Scalar.cmpi .ne v725 c0_i32_462
  v726

def k0_off237 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_459 : BitVec 32 := 1#32
  let v721 : BitVec 32 := Scalar.addi v5 c1_i32_459
  let c2_i32_460 : BitVec 32 := 2#32
  let v722 : BitVec 32 := Scalar.addi v721 c2_i32_460
  let c1024_i32_469 : BitVec 32 := 1024#32
  let v735 : BitVec 32 := Scalar.muli v722 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c128_i32 : BitVec 32 := 128#32
  let v738 : BitVec 32 := Scalar.addi v737 c128_i32
  let c0_i32_476 : BitVec 32 := 0#32
  ![v738.toNat, 0]
def k0_off238 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_459 : BitVec 32 := 1#32
  let v721 : BitVec 32 := Scalar.addi v5 c1_i32_459
  let c2_i32_460 : BitVec 32 := 2#32
  let v722 : BitVec 32 := Scalar.addi v721 c2_i32_460
  let c1024_i32_489 : BitVec 32 := 1024#32
  let v759 : BitVec 32 := Scalar.muli v722 c1024_i32_489
  let c2_i32_11 : BitVec 32 := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v25 : BitVec 32 := Scalar.muli c2_i32_11 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v26 : BitVec 32 := Scalar.addi v25 v19
  let c256_i32_490 : BitVec 32 := 256#32
  let v760 : BitVec 32 := Scalar.muli v26 c256_i32_490
  let v761 : BitVec 32 := Scalar.addi v759 v760
  let c128_i32_491 : BitVec 32 := 128#32
  let v762 : BitVec 32 := Scalar.addi v761 c128_i32_491
  let c0_i32_498 : BitVec 32 := 0#32
  ![v762.toNat, 0]
def k0_cond195 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_443 : BitVec 32 := 3#32
  let v701 : BitVec 1 := Scalar.cmpi .sge v5 c3_i32_443
  let v731 : BitVec 32 := Scalar.extui v701
  let c0_i32_467 : BitVec 32 := 0#32
  let v732 : BitVec 1 := Scalar.cmpi .ne v731 c0_i32_467
  v732

def k0_off239 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_463 : BitVec 32 := 1#32
  let v727 : BitVec 32 := Scalar.subi v5 c1_i32_463
  let c2_i32_464 : BitVec 32 := 2#32
  let v728 : BitVec 32 := Scalar.subi v727 c2_i32_464
  let c1024_i32_469 : BitVec 32 := 1024#32
  let v735 : BitVec 32 := Scalar.muli v728 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_off240 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_463 : BitVec 32 := 1#32
  let v727 : BitVec 32 := Scalar.subi v5 c1_i32_463
  let c2_i32_464 : BitVec 32 := 2#32
  let v728 : BitVec 32 := Scalar.subi v727 c2_i32_464
  let c1024_i32_489 : BitVec 32 := 1024#32
  let v759 : BitVec 32 := Scalar.muli v728 c1024_i32_489
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_490 : BitVec 32 := 256#32
  let v760 : BitVec 32 := Scalar.muli v29 c256_i32_490
  let v761 : BitVec 32 := Scalar.addi v759 v760
  let c192_i32_491 : BitVec 32 := 192#32
  let v762 : BitVec 32 := Scalar.addi v761 c192_i32_491
  let c0_i32_498 : BitVec 32 := 0#32
  ![v762.toNat, 0]
def k0_cond196 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_444 : BitVec 32 := 0#32
  let v702 : BitVec 1 := Scalar.cmpi .sle v5 c0_i32_444
  let v733 : BitVec 32 := Scalar.extui v702
  let c0_i32_468 : BitVec 32 := 0#32
  let v734 : BitVec 1 := Scalar.cmpi .ne v733 c0_i32_468
  v734

def k0_off241 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_465 : BitVec 32 := 1#32
  let v729 : BitVec 32 := Scalar.addi v5 c1_i32_465
  let c2_i32_466 : BitVec 32 := 2#32
  let v730 : BitVec 32 := Scalar.addi v729 c2_i32_466
  let c1024_i32_469 : BitVec 32 := 1024#32
  let v735 : BitVec 32 := Scalar.muli v730 c1024_i32_469
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v24 : BitVec 32 := Scalar.addi v23 v19
  let c256_i32_470 : BitVec 32 := 256#32
  let v736 : BitVec 32 := Scalar.muli v24 c256_i32_470
  let v737 : BitVec 32 := Scalar.addi v735 v736
  let c192_i32 : BitVec 32 := 192#32
  let v738 : BitVec 32 := Scalar.addi v737 c192_i32
  let c0_i32_476 : BitVec 32 := 0#32
  ![v738.toNat, 0]
def k0_off242 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_465 : BitVec 32 := 1#32
  let v729 : BitVec 32 := Scalar.addi v5 c1_i32_465
  let c2_i32_466 : BitVec 32 := 2#32
  let v730 : BitVec 32 := Scalar.addi v729 c2_i32_466
  let c1024_i32_489 : BitVec 32 := 1024#32
  let v759 : BitVec 32 := Scalar.muli v730 c1024_i32_489
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v8 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v28 : BitVec 32 := Scalar.subi c1_i32_13 v19
  let v29 : BitVec 32 := Scalar.addi v27 v28
  let c256_i32_490 : BitVec 32 := 256#32
  let v760 : BitVec 32 := Scalar.muli v29 c256_i32_490
  let v761 : BitVec 32 := Scalar.addi v759 v760
  let c192_i32_491 : BitVec 32 := 192#32
  let v762 : BitVec 32 := Scalar.addi v761 c192_i32_491
  let c0_i32_498 : BitVec 32 := 0#32
  ![v762.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
# The protocol's arithmetic: devices, transfers, slots and program order

The mesh is x = 2, y = 4, z = 4, device `c` at x = c / 16, y = c / 4 % 4, z = c % 4. A plane of four devices — both x and
one pair of z — holds the four quarters of every y position; the result's rows are numbered in chunks of 64: chunk
16 o + 4 κ + g is the piece g of the quarter κ of the block of y position o.

A TRANSFER (kind, direction, hop, piece) is one remote copy a device may send; its kinds are 0: along y, 1: to the x
neighbour, 2: to the z neighbour, 3: the diagonal's piece, passed on by a neighbour. Each has a send cell at its sender and
a receive cell at its receiver. A SLOT (direction, j, piece) is a piece of the block j positions away (j = 0: the device's
own), through which the kernel walks; a slot's remaining events count down, and `rem n` says how many are left after the
first `n` of the program order.
-/
module

public import Idealize.ShloMosaic.Lib.Decide
public import Idealize.ShloMosaic.Lib.Pipeline.Launch

@[expose] public section

namespace Cert.AG

/-- (kind, backward?, hop, piece). -/
abbrev Tr : Type := Fin 4 × Bool × Fin 3 × Fin 4
/-- (backward?, distance, piece). -/
abbrev Slot : Type := Bool × Fin 4 × Fin 4

/-! ## Devices -/

def yc (c : Fin 32) : ℕ := c.val / 4 % 4
/-- The quarter a device takes: 2 x + z % 2. -/
def kp (c : Fin 32) : ℕ := 2 * (c.val / 16) + c.val % 2
def px (c : Fin 32) : Fin 32 := ⟨(c.val + 16) % 32, Nat.mod_lt _ (by decide)⟩
def pz (c : Fin 32) : Fin 32 := ⟨(c.val / 2 * 2 + (c.val + 1) % 2) % 32, Nat.mod_lt _ (by decide)⟩
/-- The next device along y, cyclically: upward if `b` is false. -/
def yn (b : Bool) (c : Fin 32) : Fin 32 := ⟨(c.val + if b then 28 else 4) % 32, Nat.mod_lt _ (by decide)⟩

/-- Whether device `c` has a y neighbour in direction `b`. -/
def nb (b : Bool) (c : Fin 32) : Bool := if b then 1 ≤ yc c else yc c ≤ 2
/-- Whether there is a y position `j` away against direction `b`. -/
def has (b : Bool) (j : ℕ) (c : Fin 32) : Bool := if b then yc c + j ≤ 3 else j ≤ yc c
/-- That position. -/
def org (b : Bool) (j : ℕ) (c : Fin 32) : ℕ := if b then yc c + j else yc c - j

/-! ## Transfers -/

/-- The receiver of `c`'s transfer `t`. -/
def peer (t : Tr) (c : Fin 32) : Fin 32 :=
  if t.1 = 0 then yn t.2.1 c else if t.1 = 1 then px c else if t.1 = 2 then pz c
  else if t.2.2.2.val % 2 = 0 then pz c else px c
/-- The sender of the transfer `t` that `c` receives. -/
def sender (t : Tr) (c : Fin 32) : Fin 32 :=
  if t.1 = 0 then yn (!t.2.1) c else if t.1 = 1 then px c else if t.1 = 2 then pz c
  else if t.2.2.2.val % 2 = 0 then pz c else px c

theorem sender_peer : ∀ (t : Tr) (c : Fin 32), sender t (peer t c) = c := by decide +kernel
theorem peer_sender : ∀ (t : Tr) (c : Fin 32), peer t (sender t c) = c := by decide +kernel

/-- Whether `c` receives `t`. -/
def liveR (t : Tr) (c : Fin 32) : Bool := has t.2.1 (t.2.2.1.val + 1) c
/-- Whether `c` sends `t`. -/
def liveS (t : Tr) (c : Fin 32) : Bool :=
  if t.1 = 0 then has t.2.1 t.2.2.1.val c && nb t.2.1 c else has t.2.1 (t.2.2.1.val + 1) c

theorem liveR_peer : ∀ (t : Tr) (c : Fin 32), liveR t (peer t c) = liveS t c := by decide +kernel

/-- The chunk `t` lands in at its receiver `c`. -/
def rch (t : Tr) (c : Fin 32) : ℕ :=
  org t.2.1 (t.2.2.1.val + 1) c * 16
    + (if t.1 = 0 then kp c else if t.1 = 1 then kp (px c) else if t.1 = 2 then kp (pz c) else kp (px (pz c))) * 4 + t.2.2.2.val
/-- The chunk device `c` reads for `t`: the same one. -/
def sch (t : Tr) (c : Fin 32) : ℕ := rch t (peer t c)

/-- Which of a device's four neighbours pays for `t` to be sent: x, z, upward, downward. -/
def via (t : Tr) : Fin 4 :=
  if t.1 = 0 then (if t.2.1 then 3 else 2) else if t.1 = 1 then 0 else if t.1 = 2 then 1
  else if t.2.2.2.val % 2 = 0 then 1 else 0
/-- The neighbour. -/
def nbr (i : Fin 4) (c : Fin 32) : Fin 32 :=
  if i = 0 then px c else if i = 1 then pz c else if i = 2 then yn false c else yn true c
/-- Whether it is there. -/
def hasNbr (i : Fin 4) (c : Fin 32) : Bool := if i = 2 then nb false c else if i = 3 then nb true c else true
/-- The place of a device among its neighbour's neighbours. -/
def opp (i : Fin 4) : Fin 4 := if i = 2 then 3 else if i = 3 then 2 else i

theorem nbr_opp : ∀ (i : Fin 4) (c : Fin 32), nbr (opp i) (nbr i c) = c := by decide +kernel
theorem opp_opp : ∀ i : Fin 4, opp (opp i) = i := by decide
theorem hasNbr_opp : ∀ (i : Fin 4) (c : Fin 32), hasNbr (opp i) (nbr i c) = hasNbr i c := by decide +kernel
theorem nbr_via : ∀ (t : Tr) (c : Fin 32), nbr (via t) c = peer t c := by decide +kernel
theorem hasNbr_via : ∀ (t : Tr) (c : Fin 32), liveS t c = true → hasNbr (via t) c = true := by decide +kernel

/-- Transfers to different chunks or devices are different. -/
def around : Fin 32 × Tr ≃ Fin 32 × Tr where
  toFun x := (peer x.2 x.1, x.2)
  invFun x := (sender x.2 x.1, x.2)
  left_inv x := by simp only [sender_peer]
  right_inv x := by simp only [peer_sender]

/-! ## Slots -/

/-- The hop a slot was received by. -/
def pre (j : Fin 4) : Fin 3 := ⟨(j.val + 2) % 3, Nat.mod_lt _ (by decide)⟩
/-- The hop it goes on by. -/
def nxt (j : Fin 4) : Fin 3 := ⟨j.val % 3, Nat.mod_lt _ (by decide)⟩
/-- The transfer of kind `kd` slot `k` is sent by (kind 0: onward; 3: what the neighbour passes on). -/
def str (kd : Fin 4) (k : Slot) : Tr := (kd, k.1, if kd = 0 then nxt k.2.1 else pre k.2.1, k.2.2)
/-- The transfer of kind `kd` slot `k` is received by. -/
def rtr (kd : Fin 4) (k : Slot) : Tr := (kd, k.1, pre k.2.1, k.2.2)

def live (k : Slot) (c : Fin 32) : Bool := has k.1 k.2.1.val c
/-- Whether slot `k` goes on along y. -/
def fwd (k : Slot) (c : Fin 32) : Bool := k.2.1.val < 3 && (has k.1 k.2.1.val c && nb k.1 c)
/-- Whether slot `k` is sent by kind `kd`. -/
def act (k : Slot) (c : Fin 32) (kd : Fin 4) : Bool :=
  if kd = 0 then fwd k c else k.2.1 ≠ 0 && live k c

theorem act_liveS : ∀ (k : Slot) (c : Fin 32) (kd : Fin 4), act k c kd = true → liveS (str kd k) c = true := by decide +kernel

/-- When slot `k` has at least this many events left, its send of kind `kd` is still to come. -/
def thr (k : Slot) (kd : Fin 4) : ℕ :=
  if k.2.1 = 0 then (if kd = 0 then 2 else 100)
  else if kd = 0 then (if k.2.1 = 3 then 100 else 11) else if kd = 1 then 10 else if kd = 2 then 9
  else if k.2.2.val % 2 = 0 then 7 else 6

/-! ## Program order -/

/-- Events of slot `k` among the first `n`. -/
def done (n : ℕ) (k : Slot) : ℕ :=
  let b := if k.1 then 1 else 0
  let g := k.2.2.val
  if k.2.1.val = 0 then (if 2 * g + b < n then 1 else 0) + (if 200 + 2 * g + b < n then 1 else 0)
  else
    let q := 4 * (k.2.1.val - 1) + g
    min 4 (n - (8 + 8 * q + 4 * b))
      + (if g % 2 = 0
          then min 2 (n - (104 + 6 * q + 2 * b)) + min 1 (n - (104 + 6 * q + 4 + b))
          else min 1 (n - (104 + 6 * q + b)) + min 2 (n - (104 + 6 * q + 2 + 2 * b)))
      + min 1 (n - (176 + 2 * q + b))
      + min 1 (n - (208 + 8 * q + b)) + min 3 (n - (208 + 8 * q + 2 + 3 * b))

def rem (n : ℕ) (k : Slot) : ℕ := (if k.2.1.val = 0 then 2 else 12) - done n k

/-- The slot of the `n`-th event. -/
def slotAt (n : ℕ) : Slot :=
  let mk (b j g : ℕ) : Slot := (b % 2 == 1, ⟨j % 4, Nat.mod_lt _ (by decide)⟩, ⟨g % 4, Nat.mod_lt _ (by decide)⟩)
  if n < 8 then mk n 0 (n / 2)
  else if n < 104 then let m := n - 8; mk (m / 4) (m / 32 + 1) (m / 8)
  else if n < 176 then let m := n - 104; let q := m / 6; let t := m % 6
    mk (if q % 2 = 0 then (if t < 4 then t / 2 else t - 4) else (if t < 2 then t else (t - 2) / 2)) (q / 4 + 1) q
  else if n < 200 then let m := n - 176; mk m (m / 8 + 1) (m / 2)
  else if n < 208 then mk n 0 ((n - 200) / 2)
  else let m := n - 208; let t := m % 8; mk (if t < 2 then t else (t - 2) / 3) (m / 32 + 1) (m / 8)

theorem rem_step : ∀ n : Fin 304, ∀ k : Slot, rem n k = rem (n + 1) k + if k = slotAt n then 1 else 0 := by decide +kernel

theorem rem_zero : ∀ k : Slot, rem 0 k = if k.2.1.val = 0 then 2 else 12 := by decide +kernel
theorem rem_last : ∀ k : Slot, rem 304 k = 0 := by decide +kernel

/-- The kind of transfer the `n`-th event is about. -/
def evk (n : ℕ) : Fin 4 :=
  if n < 8 then 0
  else if n < 104 then ![0, 0, 1, 2] ⟨n % 4, Nat.mod_lt _ (by decide)⟩
  else if n < 176 then
    (if (n - 104) / 6 % 2 = 0 then ![1, 3, 1, 3, 2, 2] else ![1, 1, 2, 3, 2, 3]) ⟨(n - 104) % 6, Nat.mod_lt _ (by decide)⟩
  else if n < 200 then 3
  else if n < 208 then 0
  else ![0, 0, 1, 2, 3, 1, 2, 3] ⟨n % 8, Nat.mod_lt _ (by decide)⟩

/-! ### A slot's phases, by the events it has left -/

/-- Whether slot `k` has been received by kind `kd`. -/
def rdone (k : Slot) (kd : Fin 4) (r : ℕ) : Bool :=
  r ≤ if kd = 0 then 11 else if kd = 1 then 7 else if kd = 2 then (if k.2.2.val % 2 = 0 then 5 else 6) else 4
/-- The state of slot `k`'s send of kind `kd`: 0 nothing to send yet, 1 ready, 2 under way, 3 read. -/
def phS (k : Slot) (kd : Fin 4) (r : ℕ) : ℕ :=
  if k.2.1 = 0 then (if kd = 0 then (if 2 ≤ r then 1 else if 1 ≤ r then 2 else 3) else 0)
  else if kd = 0 then (if 12 ≤ r then 0 else if 11 ≤ r then 1 else if 4 ≤ r then 2 else 3)
  else if kd = 1 then (if 12 ≤ r then 0 else if 10 ≤ r then 1 else if 3 ≤ r then 2 else 3)
  else if kd = 2 then (if 12 ≤ r then 0 else if 9 ≤ r then 1 else if 2 ≤ r then 2 else 3)
  else if k.2.2.val % 2 = 0 then (if 8 ≤ r then 0 else if 7 ≤ r then 1 else if 1 ≤ r then 2 else 3)
  else (if 7 ≤ r then 0 else if 6 ≤ r then 1 else if 1 ≤ r then 2 else 3)
/-- Whether what slot `k` receives by kind `kd` is what it sends by kind `i`. -/
def feeds (k : Slot) (kd i : Fin 4) : Bool :=
  if kd = 0 then i ≠ 3 else if kd = 1 then i = 3 && k.2.2.val % 2 == 0 else if kd = 2 then i = 3 && k.2.2.val % 2 == 1 else false
/-- The chunk slot `k` reads for its send of kind `kd`. -/
def kch (k : Slot) (c : Fin 32) (kd : Fin 4) : ℕ :=
  rch (rtr (if kd = 3 then (if k.2.2.val % 2 = 0 then 1 else 2) else 0) k) c

theorem kch_sch : ∀ (k : Slot) (c : Fin 32) (kd : Fin 4), act k c kd = true → k.2.1 ≠ 0 → kch k c kd = sch (str kd k) c := by
  decide +kernel

/-! ## Levels -/

/-- The level of transfer `t`'s receive cell. -/
def lvl (t : Tr) : ℕ :=
  if t.1 = 0 then 2 + 2 * (4 * t.2.2.1.val + t.2.2.2.val) + (if t.2.1 then 1 else 0) else if t.1 = 3 then 200 else 100

/-- After `n` events every send still to come has its receive cell above level `l`. -/
def Above (n l : ℕ) : Prop := ∀ k : Slot, ∀ kd : Fin 4, thr k kd ≤ rem n k → l < lvl (str kd k)
instance (n l : ℕ) : Decidable (Above n l) := by unfold Above; infer_instance

/-! ## Events -/

/-- The condition under which a device takes part in the `n`-th event, when it is about going onward along y; -/
def onwards (n : ℕ) (c : Fin 32) : Bool := act (slotAt n) c (evk n)

/-- The `n`-th event receives. -/
def IsRecv (n : ℕ) : Prop :=
  let k := slotAt n; let r := rem (n + 1) k
  n < 304 ∧ k.2.1 ≠ 0 ∧ rdone k (evk n) (r + 1) = false ∧ rdone k (evk n) r = true
    ∧ (∀ i, i ≠ evk n → rdone k i (r + 1) = rdone k i r)
    ∧ (∀ i, if feeds k (evk n) i = true then phS k i (r + 1) = 0 ∧ phS k i r = 1 else phS k i (r + 1) = phS k i r)
    ∧ (∀ i, thr k i ≤ r + 1 ↔ thr k i ≤ r) ∧ Above n (lvl (rtr (evk n) k))
instance (n : ℕ) : Decidable (IsRecv n) := by unfold IsRecv; infer_instance
/-- The `n`-th event sends. -/
def IsSend (n : ℕ) : Prop :=
  let k := slotAt n; let r := rem (n + 1) k
  n < 304 ∧ (k.2.1 = 0 → evk n = 0) ∧ phS k (evk n) (r + 1) = 1 ∧ phS k (evk n) r = 2
    ∧ (∀ i, rdone k i (r + 1) = rdone k i r) ∧ (∀ i, i ≠ evk n → phS k i (r + 1) = phS k i r)
    ∧ thr k (evk n) = r + 1 ∧ (∀ i, i ≠ evk n → (thr k i ≤ r + 1 ↔ thr k i ≤ r))
instance (n : ℕ) : Decidable (IsSend n) := by unfold IsSend; infer_instance
/-- The `n`-th event waits for what was sent to have been read. -/
def IsRead (n : ℕ) : Prop :=
  let k := slotAt n; let r := rem (n + 1) k
  n < 304 ∧ (k.2.1 = 0 → evk n = 0) ∧ phS k (evk n) (r + 1) = 2 ∧ phS k (evk n) r = 3
    ∧ (∀ i, rdone k i (r + 1) = rdone k i r) ∧ (∀ i, i ≠ evk n → phS k i (r + 1) = phS k i r)
    ∧ (∀ i, thr k i ≤ r + 1 ↔ thr k i ≤ r) ∧ Above n 0
instance (n : ℕ) : Decidable (IsRead n) := by unfold IsRead; infer_instance

/-- The `n`-th event moves one send along. -/
def IsMove (n : ℕ) : Prop :=
  let k := slotAt n; let r := rem (n + 1) k
  n < 304 ∧ phS k (evk n) (r + 1) ≠ 0 ∧ phS k (evk n) r ≠ 0
    ∧ (∀ i, rdone k i (r + 1) = rdone k i r) ∧ (∀ i, i ≠ evk n → phS k i (r + 1) = phS k i r)
    ∧ (∀ i, i ≠ evk n → (thr k i ≤ r + 1 ↔ thr k i ≤ r))
instance (n : ℕ) : Decidable (IsMove n) := by unfold IsMove; infer_instance

theorem IsSend.move {n : ℕ} (h : IsSend n) : IsMove n := by
  obtain ⟨a, -, b, c, d, e, -, f⟩ := h
  exact ⟨a, by rw [b]; decide, by rw [c]; decide, d, e, f⟩
theorem IsRead.move {n : ℕ} (h : IsRead n) : IsMove n := by
  obtain ⟨a, -, b, c, d, e, f, -⟩ := h
  exact ⟨a, by rw [b]; decide, by rw [c]; decide, d, e, fun i _ => f i⟩

theorem act_live : ∀ (k : Slot) (c : Fin 32) (kd : Fin 4), act k c kd = true → live k c = true := by decide +kernel
theorem live_rtr : ∀ (k : Slot) (c : Fin 32) (kd : Fin 4), k.2.1 ≠ 0 → liveR (rtr kd k) c = live k c := by decide +kernel
theorem act_own : ∀ (k : Slot) (c : Fin 32) (kd : Fin 4), k.2.1 = 0 → act k c kd = true → kd = 0 := by decide +kernel
theorem act_on : ∀ (k : Slot) (c : Fin 32) (kd : Fin 4), k.2.1 ≠ 0 → act k c kd = true → ¬((str kd k).1 = 0 ∧ (str kd k).2.2.1 = 0) := by
  decide +kernel
theorem str_own : ∀ k : Slot, k.2.1 = 0 → (str 0 k).1 = 0 ∧ (str 0 k).2.2.1 = 0 ∧ (str 0 k).2.2.2 = k.2.2 ∧ (str 0 k).2.1 = k.1 := by decide

/-! ## Cells -/

/-- The number of a semaphore in the kernel's own sixteen arrays of twelve. -/
def semNo (rv : Bool) (t : Tr) : ℕ :=
  2 + 12 * (4 * t.1.val + 2 * (if t.2.1 then 1 else 0) + (if rv then 1 else 0)) + 4 * t.2.2.1.val + t.2.2.2.val
theorem semNo_lt : ∀ (rv : Bool) (t : Tr), semNo rv t < 194 := by decide +kernel
/-- Which transfer's cell semaphore `n` is, and at which end. -/
def decNo (n : ℕ) : Bool × Tr :=
  let m := n - 2; let a := m / 12; let i := m % 12
  (a % 2 == 1, ⟨a / 4 % 4, Nat.mod_lt _ (by decide)⟩, a / 2 % 2 == 1, ⟨i / 4 % 3, Nat.mod_lt _ (by decide)⟩, ⟨i % 4, Nat.mod_lt _ (by decide)⟩)
theorem decNo_semNo : ∀ (rv : Bool) (t : Tr), decNo (semNo rv t) = (rv, t) := by decide +kernel
theorem semNo_ge (rv : Bool) (t : Tr) : 2 ≤ semNo rv t := by unfold semNo; omega

/-! ## Which device's input ends up in a chunk's quarter -/

/-- The device of `c`'s plane that has quarter `κ` at y position `o`. -/
def src (c : Fin 32) (o κ : ℕ) : Fin 32 :=
  ⟨(κ / 2 * 16 + o * 4 + c.val % 4 / 2 * 2 + κ % 2) % 32, Nat.mod_lt _ (by decide)⟩

end Cert.AG
-- ==== Proof.Mesh2.lean ====
/-
# The slots' transfers, counted
Every transfer a device receives or sends belongs to one slot, and every chunk of the result but the device's own block is
received by one transfer.
-/
module

public import proofs.«01_k».proof.Proof.Mesh

@[expose] public section

namespace Cert.AG

def recvs (c : Fin 32) : Finset Tr := Finset.univ.filter fun t => liveR t c = true
def sends (c : Fin 32) : Finset Tr := Finset.univ.filter fun t => liveS t c = true
theorem mem_recvs {c : Fin 32} {t : Tr} : t ∈ recvs c ↔ liveR t c = true := by simp [recvs]
theorem mem_sends {c : Fin 32} {t : Tr} : t ∈ sends c ↔ liveS t c = true := by simp [sends]

/-- The slot and kind of a receive. -/
def unr (t : Tr) : Slot × Fin 4 := ((t.2.1, t.2.2.1.succ, t.2.2.2), t.1)
/-- The slot and kind of a send. -/
def uns (t : Tr) : Slot × Fin 4 := ((t.2.1, if t.1 = 0 then t.2.2.1.castSucc else t.2.2.1.succ, t.2.2.2), t.1)

/-- Whether slot `x.1` is received by kind `x.2`. -/
def rin (c : Fin 32) (x : Slot × Fin 4) : Bool := decide (x.1.2.1 ≠ 0) && live x.1 c
def sin (c : Fin 32) (x : Slot × Fin 4) : Bool := act x.1 c x.2

theorem rtr_rin : ∀ (c : Fin 32) (x : Slot × Fin 4), rin c x = true → liveR (rtr x.2 x.1) c = true ∧ unr (rtr x.2 x.1) = x := by decide +kernel
theorem unr_live : ∀ (c : Fin 32) (t : Tr), liveR t c = true → rin c (unr t) = true ∧ rtr (unr t).2 (unr t).1 = t := by decide +kernel
theorem str_sin : ∀ (c : Fin 32) (x : Slot × Fin 4), sin c x = true → liveS (str x.2 x.1) c = true ∧ uns (str x.2 x.1) = x := by decide +kernel
theorem uns_live : ∀ (c : Fin 32) (t : Tr), liveS t c = true → sin c (uns t) = true ∧ str (uns t).2 (uns t).1 = t := by decide +kernel
theorem sin_live : ∀ (c : Fin 32) (x : Slot × Fin 4), sin c x = true → live x.1 c = true ∧ (x.1.2.1 = 0 → x.2 = 0) := by decide +kernel
theorem live_own : ∀ (c : Fin 32) (b : Bool) (g : Fin 4), live (b, 0, g) c = true := by decide +kernel

/-- The transfer a chunk is received by. -/
def inv (c : Fin 32) (n : ℕ) : Tr :=
  let o := n / 16
  let κ := n / 4 % 4
  (if κ = kp c then 0 else if κ = kp (px c) then 1 else if κ = kp (pz c) then 2 else 3, decide (yc c < o),
    ⟨(if yc c < o then o - yc c - 1 else yc c - o - 1) % 3, Nat.mod_lt _ (by decide)⟩, ⟨n % 4, Nat.mod_lt _ (by decide)⟩)

theorem inv_rch : ∀ (c : Fin 32) (t : Tr), liveR t c = true → inv c (rch t c) = t ∧ rch t c < 64 ∧ rch t c / 16 ≠ yc c := by decide +kernel
theorem rch_inv : ∀ (c : Fin 32) (n : Fin 64), n.val / 16 ≠ yc c → liveR (inv c n) c = true ∧ rch (inv c n) c = n.val := by decide +kernel

theorem via_back : ∀ (c : Fin 32) (t : Tr), liveR t c = true → hasNbr (opp (via t)) c = true := by decide +kernel
theorem opp_inj : ∀ i j : Fin 4, opp i = j ↔ i = opp j := by decide
theorem card_nbr : ∀ c : Fin 32, (Finset.univ.filter fun i => hasNbr i c = true).card
    = (2 + if nb false c = true then 1 else 0) + if nb true c = true then 1 else 0 := by decide +kernel

/-! ### At the start and at the end -/

theorem rdone_zero : ∀ (k : Slot) (i : Fin 4), k.2.1 ≠ 0 → rdone k i (rem 0 k) = false := by decide +kernel
theorem rdone_last : ∀ (k : Slot) (i : Fin 4), rdone k i (rem 304 k) = true := by decide +kernel
theorem phS_zero : ∀ (k : Slot) (i : Fin 4), phS k i (rem 0 k) = if k.2.1 = 0 ∧ i = 0 then 1 else 0 := by decide +kernel
theorem phS_last : ∀ (k : Slot) (i : Fin 4), phS k i (rem 304 k) = if k.2.1 = 0 ∧ i ≠ 0 then 0 else 3 := by decide +kernel
theorem thr_pos : ∀ (k : Slot) (i : Fin 4), 1 ≤ thr k i := by decide +kernel
theorem above_bar : Above 0 1 := by decide +kernel

end Cert.AG
-- ==== Proof.ISched.lean ====
/-
# The protocol: cells, contents, payloads and levels

Each device has one barrier cell and, per transfer and end, one DMA cell. A barrier cell of device `c` has one duty per
neighbour that is there; the neighbour pays it with the landing chunks of every transfer `c` sends to that neighbour. The
receive cell of a transfer pays its receiver the landed chunk, holding what the result must hold there; the send cell pays
its sender the share of the chunk it read.
-/
module

public import proofs.«01_k».proof.Proof.Mesh
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Buffers and cells -/

abbrev xM : Memref sig .tc .vmem S1024x512 .bf16 := Memref.whole cc0_stg0_0
abbrev oM : Memref sig .tc .vmem S4096x512 .bf16 := Memref.whole cc0_stg1_0
abbrev wM : Memref sig .tc .vmem S256x512 .bf16 := Memref.whole cc0_scratch0

abbrev barS : Sem sig := (SemArray.scalar (sig.barrier 0 rfl) : Sems sig S_).sem

/-- The DMA semaphore of transfer `x.2` at its send (`false`) or receive (`true`) end. -/
def tsem (x : Bool × Tr) : DmaSem sig := ⟨semNo x.1 x.2, semNo_lt x.1 x.2⟩

abbrev CI : Type := Option (Bool × Tr)
def csem : CI → SemLoc sig
  | none => .reg barS
  | some x => .dma (tsem x)

abbrev barCell (c : Dev nD) : GSem nD τ sig := ((c : Thread nD τ), .reg barS)
abbrev dmaCell (rv : Bool) (t : Tr) (c : Dev nD) : GSem nD τ sig := ((c : Thread nD τ), .dma (tsem (rv, t)))
abbrev kcell (p : Dev nD × CI) : GSem nD τ sig := ((p.1 : Thread nD τ), csem p.2)

theorem tsem_dec (x : Bool × Tr) : decNo (tsem x).val = x := decNo_semNo x.1 x.2
theorem tsem_ge (x : Bool × Tr) : 2 ≤ (tsem x).val := semNo_ge x.1 x.2
theorem tsem_inj : Function.Injective tsem := fun x y h => by rw [← tsem_dec x, ← tsem_dec y, h]

theorem csem_inj : Function.Injective csem
  | none, none, _ => rfl
  | none, some _, h => nomatch h
  | some _, none, h => nomatch h
  | some _, some _, h => congrArg some (tsem_inj (SemLoc.dma.inj h))

/-- A copy of one chunk credits this much. -/
def N : ℕ := (cc0_stg1_0 : Ref sig .tc).dmaCredit S64x512 .bf16
theorem N_pos : 0 < N := View.dmaCredit_pos (oM.slice (Rect.unit (s := S4096x512) ![0, 0] S64x512.size (by decide)) (fun _ => rfl)).view (by decide)

/-! ## Contents -/

def xi (a b : ℕ) : (cc0_stg0_0 : Ref sig .tc).ty.Idx
  | ⟨0, _⟩ => ⟨a % 1024, Nat.mod_lt _ (by decide)⟩
  | ⟨1, _⟩ => ⟨b % 512, Nat.mod_lt _ (by decide)⟩
  | ⟨_ + 2, h⟩ => absurd h (Nat.not_lt.2 (Nat.le_add_left _ _))

/-- Device `c`'s block of the input. -/
def xstg (c : Dev nD) : (cc0_stg0_0 : Ref sig .tc).ty.Contents (Elt F) :=
  (win0_0.blk (0 : Fin 1)).view.read (Elt F) ((s₀ m ρ).mem ((c : Thread nD τ).loc main_arg0))

/-- The device whose block fills quarter `κ` of position `o` of device `c`'s result. -/
def dv (c : Fin 32) (o κ : ℕ) : Fin 32 := if o = yc c then c else src c o κ

/-- Device `c`'s result. -/
def outVal (c : Dev nD) : (cc0_stg1_0 : Ref sig .tc).ty.Contents (Elt F) := fun i =>
  xstg m ρ (dv c ((i 0).val / 1024) ((i 0).val % 1024 / 256)) (xi (i 0).val (i 1).val)

/-- The quarter a device sends. -/
def ownVal (c : Dev nD) : (cc0_scratch0 : Ref sig .tc).ty.Contents (Elt F) := fun i =>
  xstg m ρ c (xi (kp c * 256 + (i 0).val) (i 1).val)

/-- Chunk `n` of the result: 64 rows. -/
def ck (n : ℕ) : Finset (cc0_stg1_0 : Ref sig .tc).ty.Idx := Finset.univ.filter fun i => (i 0).val / 64 = n
/-- Piece `g` of the quarter a device sends. -/
def wk (n : ℕ) : Finset (cc0_scratch0 : Ref sig .tc).ty.Idx := Finset.univ.filter fun i => (i 0).val / 64 = n

theorem mem_ck {n : ℕ} {i : (cc0_stg1_0 : Ref sig .tc).ty.Idx} : i ∈ ck n ↔ (i 0).val / 64 = n := by simp [ck]
theorem mem_wk {n : ℕ} {i : (cc0_scratch0 : Ref sig .tc).ty.Idx} : i ∈ wk n ↔ (i 0).val / 64 = n := by simp [wk]

def oPts (c : Dev nD) (n : ℕ) (q : PosShare TreeShare) (f : (cc0_stg1_0 : Ref sig .tc).ty.Contents (Elt F)) : sProp 𝕄 :=
  ((c : Thread nD τ).loc cc0_stg1_0) ↦[ck n]{q} f
def wPts (c : Dev nD) (n : ℕ) (q : PosShare TreeShare) (f : (cc0_scratch0 : Ref sig .tc).ty.Contents (Elt F)) : sProp 𝕄 :=
  ((c : Thread nD τ).loc cc0_scratch0) ↦[wk n]{q} f

instance oPts_storable (c : Dev nD) (n : ℕ) (q) (f) : BI.Storable (upEmb : UEmb _ 𝕄) (oPts (F := F) c n q f) := by unfold oPts; infer_instance
instance wPts_storable (c : Dev nD) (n : ℕ) (q) (f) : BI.Storable (upEmb : UEmb _ 𝕄) (wPts (F := F) c n q f) := by unfold wPts; infer_instance

/-! ### Slices of 64 rows are chunks -/

theorem out_set {off : Fin 2 → ℕ} {inb} (n : ℕ) (h : off = ![64 * n, 0]) :
    (oM.slice (Rect.unit (s := S4096x512) off S64x512.size inb) (fun _ => rfl)).view.set = ck n := by
  subst h
  ext i
  show i ∈ ((View.whole cc0_stg1_0).slice _).set ↔ _
  rw [View.set_slice_whole, Rect.mem_set_unit, mem_ck]
  have h1 : (i 1).val < 512 := (i 1).isLt
  constructor
  · intro h
    have := h 0
    simp [Shape.size] at this
    omega
  · intro h a
    fin_cases a
    · simp [Shape.size]; omega
    · simp [Shape.size]; exact h1

theorem own_set {off : Fin 2 → ℕ} {inb} (n : ℕ) (h : off = ![64 * n, 0]) :
    (wM.slice (Rect.unit (s := S256x512) off S64x512.size inb) (fun _ => rfl)).view.set = wk n := by
  subst h
  ext i
  show i ∈ ((View.whole cc0_scratch0).slice _).set ↔ _
  rw [View.set_slice_whole, Rect.mem_set_unit, mem_wk]
  have h1 : (i 1).val < 512 := (i 1).isLt
  constructor
  · intro h
    have := h 0
    simp [Shape.size] at this
    omega
  · intro h a
    fin_cases a
    · simp [Shape.size]; omega
    · simp [Shape.size]; exact h1

/-- A chunk copied onto the same chunk of another device's result holds what it held. -/
theorem land_out {off : Fin 2 → ℕ} {inb} (fd fs : (cc0_stg1_0 : Ref sig .tc).ty.Contents (Elt F)) {i : (cc0_stg1_0 : Ref sig .tc).ty.Idx}
    (hi : i ∈ (oM.slice (Rect.unit (s := S4096x512) off S64x512.size inb) (fun _ => rfl)).view.set) :
    (oM.slice (Rect.unit (s := S4096x512) off S64x512.size inb) (fun _ => rfl)).view.write (Elt F) fd
      ((oM.slice (Rect.unit (s := S4096x512) off S64x512.size inb) (fun _ => rfl)).view.read (Elt F) fs) Finset.univ i = fs i := by
  obtain ⟨x, -, rfl⟩ := Finset.mem_map.mp hi
  exact View.write_emb_of_mem _ _ (Finset.mem_univ x)

/-- A chunk of a device's own quarter copied into a result. -/
theorem land_own {off off' : Fin 2 → ℕ} {inb inb'} (a b : ℕ) (ha : off = ![64 * a, 0]) (hb : off' = ![64 * b, 0])
    (fd : (cc0_stg1_0 : Ref sig .tc).ty.Contents (Elt F)) (fs : (cc0_scratch0 : Ref sig .tc).ty.Contents (Elt F))
    (fr : (cc0_stg1_0 : Ref sig .tc).ty.Contents (Elt F))
    (hf : ∀ i j, (i 0).val / 64 = b → (j 0).val / 64 = a → (i 0).val % 64 = (j 0).val % 64 → (i 1).val = (j 1).val → fs j = fr i)
    {i : (cc0_stg1_0 : Ref sig .tc).ty.Idx}
    (hi : i ∈ (oM.slice (Rect.unit (s := S4096x512) off' S64x512.size inb') (fun _ => rfl)).view.set) :
    (oM.slice (Rect.unit (s := S4096x512) off' S64x512.size inb') (fun _ => rfl)).view.write (Elt F) fd
      ((wM.slice (Rect.unit (s := S256x512) off S64x512.size inb) (fun _ => rfl)).view.read (Elt F) fs) Finset.univ i = fr i := by
  subst ha hb
  have hi' := hi
  rw [out_set b rfl, mem_ck] at hi'
  obtain ⟨x, -, rfl⟩ := Finset.mem_map.mp hi
  refine (View.write_emb_of_mem _ _ (Finset.mem_univ x)).trans ?_
  have hx : (x 0).val < 64 := (x 0).isLt
  refine hf _ _ hi' ?_ ?_ ?_
  · show (64 * a + 1 * (x 0).val) / 64 = a
    omega
  · show (64 * b + 1 * (x 0).val) % 64 = (64 * a + 1 * (x 0).val) % 64
    omega
  · rfl

/-! ### The devices agree -/

theorem dv_fwd : ∀ (t : Tr) (c : Fin 32), liveS t c = true → ¬(t.1 = 0 ∧ t.2.2.1 = 0) →
    dv c (sch t c / 16) (sch t c % 16 / 4) = dv (peer t c) (sch t c / 16) (sch t c % 16 / 4) := by decide +kernel

theorem dv_own : ∀ (t : Tr) (c : Fin 32), liveS t c = true → (t.1 = 0 ∧ t.2.2.1 = 0) →
    dv (peer t c) (sch t c / 16) (sch t c % 16 / 4) = c ∧ sch t c = 16 * yc c + 4 * kp c + t.2.2.2.val := by decide +kernel

theorem out_agree (t : Tr) (c : Dev nD) (hl : liveS t c = true) (h0 : ¬(t.1 = 0 ∧ t.2.2.1 = 0)) (i : (cc0_stg1_0 : Ref sig .tc).ty.Idx)
    (hi : i ∈ ck (sch t c)) : outVal m ρ c i = outVal m ρ (peer t c) i := by
  rw [mem_ck] at hi
  have e1 : (i 0).val / 1024 = sch t c / 16 := by rw [← hi, Nat.div_div_eq_div_mul]
  have e2 : (i 0).val % 1024 / 256 = sch t c % 16 / 4 := by omega
  unfold outVal
  rw [e1, e2, dv_fwd t c hl h0]

theorem own_agree (t : Tr) (c : Dev nD) (hl : liveS t c = true) (h0 : t.1 = 0 ∧ t.2.2.1 = 0) (i : (cc0_stg1_0 : Ref sig .tc).ty.Idx)
    (j : (cc0_scratch0 : Ref sig .tc).ty.Idx) (hi : (i 0).val / 64 = sch t c) (hj : (j 0).val / 64 = t.2.2.2.val)
    (h64 : (i 0).val % 64 = (j 0).val % 64) (h1 : (i 1).val = (j 1).val) : ownVal m ρ c j = outVal m ρ (peer t c) i := by
  obtain ⟨ed, es⟩ := dv_own t c hl h0
  have e1 : (i 0).val / 1024 = sch t c / 16 := by rw [← hi, Nat.div_div_eq_div_mul]
  have e2 : (i 0).val % 1024 / 256 = sch t c % 16 / 4 := by omega
  unfold outVal ownVal
  rw [e1, e2, ed, h1]
  have hg : t.2.2.2.val < 4 := t.2.2.2.isLt
  have hk : kp c < 4 := by unfold kp; have := c.isLt; omega
  congr 1
  funext a
  match a with
  | ⟨0, _⟩ =>
    apply Fin.ext
    show (kp c * 256 + (j 0).val) % 1024 = (i 0).val % 1024
    omega
  | ⟨1, _⟩ => rfl
  | ⟨_ + 2, h⟩ => exact absurd h (Nat.not_lt.2 (Nat.le_add_left _ _))

/-! ## Payloads -/

def shr (b : Bool) : PosShare TreeShare := if b then fullShare.right else fullShare.left

/-- What the sender reads for transfer `t`. -/
def sendPay (c : Dev nD) (t : Tr) : sProp 𝕄 :=
  if t.1 = 0 then
    (if t.2.2.1 = 0 then wPts c t.2.2.2.val (shr t.2.1) (ownVal m ρ c) else oPts c (sch t c) fullShare.left (outVal m ρ c))
  else oPts c (sch t c) (if t.1 = 1 then fullShare.right.left else if t.1 = 2 then fullShare.right.right else fullShare) (outVal m ρ c)
def recvPay (c : Dev nD) (t : Tr) : sProp 𝕄 := oPts c (rch t c) fullShare (outVal m ρ c)
def cellPay (c : Dev nD) (x : Bool × Tr) : sProp 𝕄 := if x.1 then recvPay m ρ c x.2 else sendPay m ρ c x.2

/-- Where transfer `t` of device `c` lands. -/
def tgt (c : Dev nD) (t : Tr) : sProp 𝕄 := iprop(∃ f, oPts (peer t c) (sch t c) fullShare f)
/-- The transfers device `c` sends to its neighbour `i`. -/
def toward (c : Fin 32) (i : Fin 4) : Finset Tr := Finset.univ.filter fun t => liveS t c = true ∧ via t = i
def barPay (c : Dev nD) (i : Fin 4) : sProp 𝕄 := bigSep (toward c i) fun t => tgt c t

instance sendPay_storable (c : Dev nD) (t : Tr) : BI.Storable (upEmb : UEmb _ 𝕄) (sendPay m ρ c t) := by
  unfold sendPay; (repeat' split) <;> infer_instance
instance cellPay_storable (c : Dev nD) (x : Bool × Tr) : BI.Storable (upEmb : UEmb _ 𝕄) (cellPay m ρ c x) := by
  unfold cellPay recvPay; split <;> infer_instance
instance tgt_storable (c : Dev nD) (t : Tr) : BI.Storable (upEmb : UEmb _ 𝕄) (tgt (F := F) c t) := by unfold tgt; infer_instance
instance barPay_storable (c : Dev nD) (i : Fin 4) : BI.Storable (upEmb : UEmb _ 𝕄) (barPay (F := F) c i) := by
  unfold barPay; infer_instance

/-! ## The schedule -/

/-- Whether the cell of transfer `x.2` at device `c` is used. -/
def liveC (x : Bool × Tr) (c : Fin 32) : Bool := if x.1 then liveR x.2 c else liveS x.2 c

def agDuties (c : Fin 32) : SemLoc sig → Finset (Fin 4)
  | .reg s => if s = barS then Finset.univ.filter fun i => hasNbr i c = true else ∅
  | .dma q => if 2 ≤ q.val ∧ liveC (decNo q.val) c = true then {0} else ∅
def agAmount : SemLoc sig → ℕ
  | .reg _ => 1
  | .dma _ => N
def agPay (c : Dev nD) (d : Fin 4) : SemLoc sig → sProp 𝕄
  | .reg _ => barPay c d
  | .dma q => cellPay m ρ c (decNo q.val)

def agRd : Rounds.Schedule (GSem nD τ sig) (Fin 4) 𝕄 where
  duties g r := if r = 0 ∧ g.1.2 = .tc then agDuties g.1.1 g.2 else ∅
  unitless _ := False
  amount g _ _ := agAmount g.2
  payload g _ d := agPay m ρ g.1.1 d g.2
  amount_pos g _ _ _ := by
    obtain ⟨_, s⟩ := g
    cases s
    · exact Nat.one_pos
    · exact N_pos

instance agRd_payload_storable (g : GSem nD τ sig) (r : ℕ) (d : Fin 4) :
    BI.Storable (upEmb : UEmb _ 𝕄) ((agRd (F := F) m ρ).payload g r d) := by
  show BI.Storable upEmb (agPay m ρ g.1.1 d g.2)
  obtain ⟨_, s⟩ := g
  cases s
  · show BI.Storable upEmb (barPay _ d); infer_instance
  · show BI.Storable upEmb (cellPay m ρ _ _); infer_instance

section Sched
variable (c : Dev nD) (x : Bool × Tr)

theorem duties_at (g : GSem nD τ sig) (r : ℕ) :
    (agRd (F := F) m ρ).duties g r = if r = 0 ∧ g.1.2 = .tc then agDuties g.1.1 g.2 else ∅ := rfl
theorem agDuties_reg (c : Fin 32) (s : Sem sig) : agDuties c (.reg s) = if s = barS then Finset.univ.filter fun i => hasNbr i c = true else ∅ := rfl
theorem agDuties_dma (c : Fin 32) (q : DmaSem sig) :
    agDuties c (.dma q) = if 2 ≤ q.val ∧ liveC (decNo q.val) c = true then {0} else ∅ := rfl

theorem duties_bar : (agRd (F := F) m ρ).duties (barCell c) 0 = Finset.univ.filter fun i => hasNbr i c = true := by
  rw [duties_at, if_pos ⟨rfl, rfl⟩, agDuties_reg, if_pos rfl]
theorem duties_live (h : liveC x c = true) : (agRd (F := F) m ρ).duties (dmaCell x.1 x.2 c) 0 = {0} := by
  rw [duties_at, if_pos ⟨rfl, rfl⟩, agDuties_dma]; exact if_pos ⟨tsem_ge x, by rw [tsem_dec]; exact h⟩
theorem duties_idle (h : liveC x c = false) : (agRd (F := F) m ρ).duties (dmaCell x.1 x.2 c) 0 = ∅ := by
  rw [duties_at, if_pos ⟨rfl, rfl⟩, agDuties_dma]; exact if_neg (fun hh => by rw [tsem_dec, h] at hh; exact Bool.false_ne_true hh.2)
theorem duties_later (g : GSem nD τ sig) : ∀ r, 1 ≤ r → (agRd (F := F) m ρ).duties g r = ∅ :=
  fun r hr => by rw [duties_at]; exact if_neg fun h => by omega
theorem duties_none (h : liveC x c = false) : ∀ r, 0 ≤ r → (agRd (F := F) m ρ).duties (dmaCell x.1 x.2 c) r = ∅ := fun r _ => by
  rcases Nat.eq_zero_or_pos r with rfl | hr
  · exact duties_idle m ρ c x h
  · exact duties_later m ρ _ r hr

theorem amount_bar (d : Fin 4) : (agRd (F := F) m ρ).amount (barCell c) 0 d = 1 := rfl
theorem amount_dma (d : Fin 4) : (agRd (F := F) m ρ).amount (dmaCell x.1 x.2 c) 0 d = N := rfl

theorem expect_bar : (agRd (F := F) m ρ).expect (barCell c) 0 = (Finset.univ.filter fun i => hasNbr i c = true).card := by
  unfold Schedule.expect Schedule.amountOf
  rw [duties_bar, Finset.sum_congr rfl fun d _ => amount_bar m ρ c d, Finset.sum_const, smul_eq_mul, mul_one]
theorem expect_live (h : liveC x c = true) : (agRd (F := F) m ρ).expect (dmaCell x.1 x.2 c) 0 = N := by
  unfold Schedule.expect Schedule.amountOf; rw [duties_live m ρ c x h, Finset.sum_singleton, amount_dma]

theorem payload_bar (d : Fin 4) : (agRd (F := F) m ρ).payload (barCell c) 0 d = barPay c d := rfl
theorem payload_dma (d : Fin 4) : (agRd (F := F) m ρ).payload (dmaCell x.1 x.2 c) 0 d = cellPay m ρ c x := by
  show cellPay m ρ c (decNo (tsem x).val) = _
  rw [tsem_dec]

theorem rest_live (h : liveC x c = true) : bigSep ((agRd (F := F) m ρ).duties (dmaCell x.1 x.2 c) 0 \ ∅)
    (fun d => (agRd (F := F) m ρ).payload (dmaCell x.1 x.2 c) 0 d) = cellPay m ρ c x := by
  rw [Finset.sdiff_empty, duties_live m ρ c x h, bigSep_singleton, payload_dma]

end Sched

/-! ## What a device owes; the levels -/

/-- The tallies slot `k` with `r` events left still owes. -/
def Ok (c : Dev nD) (k : Slot) (r : ℕ) : CellTallies nD τ sig Unit :=
  ∑ kd : Fin 4, if act k c kd = true ∧ thr k kd ≤ r then tallyAt (dmaCell true (str kd k) (peer (str kd k) c)) () N else 0
def Oc (c : Dev nD) (ρ : Slot → ℕ) : CellTallies nD τ sig Unit := ∑ k : Slot, Ok c k (ρ k)
/-- The units still owed to the neighbours in `s`. -/
def Ob (c : Dev nD) (s : Finset (Fin 4)) : CellTallies nD τ sig Unit :=
  ∑ i ∈ s, if hasNbr i c = true then tallyAt (barCell (nbr i c)) () 1 else 0

def L (g : GSem nD τ sig) : Finset Unit := if g.1.2 = .tc then {()} else ∅
def slev : SemLoc sig → ℕ
  | .reg s => if s = barS then 1 else 0
  | .dma q => if 2 ≤ q.val ∧ (decNo q.val).1 = true then lvl (decNo q.val).2 else 0
def lv (g : GSem nD τ sig) (_ : Unit) : ℕ := slev g.2

theorem L_of_ne (g : GSem nD τ sig) (h : g.1.2 ≠ .tc) : L g = ∅ := if_neg h
theorem L_tc (c : Dev nD) (sm : SemLoc sig) : L ((c : Thread nD τ), sm) = {()} := if_pos rfl

theorem slev_recv (t : Tr) : slev (.dma (tsem (true, t))) = lvl t := by
  show (if 2 ≤ (tsem (true, t)).val ∧ (decNo (tsem (true, t)).val).1 = true then lvl (decNo (tsem (true, t)).val).2 else 0) = _
  rw [tsem_dec]; exact if_pos ⟨tsem_ge _, rfl⟩
theorem slev_send (t : Tr) : slev (.dma (tsem (false, t))) = 0 := by
  show (if 2 ≤ (tsem (false, t)).val ∧ (decNo (tsem (false, t)).val).1 = true then lvl (decNo (tsem (false, t)).val).2 else 0) = _
  rw [tsem_dec]; exact if_neg fun h => Bool.false_ne_true h.2
theorem slev_bar : slev (.reg barS) = 1 := by
  show (if barS = barS then 1 else 0) = 1
  exact if_pos rfl

theorem pos_sum {ι : Type} (s : Finset ι) (f : ι → CellTallies nD τ sig Unit) {g : GSem nD τ sig} {u : Unit}
    (h : 0 < (∑ i ∈ s, f i) g u) : ∃ i ∈ s, 0 < f i g u := by
  classical
  by_contra hn
  push Not at hn
  have : (∑ i ∈ s, f i) g u = 0 := by
    rw [Finset.sum_apply, Finsupp.finset_sum_apply]
    exact Finset.sum_eq_zero fun i hi => Nat.le_zero.mp (hn i hi)
  omega

theorem pos_tally {g' g : GSem nD τ sig} {n : ℕ} {u : Unit} (h : 0 < tallyAt g' () n g u) : g = g' := by
  rw [tallyAt_apply] at h
  by_contra hn
  rw [if_neg (fun h' => hn h'.1)] at h
  exact Nat.lt_irrefl 0 h

theorem Ok_pos {c : Dev nD} {k : Slot} {r : ℕ} {g : GSem nD τ sig} {u : Unit} (h : 0 < Ok c k r g u) :
    ∃ kd : Fin 4, act k c kd = true ∧ thr k kd ≤ r ∧ g = dmaCell true (str kd k) (peer (str kd k) c) := by
  obtain ⟨kd, -, hkd⟩ := pos_sum _ _ h
  by_cases hc : act k c kd = true ∧ thr k kd ≤ r
  · rw [if_pos hc] at hkd
    exact ⟨kd, hc.1, hc.2, pos_tally hkd⟩
  · rw [if_neg hc] at hkd
    exact absurd hkd (Nat.lt_irrefl 0)

theorem Ob_pos {c : Dev nD} {s : Finset (Fin 4)} {g : GSem nD τ sig} {u : Unit} (h : 0 < Ob c s g u) :
    ∃ i ∈ s, hasNbr i c = true ∧ g = barCell (nbr i c) := by
  obtain ⟨i, his, hi⟩ := pos_sum _ _ h
  by_cases hc : hasNbr i c = true
  · rw [if_pos hc] at hi
    exact ⟨i, his, hc, pos_tally hi⟩
  · rw [if_neg hc] at hi
    exact absurd hi (Nat.lt_irrefl 0)

/-- After `n` events a device may wait on a cell of a level below everything it still owes. -/
theorem mayWait_at (c : Dev nD) (n : ℕ) (sm : SemLoc sig) (l : ℕ) (hl : slev sm ≤ l) (ha : Above n l) :
    (levAts L lv : sProp 𝕄) ⊢ MayWait (c : Thread nD τ) sm () (Oc c (rem n)) := by
  have key : ∀ g u, 0 < Oc c (rem n) g u → ∃ k kd, thr k kd ≤ rem n k ∧ g = dmaCell true (str kd k) (peer (str kd k) c) := by
    intro g u h
    obtain ⟨k, -, hk⟩ := pos_sum _ _ h
    obtain ⟨kd, _, h2, h3⟩ := Ok_pos hk
    exact ⟨k, kd, h2, h3⟩
  refine MayOwe.of_cut (L := L) (lev := lv) l (fun p hp => by rw [Finset.mem_singleton.mp hp, L_tc]; exact Finset.mem_singleton_self _)
    (fun g u hg => by obtain ⟨k, kd, _, rfl⟩ := key g u hg; rw [L_tc]; exact Finset.mem_singleton_self _)
    (fun p hp => by rw [Finset.mem_singleton.mp hp]; exact hl)
    (fun g u hg => by
      obtain ⟨k, kd, h, rfl⟩ := key g u hg
      show l < slev _
      rw [slev_recv]; exact ha k kd h)

end Cert.KernelIdeal.AG
-- ==== Proof.ISteps.lean ====
/-
# A device's state after each event, and the events

`St c n` is what device `c` holds after the first `n` events of the program order: what it still owes, and each slot's
state. An event changes one slot; it is either a wait for a chunk, a send of one, or a wait for a send to have been read.
-/
module

public import proofs.«01_k».proof.Proof.ISched

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)

abbrev 𝒱₀ : Variants := Variants.none
abbrev Pg (α : Type) : Type 1 := Prog (TpuEff nD τ sig (Elt F) Λ₀ .tc) α
/-- Running `p` on device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

instance decEqTr : DecidableEq Tr := inferInstance
instance decEqCI : DecidableEq CI := inferInstance
instance decEqDevCI : DecidableEq (Dev nD × CI) := instDecidableEqProd

/-! ## The invariants -/

def recAt (K : Dev nD × CI → ℕ) (p : Dev nD × CI) : sProp 𝕄 :=
  iprop(cellInv ER (agRd m ρ) (K p) (kcell p) ∗ reached ER (kcell p) 0)
instance recAt_persistent (K) (p) : BI.Persistent (recAt m ρ K p) := by unfold recAt; infer_instance
/-- Every cell's invariant, that every cell has reached its round, and the levels. -/
def env (K : Dev nD × CI → ℕ) : sProp 𝕄 := iprop(bigSep Finset.univ (recAt m ρ K) ∗ (levAts L lv : sProp 𝕄))
instance env_persistent (K) : BI.Persistent (env m ρ K) := by unfold env; infer_instance

theorem env_at (K : Dev nD × CI → ℕ) (c : Dev nD) (i : CI) :
    env m ρ K ⊢ iprop(cellInv ER (agRd m ρ) (K (c, i)) ((c : Thread nD τ), csem i) ∗ reached ER ((c : Thread nD τ), csem i) 0) := by
  unfold env
  iintro ⟨H, -⟩
  ihave H := (show bigSep Finset.univ (recAt m ρ K) ⊢ recAt m ρ K (c, i) from bigSep_elim (Finset.mem_univ (c, i))) $$ H
  unfold recAt
  iexact H
theorem env_lev (K : Dev nD × CI → ℕ) : env m ρ K ⊢ (levAts L lv : sProp 𝕄) := by
  unfold env; iintro ⟨-, H⟩; iexact H

/-! ## One cell -/

/-- The wait on a used DMA cell: its payload, and the cell's counter, at zero for good. -/
theorem wait_dma (K : Dev nD × CI → ℕ) (c : Dev nD) (x : Bool × Tr) (hl : liveC x c = true) {op : TpuEff nD τ sig (Elt F) Λ₀ .tc PUnit} {k' : ℕ}
    (hw : ∀ P : PUnit → sProp 𝕄, wpE (defs₀ (F := F)) 𝒱₀ (c : Thread nD τ) none Set.univ op P = waitSpec (c : Thread nD τ) Set.univ (.dma (tsem x)) k' P)
    (hk : k' = N) (O : CellTallies nD τ sig Unit) (W : Waits sig Unit) {α : Type} (k : PUnit → Pg (F := F) α) (Q : α → sProp 𝕄) :
    iprop(env m ρ K ∗ cred (tallyAt (dmaCell x.1 x.2 c) () N) ∗ owes (c : Thread nD τ) O W ∗ MayWait (c : Thread nD τ) (.dma (tsem x)) () O
        ∗ atPos ER (dmaCell x.1 x.2 c) 0 ∅ 0)
      ⊢ iprop(((∃ W', owes (c : Thread nD τ) O W') ∗ semVal (dmaCell x.1 x.2 c) 0 ∗ cellPay m ρ c x -∗ WP c (k ⟨⟩) Q) -∗ WP c (.op op k) Q) := by
  subst hk
  iintro ⟨#HE, Hc, HO, HM, Hat⟩ Hk
  ihave HI := (env_at m ρ K c (some x)) $$ HE
  icases HI with ⟨#HI, -⟩
  iapply (Rounds.wp_wait_rest_token 𝒱₀ ER (agRd m ρ) (c : Thread nD τ) none (κ := K (c, some x)) hw (Set.mem_univ _) () (O := O) (W := W)
    (R := 0) (m := 0) (T := ∅) (by rw [Nat.zero_add]; exact (expect_live m ρ c x hl).symm)) $$ [Hc HO HM Hat]
  · isplitr; · iexact HI
    isplitl [Hc]; · iexact Hc
    isplitl [HO]; · iexact HO
    isplitl [HM]; · iexact HM
    iexact Hat
  iintro ⟨HO, Hat, -, Hpay⟩
  ihave Hpay := (Entails.of_eq (rest_live m ρ c x hl)) $$ Hpay
  imod (Rounds.cell_close ER (agRd m ρ) (Set.mem_univ (K (c, some x))) (fun h => h) (R := 0 + 1) (duties_later m ρ _)) $$ [Hat] with Hz
  · isplitr; · iexact HI
    iexact Hat
  iapply Hk
  isplitl [HO]; · iexists _; iexact HO
  isplitl [Hz]; · iexact Hz
  iexact Hpay

/-- What a device holds to send transfer `t`, but for what it reads. -/
def SB (c : Dev nD) (t : Tr) : sProp 𝕄 :=
  iprop(atPos ER (dmaCell false t c) 0 ∅ 0 ∗ dutyTok ER (dmaCell false t c) 0 0 ∗ dutyTok ER (dmaCell true t (peer t c)) 0 0 ∗ tgt c t)

section Send
variable (K : Dev nD × CI → ℕ) (c n : Dev nD) (t : Tr) (hl : liveS t c = true) (hn : n = peer t c)
  {off off' : Fin 2 → ℕ} {s1 s2 : DmaSem sig} (hs1 : s1 = tsem (false, t)) (hs2 : s2 = tsem (true, t))
include hl hn hs1 hs2

theorem send_gen {S : Shape} {src : Memref sig .tc .vmem S64x512 .bf16} {dst : Memref sig (Dev.tc n : Thread nD τ).2.kind .vmem S64x512 .bf16}
    (hN : dst.view.amount (.dma s2) = N) (q : PosShare TreeShare) (fs : Buf (Elt F) (src.view.loc (c : Thread nD τ)))
    (hpay : sendPay m ρ c t ⊢ (src.view.loc (c : Thread nD τ) ↦[src.view.set]{q} fs))
    (hpay' : (src.view.loc (c : Thread nD τ) ↦[src.view.set]{q} fs) ⊢ sendPay m ρ c t)
    (htg : tgt c t ⊢ iprop(∃ fd, (dst.view.loc (n : Thread nD τ) ↦[dst.view.set]{fullShare} fd) : sProp 𝕄))
    (hrv : ∀ fd, (dst.view.loc (n : Thread nD τ) ↦[dst.view.set]{fullShare} (dst.view.write (Elt F) fd (src.view.read (Elt F) fs) Finset.univ)) ⊢ recvPay m ρ n t)
    {hsc : dst.view.ref.isScScratch = false} {hsrc : src.view.WordExact} {hdst : dst.view.WordExact}
    {hsem : DmaTarget.Typed .vmem (.dma s2) (.remote (Dev.tc n : Thread nD τ) dst (.dma s1) hsc)}
    (O : CellTallies nD τ sig Unit) {α : Type} (k : PUnit → Pg (F := F) α) (Q : α → sProp 𝕄) :
    iprop(env m ρ K ∗ sendPay m ρ c t ∗ SB c t ∗ ∃ W, owes (c : Thread nD τ) (O + tallyAt (dmaCell true t (peer t c)) () N) W)
      ⊢ iprop(((atPos ER (dmaCell false t c) 0 ∅ 0 ∗ cred (tallyAt (dmaCell false t c) () N)) ∗ (∃ W, owes (c : Thread nD τ) O W) -∗ WP c (k ⟨⟩) Q)
        -∗ WP c (.op (.enqueueDma src (.remote (Dev.tc n : Thread nD τ) dst (.dma s1) hsc) (.dma s2) hsrc hdst hsem) k) Q) := by
  subst hn hs1 hs2
  unfold SB
  iintro ⟨#HE, Hp, ⟨Hat, Ht1, Ht2, Htg⟩, ⟨%W, HO⟩⟩ Hk
  ihave HI := (env_at m ρ K c (some (false, t))) $$ HE
  icases HI with ⟨#HI1, #Hr1⟩
  ihave HI := (env_at m ρ K (peer t c) (some (true, t))) $$ HE
  icases HI with ⟨#HI2, #Hr2⟩
  ihave Htg := htg $$ Htg
  icases Htg with ⟨%fd, Htg⟩
  ihave Hp := hpay $$ Hp
  iapply (Rounds.wp_send_pointsTo 𝒱₀ ER (agRd m ρ) (c : Thread nD τ) none (κ₁ := K (c, some (false, t))) (κ₂ := K (peer t c, some (true, t)))
    (r₁ := 0) (r₂ := 0) (d₁ := 0) (d₂ := 0) (fd := fd) (fs := fs) (q := q)
    (by rw [duties_live m ρ c (false, t) hl]; exact Finset.mem_singleton_self _)
    (by rw [duties_live m ρ (peer t c) (true, t) ((liveR_peer t c).trans hl)]; exact Finset.mem_singleton_self _)
    () () N hN (amount_dma m ρ c (false, t) 0) (amount_dma m ρ (peer t c) (true, t) 0) O rfl (W := W)
    (by rw [payload_dma m ρ c (false, t)]; exact hpay')
    (by rw [payload_dma m ρ (peer t c) (true, t)]; exact hrv fd)) $$ [Hp Htg HO Ht1 Ht2]
  · isplitr; · iexact HI1
    isplitr; · iexact HI2
    isplitl [Hp]; · iexact Hp
    isplitl [Htg]; · iexact Htg
    isplitl [HO]; · iexact HO
    isplitl [Ht1]; · iexact Ht1
    isplitr; · iexact Hr1
    isplitl [Ht2]; · iexact Ht2
    iexact Hr2
  iintro ⟨Hc, HO⟩
  iapply Hk
  isplitl [Hat Hc]
  · isplitl [Hat] <;> iassumption
  iexists W; iexact HO

theorem send_out (q : PosShare TreeShare) (h0 : ¬(t.1 = 0 ∧ t.2.2.1 = 0))
    (hq : sendPay m ρ c t = oPts c (sch t c) q (outVal m ρ c))
    (ho : off = ![64 * sch t c, 0]) (ho' : off' = ![64 * sch t c, 0]) {inb inb'} {hsc} {hsrc} {hdst} {hsem}
    (O : CellTallies nD τ sig Unit) {α : Type} (k : PUnit → Pg (F := F) α) (Q : α → sProp 𝕄) :
    iprop(env m ρ K ∗ sendPay m ρ c t ∗ SB c t ∗ ∃ W, owes (c : Thread nD τ) (O + tallyAt (dmaCell true t (peer t c)) () N) W)
      ⊢ iprop(((atPos ER (dmaCell false t c) 0 ∅ 0 ∗ cred (tallyAt (dmaCell false t c) () N)) ∗ (∃ W, owes (c : Thread nD τ) O W) -∗ WP c (k ⟨⟩) Q)
        -∗ WP c (.op (.enqueueDma (oM.slice (Rect.unit (s := S4096x512) off S64x512.size inb) (fun _ => rfl))
              (.remote (Dev.tc n : Thread nD τ) (oM.slice (Rect.unit (s := S4096x512) off' S64x512.size inb') (fun _ => rfl)) (.dma s1) hsc)
              (.dma s2) hsrc hdst hsem) k) Q) := by
  have es := out_set (inb := inb) (sch t c) ho
  have es' := out_set (inb := inb') (sch t c) ho'
  have e : off' = off := ho'.trans ho.symm
  subst e
  refine send_gen m ρ K c n t hl hn hs1 hs2 (S := S64x512) rfl q (outVal m ρ c) ?_ ?_ ?_ ?_ O k Q
  · rw [hq, es]; exact BI.Entails.refl _
  · rw [hq, es]; exact BI.Entails.refl _
  · rw [es']; unfold tgt oPts; rw [hn]
  · intro fd
    unfold recvPay oPts
    refine Entails.of_eq ?_
    have e2 : rch t n = sch t c := by rw [hn]; rfl
    rw [e2, ← es']
    refine pointsTo_congr fun i hi => ?_
    have hi2 := hi
    rw [es'] at hi2
    refine (land_out fd _ hi).trans ?_
    rw [hn]
    exact out_agree m ρ t c hl h0 i hi2

theorem send_own (h0 : t.1 = 0 ∧ t.2.2.1 = 0) (hq : sendPay m ρ c t = wPts c t.2.2.2.val (shr t.2.1) (ownVal m ρ c))
    (ho : off = ![64 * t.2.2.2.val, 0]) (ho' : off' = ![64 * sch t c, 0]) {inb inb'} {hsc} {hsrc} {hdst} {hsem}
    (O : CellTallies nD τ sig Unit) {α : Type} (k : PUnit → Pg (F := F) α) (Q : α → sProp 𝕄) :
    iprop(env m ρ K ∗ sendPay m ρ c t ∗ SB c t ∗ ∃ W, owes (c : Thread nD τ) (O + tallyAt (dmaCell true t (peer t c)) () N) W)
      ⊢ iprop(((atPos ER (dmaCell false t c) 0 ∅ 0 ∗ cred (tallyAt (dmaCell false t c) () N)) ∗ (∃ W, owes (c : Thread nD τ) O W) -∗ WP c (k ⟨⟩) Q)
        -∗ WP c (.op (.enqueueDma (wM.slice (Rect.unit (s := S256x512) off S64x512.size inb) (fun _ => rfl))
              (.remote (Dev.tc n : Thread nD τ) (oM.slice (Rect.unit (s := S4096x512) off' S64x512.size inb') (fun _ => rfl)) (.dma s1) hsc)
              (.dma s2) hsrc hdst hsem) k) Q) := by
  have es := own_set (inb := inb) t.2.2.2.val ho
  have es' := out_set (inb := inb') (sch t c) ho'
  refine send_gen m ρ K c n t hl hn hs1 hs2 (S := S64x512) rfl (shr t.2.1) (ownVal m ρ c) ?_ ?_ ?_ ?_ O k Q
  · rw [hq, es]; exact BI.Entails.refl _
  · rw [hq, es]; exact BI.Entails.refl _
  · rw [es']; unfold tgt oPts; rw [hn]
  · intro fd
    unfold recvPay oPts
    refine Entails.of_eq ?_
    have e2 : rch t n = sch t c := by rw [hn]; rfl
    rw [e2, ← es']
    refine pointsTo_congr fun i hi => ?_
    refine land_own _ _ ho ho' fd _ _ (fun i j h1 h2 h3 h4 => ?_) hi
    rw [hn]
    exact own_agree m ρ t c hl h0 i j h1 h2 h3 h4

end Send

end Cert.KernelIdeal.AG
-- ==== Proof.ISlots.lean ====
/-
# Slots: what a device holds of each, and how the three kinds of event change it
-/
module

public import proofs.«01_k».proof.Proof.ISteps

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)

/-! ## Triples -/

def ow (c : Dev nD) (O : CellTallies nD τ sig Unit) : sProp 𝕄 := iprop(∃ W, owes (c : Thread nD τ) O W)

/-- Under the invariants the operation takes `P` to `P'`. -/
structure Ht (K : Dev nD × CI → ℕ) (c : Dev nD) (P : sProp 𝕄) (op : TpuEff nD τ sig (Elt F) Λ₀ .tc PUnit) (P' : sProp 𝕄) : Prop where
  run : ∀ {α : Type} (k : PUnit → Pg (F := F) α) (Q : α → sProp 𝕄), iprop(env m ρ K ∗ P) ⊢ iprop((P' -∗ WP c (k ⟨⟩) Q) -∗ WP c (.op op k) Q)

section
variable {m ρ} {K : Dev nD × CI → ℕ} {c : Dev nD} {op : TpuEff nD τ sig (Elt F) Λ₀ .tc PUnit}

theorem Ht.frame {P P' : sProp 𝕄} (h : Ht m ρ K c P op P') (R : sProp 𝕄) : Ht m ρ K c iprop(P ∗ R) op iprop(P' ∗ R) := by
  refine ⟨fun {α} k Q => ?_⟩
  iintro ⟨#HE, HP, HR⟩ Hk
  iapply (h.run k Q) $$ [HP]
  · isplitr; · iexact HE
    iexact HP
  iintro HP
  iapply Hk
  isplitl [HP] <;> iassumption

theorem Ht.conv {P P' P₁ P₁' : sProp 𝕄} (h : Ht m ρ K c P op P') (h1 : P₁ ⊢ P) (h2 : P' ⊢ P₁') : Ht m ρ K c P₁ op P₁' := by
  refine ⟨fun {α} k Q => ?_⟩
  iintro ⟨#HE, HP⟩ Hk
  ihave HP := h1 $$ HP
  iapply (h.run k Q) $$ [HP]
  · isplitr; · iexact HE
    iexact HP
  iintro HP
  ihave HP := h2 $$ HP
  iapply Hk
  iexact HP

/-- A wait on a used DMA cell. -/
theorem ht_wait (x : Bool × Tr) (hl : liveC x c = true) {s : DmaSem sig} (hs : s = tsem x)
    {src dst : Memref sig .tc .vmem S64x512 .bf16} (hN : dst.view.dmaCredit = N) {h1 h2} (O : CellTallies nD τ sig Unit)
    (hm : (levAts L lv : sProp 𝕄) ⊢ MayWait (c : Thread nD τ) (.dma (tsem x)) () O) :
    Ht m ρ K c iprop(ow c O ∗ atPos ER (dmaCell x.1 x.2 c) 0 ∅ 0 ∗ cred (tallyAt (dmaCell x.1 x.2 c) () N)) (.waitDma2 s src dst h1 h2)
      iprop(ow c O ∗ semVal (dmaCell x.1 x.2 c) 0 ∗ cellPay m ρ c x) := by
  subst hs
  refine ⟨fun {α} k Q => ?_⟩
  have hw := wait_dma m ρ K c x hl (wpE_waitDma2_eq (src := src) (dst := dst) (hsrc := h1) (hdst := h2) 𝒱₀ (c : Thread nD τ) none Set.univ) hN O
  unfold ow
  iintro ⟨#HE, ⟨%W, HO⟩, Hat, Hc⟩ Hk
  ihave HL := (@env_lev F _ m ρ K) $$ HE
  ihave HM := hm $$ HL
  iapply (hw W k Q) $$ [HO Hat Hc HM]
  · isplitr; · iexact HE
    isplitl [Hc]; · iexact Hc
    isplitl [HO]; · iexact HO
    isplitl [HM]; · iexact HM
    iexact Hat
  iexact Hk

end

/-! ## Slots -/

def qs (i : Fin 4) : PosShare TreeShare :=
  if i = 0 then fullShare.left else if i = 1 then fullShare.right.left else if i = 2 then fullShare.right.right else fullShare

/-- What slot `k`'s send of kind `i` reads. -/
def kpay (c : Dev nD) (k : Slot) (i : Fin 4) : sProp 𝕄 :=
  if k.2.1 = 0 then wPts c k.2.2.val (shr k.1) (ownVal m ρ c) else oPts c (kch k c i) (qs i) (outVal m ρ c)
/-- What slot `k` keeps of what it receives by kind `kd`. -/
def hold (c : Dev nD) (k : Slot) (kd : Fin 4) : sProp 𝕄 :=
  if kd ≠ 0 ∧ feeds k kd 3 = false then recvPay m ρ c (rtr kd k) else iprop(emp)

def recvSt (c : Dev nD) (t : Tr) (h : sProp 𝕄) (d : Bool) : sProp 𝕄 :=
  if d = true then iprop(semVal (dmaCell true t c) 0 ∗ h)
  else iprop(atPos ER (dmaCell true t c) 0 ∅ 0 ∗ cred (tallyAt (dmaCell true t c) () N))
def sendSt (c : Dev nD) (t : Tr) (P : Bool) (pay : sProp 𝕄) (ph : ℕ) : sProp 𝕄 :=
  if P = true then
    (if ph = 0 then SB c t else if ph = 1 then iprop(SB c t ∗ pay)
      else if ph = 2 then iprop(atPos ER (dmaCell false t c) 0 ∅ 0 ∗ cred (tallyAt (dmaCell false t c) () N))
      else iprop(semVal (dmaCell false t c) 0 ∗ pay))
  else if ph = 0 then iprop(emp) else pay

def recvK (c : Dev nD) (k : Slot) (r : ℕ) (i : Fin 4) : sProp 𝕄 :=
  if k.2.1 = 0 then iprop(emp) else recvSt c (rtr i k) (hold m ρ c k i) (rdone k i r)
def sendK (c : Dev nD) (k : Slot) (r : ℕ) (i : Fin 4) : sProp 𝕄 := sendSt c (str i k) (act k c i) (kpay m ρ c k i) (phS k i r)

/-- Device `c`'s slot `k` with `r` events left. -/
def slotSt (c : Dev nD) (k : Slot) (r : ℕ) : sProp 𝕄 :=
  if live k c = true then iprop(bigSep Finset.univ (recvK m ρ c k r) ∗ bigSep Finset.univ (sendK m ρ c k r)) else iprop(emp)

theorem kpay_eq (c : Dev nD) (k : Slot) (i : Fin 4) (h : act k c i = true) : kpay m ρ c k i = sendPay m ρ c (str i k) := by
  unfold kpay sendPay
  by_cases h0 : k.2.1 = 0
  · have hi := act_own k c i h0 h
    subst hi
    obtain ⟨e1, e2, e3, e4⟩ := str_own k h0
    rw [if_pos h0, if_pos e1, if_pos e2, e3, e4]
  · rw [if_neg h0, kch_sch k c i h h0]
    have hne := act_on k c i h0 h
    by_cases hi : i = 0
    · subst hi
      rw [if_pos (show (str 0 k).1 = 0 from rfl), if_neg (fun hh => hne ⟨rfl, hh⟩)]
      rfl
    · rw [if_neg (show ¬(str i k).1 = 0 from hi)]
      unfold qs
      rw [if_neg hi]
      rfl

theorem oPts_split (c : Dev nD) (n : ℕ) (q : PosShare TreeShare) (f) :
    (oPts c n q f : sProp 𝕄) ⊢ iprop(oPts c n q.left f ∗ oPts c n q.right f) := by
  unfold oPts; exact (pointsTo_share (PosShare.mem_left_op_right q)).1
theorem oPts_join (c : Dev nD) (n : ℕ) (q : PosShare TreeShare) (f) :
    iprop(oPts c n q.left f ∗ oPts c n q.right f) ⊢ (oPts c n q f : sProp 𝕄) := by
  unfold oPts; exact (pointsTo_share (PosShare.mem_left_op_right q)).2

theorem four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

theorem keep (P : sProp 𝕄) : P ⊢ iprop(P ∗ emp ∗ emp ∗ emp ∗ emp) := by
  iintro H
  isplitl [H]; · iexact H
  isplitr; · iempintro
  isplitr; · iempintro
  isplitr <;> iempintro
theorem give (P : sProp 𝕄) : P ⊢ iprop(emp ∗ emp ∗ emp ∗ emp ∗ P) := by
  iintro H
  isplitr; · iempintro
  isplitr; · iempintro
  isplitr; · iempintro
  isplitr; · iempintro
  iexact H

/-- What is received is what is kept and what is sent on. -/
theorem feed (c : Dev nD) (k : Slot) (h0 : k.2.1 ≠ 0) (kd : Fin 4) :
    recvPay m ρ c (rtr kd k) ⊢ iprop(hold m ρ c k kd ∗ bigSep Finset.univ fun i => if feeds k kd i = true then kpay m ρ c k i else iprop(emp)) := by
  obtain ⟨b, j, g⟩ := k
  have hj : ¬ j = 0 := h0
  rw [four]
  unfold hold kpay
  simp only [if_neg hj]
  have e : ∀ x y : Fin 4, kch (b, j, g) c x = rch (rtr (if x = 3 then (if g.val % 2 = 0 then 1 else 2) else 0) (b, j, g)) c := fun _ _ => rfl
  have hf : ∀ x : Fin 4, feeds (b, j, g) 0 x = decide (x ≠ 3) := fun _ => rfl
  fin_cases kd
  · rw [if_neg (by simp)]
    simp only [Fin.zero_eta, hf]
    simp only [show decide ((0 : Fin 4) ≠ 3) = true from rfl, show decide ((1 : Fin 4) ≠ 3) = true from rfl, show decide ((2 : Fin 4) ≠ 3) = true from rfl,
      show decide ((3 : Fin 4) ≠ 3) = false from rfl, if_true, Bool.false_eq_true, if_false]
    show oPts c (rch (rtr 0 (b, j, g)) c) fullShare (outVal m ρ c) ⊢ iprop(emp ∗ oPts c (rch (rtr 0 (b, j, g)) c) fullShare.left (outVal m ρ c)
      ∗ oPts c (rch (rtr 0 (b, j, g)) c) fullShare.right.left (outVal m ρ c) ∗ oPts c (rch (rtr 0 (b, j, g)) c) fullShare.right.right (outVal m ρ c) ∗ emp)
    iintro H
    ihave H := (oPts_split c _ fullShare _) $$ H
    icases H with ⟨H1, H2⟩
    ihave H2 := (oPts_split c _ fullShare.right _) $$ H2
    icases H2 with ⟨H2, H3⟩
    isplitr; · iempintro
    isplitl [H1]; · iexact H1
    isplitl [H2]; · iexact H2
    isplitl [H3]; · iexact H3
    iempintro
  · by_cases hg : g.val % 2 = 0
    · have f0 : feeds (b, j, g) 1 0 = false := rfl
      have f1 : feeds (b, j, g) 1 1 = false := rfl
      have f2 : feeds (b, j, g) 1 2 = false := rfl
      have f3 : feeds (b, j, g) 1 3 = true := by simp [feeds, hg]
      have e3 : kch (b, j, g) c 3 = rch (rtr 1 (b, j, g)) c := by rw [e 3 3]; simp [hg]
      simp only [Fin.mk_one, f0, f1, f2, f3, e3, if_true, Bool.false_eq_true, if_false]
      show oPts c (rch (rtr 1 (b, j, g)) c) fullShare (outVal m ρ c) ⊢ iprop(emp ∗ emp ∗ emp ∗ emp ∗ oPts c (rch (rtr 1 (b, j, g)) c) fullShare (outVal m ρ c))
      exact give _
    · have f0 : feeds (b, j, g) 1 0 = false := rfl
      have f1 : feeds (b, j, g) 1 1 = false := rfl
      have f2 : feeds (b, j, g) 1 2 = false := rfl
      have f3 : feeds (b, j, g) 1 3 = false := by simp [feeds, hg]
      simp only [Fin.mk_one, f0, f1, f2, f3, Bool.false_eq_true, if_false]
      exact keep _
  · by_cases hg : g.val % 2 = 0
    · have f0 : feeds (b, j, g) 2 0 = false := rfl
      have f1 : feeds (b, j, g) 2 1 = false := rfl
      have f2 : feeds (b, j, g) 2 2 = false := rfl
      have f3 : feeds (b, j, g) 2 3 = false := by simp [feeds, hg]
      simp only [Fin.reduceFinMk, f0, f1, f2, f3, Bool.false_eq_true, if_false]
      exact keep _
    · have hg1 : g.val % 2 = 1 := by omega
      have f0 : feeds (b, j, g) 2 0 = false := rfl
      have f1 : feeds (b, j, g) 2 1 = false := rfl
      have f2 : feeds (b, j, g) 2 2 = false := rfl
      have f3 : feeds (b, j, g) 2 3 = true := by simp [feeds, hg1]
      have e3 : kch (b, j, g) c 3 = rch (rtr 2 (b, j, g)) c := by rw [e 3 3]; simp [hg1]
      simp only [Fin.reduceFinMk, f0, f1, f2, f3, e3, if_true, Bool.false_eq_true, if_false]
      show oPts c (rch (rtr 2 (b, j, g)) c) fullShare (outVal m ρ c) ⊢ iprop(emp ∗ emp ∗ emp ∗ emp ∗ oPts c (rch (rtr 2 (b, j, g)) c) fullShare (outVal m ρ c))
      exact give _
  · have f : ∀ x, feeds (b, j, g) 3 x = false := fun _ => rfl
    simp only [Fin.reduceFinMk, f, Bool.false_eq_true, if_false]
    exact keep _

theorem univ_at (i : Fin 4) (Φ : Fin 4 → sProp 𝕄) : bigSep Finset.univ Φ = iprop(Φ i ∗ bigSep (Finset.univ.erase i) Φ) := bigSep_univ_split i

section Slot
variable {m ρ} {K : Dev nD × CI → ℕ} {c : Dev nD}

theorem slotSt_live {k : Slot} (hl : live k c = true) (r : ℕ) (i : Fin 4) :
    slotSt m ρ c k r = iprop((recvK m ρ c k r i ∗ bigSep (Finset.univ.erase i) (recvK m ρ c k r)) ∗ sendK m ρ c k r i ∗ bigSep (Finset.univ.erase i) (sendK m ρ c k r)) := by
  unfold slotSt; rw [if_pos hl, univ_at i, univ_at i (sendK m ρ c k r)]

theorem sendK_of {k : Slot} {r r' : ℕ} {i : Fin 4} (h : phS k i (r + 1) = phS k i r) : sendK m ρ c k (r + 1) i = sendK m ρ c k r i := by
  unfold sendK; rw [h]
theorem recvK_of {k : Slot} {r r' : ℕ} {i : Fin 4} (h : rdone k i (r + 1) = rdone k i r) : recvK m ρ c k (r + 1) i = recvK m ρ c k r i := by
  unfold recvK; rw [h]

theorem sendK_gain {k : Slot} {kd : Fin 4} {r : ℕ} (i : Fin 4)
    (h : if feeds k kd i = true then phS k i (r + 1) = 0 ∧ phS k i r = 1 else phS k i (r + 1) = phS k i r) :
    iprop(sendK m ρ c k (r + 1) i ∗ if feeds k kd i = true then kpay m ρ c k i else iprop(emp)) ⊢ sendK m ρ c k r i := by
  by_cases hf : feeds k kd i = true
  · rw [if_pos hf] at h
    rw [if_pos hf]
    unfold sendK sendSt
    rw [h.1, h.2]
    by_cases ha : act k c i = true
    · rw [if_pos ha, if_pos ha, if_pos rfl, if_neg Nat.one_ne_zero, if_pos rfl]
    · rw [if_neg ha, if_neg ha, if_pos rfl, if_neg Nat.one_ne_zero]
      iintro ⟨-, H⟩; iexact H
  · rw [if_neg hf] at h
    rw [if_neg hf, sendK_of (r' := r) h]
    iintro ⟨H, -⟩; iexact H

/-- A receiving event. -/
theorem slot_recv (n : ℕ) (h : IsRecv n) (hl : live (slotAt n) c = true) {s : DmaSem sig} (hs : s = tsem (true, rtr (evk n) (slotAt n)))
    {src dst : Memref sig .tc .vmem S64x512 .bf16} (hN : dst.view.dmaCredit = N) {h1 h2} (O : CellTallies nD τ sig Unit)
    (hm : (levAts L lv : sProp 𝕄) ⊢ MayWait (c : Thread nD τ) (.dma (tsem (true, rtr (evk n) (slotAt n)))) () O) :
    Ht m ρ K c iprop(ow c O ∗ slotSt m ρ c (slotAt n) (rem (n + 1) (slotAt n) + 1)) (.waitDma2 s src dst h1 h2)
      iprop(ow c O ∗ slotSt m ρ c (slotAt n) (rem (n + 1) (slotAt n))) := by
  obtain ⟨-, hj, d1, d2, dr, dp, -, -⟩ := h
  generalize hk : slotAt n = k at *
  generalize hr : rem (n + 1) k = r at *
  generalize hd : evk n = kd at *
  have e1 : recvK m ρ c k (r + 1) kd = iprop(atPos ER (dmaCell true (rtr kd k) c) 0 ∅ 0 ∗ cred (tallyAt (dmaCell true (rtr kd k) c) () N)) := by
    unfold recvK recvSt; rw [if_neg hj, d1]; exact if_neg Bool.false_ne_true
  have e2 : recvK m ρ c k r kd = iprop(semVal (dmaCell true (rtr kd k) c) 0 ∗ hold m ρ c k kd) := by
    unfold recvK recvSt; rw [if_neg hj, d2, if_pos rfl]
  have e3 : bigSep (Finset.univ.erase kd) (recvK m ρ c k (r + 1)) = bigSep (Finset.univ.erase kd) (recvK m ρ c k r) :=
    bigSep_congr fun i hi => recvK_of (r' := r) (dr i (Finset.ne_of_mem_erase hi))
  have e4 : iprop(bigSep Finset.univ (sendK m ρ c k (r + 1)) ∗ bigSep Finset.univ fun i => if feeds k kd i = true then kpay m ρ c k i else iprop(emp))
      ⊢ bigSep Finset.univ (sendK m ρ c k r) :=
    (Entails.of_eq (bigSep_sep' ..).symm).trans (bigSep_mono fun i _ => sendK_gain i (dp i))
  refine Ht.conv (Ht.frame (ht_wait (m := m) (ρ := ρ) (K := K) (true, rtr kd k) ((live_rtr k c kd hj).trans hl) hs hN O hm)
    iprop(bigSep (Finset.univ.erase kd) (recvK m ρ c k (r + 1)) ∗ bigSep Finset.univ (sendK m ρ c k (r + 1)))) ?_ ?_
  · unfold slotSt
    rw [if_pos hl, univ_at kd (recvK m ρ c k (r + 1)), e1]
    iintro ⟨HO, ⟨⟨Ha, Hc⟩, Hr⟩, Hs⟩
    isplitl [HO Ha Hc]
    · isplitl [HO]; · iexact HO
      isplitl [Ha] <;> iassumption
    isplitl [Hr] <;> iassumption
  · unfold slotSt
    rw [if_pos hl, univ_at kd (recvK m ρ c k r), e2, e3]
    iintro ⟨⟨HO, Hz, Hp⟩, Hr, Hs⟩
    ihave Hp := (show cellPay m ρ c (true, rtr kd k) ⊢ _ from feed m ρ c k hj kd) $$ Hp
    icases Hp with ⟨Hh, Hp⟩
    isplitl [HO]; · iexact HO
    isplitr [Hs Hp]
    · isplitl [Hz Hh]
      · isplitl [Hz] <;> iassumption
      iexact Hr
    iapply e4
    isplitl [Hs] <;> iassumption

/-- Moving one send of a slot along, the operation changing only that send's state. -/
theorem slot_move (n : ℕ) (h : IsMove n) (hl : live (slotAt n) c = true) {op : TpuEff nD τ sig (Elt F) Λ₀ .tc PUnit} (A A' : sProp 𝕄)
    (ht : Ht m ρ K c iprop(A ∗ sendK m ρ c (slotAt n) (rem (n + 1) (slotAt n) + 1) (evk n)) op iprop(A' ∗ sendK m ρ c (slotAt n) (rem (n + 1) (slotAt n)) (evk n))) :
    Ht m ρ K c iprop(A ∗ slotSt m ρ c (slotAt n) (rem (n + 1) (slotAt n) + 1)) op
      iprop(A' ∗ slotSt m ρ c (slotAt n) (rem (n + 1) (slotAt n))) := by
  obtain ⟨-, -, -, dr, dp, -⟩ := h
  generalize hk : slotAt n = k at *
  generalize hr : rem (n + 1) k = r at *
  generalize hd : evk n = kd at *
  have e3 : bigSep Finset.univ (recvK m ρ c k (r + 1)) = bigSep Finset.univ (recvK m ρ c k r) := bigSep_congr fun i _ => recvK_of (r' := r) (dr i)
  have e4 : bigSep (Finset.univ.erase kd) (sendK m ρ c k (r + 1)) = bigSep (Finset.univ.erase kd) (sendK m ρ c k r) :=
    bigSep_congr fun i hi => sendK_of (r' := r) (dp i (Finset.ne_of_mem_erase hi))
  refine Ht.conv (Ht.frame ht iprop(bigSep Finset.univ (recvK m ρ c k (r + 1)) ∗ bigSep (Finset.univ.erase kd) (sendK m ρ c k (r + 1)))) ?_ ?_
  · unfold slotSt
    rw [if_pos hl, univ_at kd (sendK m ρ c k (r + 1))]
    iintro ⟨HO, Hr, H1, Hs⟩
    isplitl [HO H1]
    · isplitl [HO] <;> iassumption
    isplitl [Hr] <;> iassumption
  · unfold slotSt
    rw [if_pos hl, univ_at kd (sendK m ρ c k r), e3, e4]
    iintro ⟨⟨HO, H1⟩, Hr, Hs⟩
    isplitl [HO]; · iexact HO
    isplitl [Hr]; · iexact Hr
    isplitl [H1] <;> iassumption

/-- The wait for what was sent to have been read. -/
theorem slot_read (n : ℕ) (h : IsRead n) (ha : act (slotAt n) c (evk n) = true) {s : DmaSem sig} (hs : s = tsem (false, str (evk n) (slotAt n)))
    {src dst : Memref sig .tc .vmem S64x512 .bf16} (hN : dst.view.dmaCredit = N) {h1 h2} (O : CellTallies nD τ sig Unit)
    (hm : (levAts L lv : sProp 𝕄) ⊢ MayWait (c : Thread nD τ) (.dma (tsem (false, str (evk n) (slotAt n)))) () O) :
    Ht m ρ K c iprop(ow c O ∗ slotSt m ρ c (slotAt n) (rem (n + 1) (slotAt n) + 1)) (.waitDma2 s src dst h1 h2)
      iprop(ow c O ∗ slotSt m ρ c (slotAt n) (rem (n + 1) (slotAt n))) := by
  refine slot_move n h.move (act_live _ _ _ ha) _ _ ?_
  obtain ⟨-, -, p1, p2, -⟩ := h
  unfold sendK sendSt
  rw [p1, p2, if_pos ha, if_pos ha, kpay_eq m ρ c _ _ ha]
  simp only [if_neg (show ¬(2 = 0) by decide), if_neg (show ¬(2 = 1) by decide), if_neg (show ¬(3 = 0) by decide), if_neg (show ¬(3 = 1) by decide),
    if_neg (show ¬(3 = 2) by decide), if_true]
  exact ht_wait (false, str (evk n) (slotAt n)) (act_liveS _ _ _ ha) hs hN O hm

/-- A send. -/
theorem slot_send (n : ℕ) (h : IsSend n) (ha : act (slotAt n) c (evk n) = true) {op : TpuEff nD τ sig (Elt F) Λ₀ .tc PUnit} (O : CellTallies nD τ sig Unit)
    (hop : ∀ {α : Type} (k : PUnit → Pg (F := F) α) (Q : α → sProp 𝕄),
      iprop(env m ρ K ∗ sendPay m ρ c (str (evk n) (slotAt n)) ∗ SB c (str (evk n) (slotAt n))
          ∗ ∃ W, owes (c : Thread nD τ) (O + tallyAt (dmaCell true (str (evk n) (slotAt n)) (peer (str (evk n) (slotAt n)) c)) () N) W)
        ⊢ iprop(((atPos ER (dmaCell false (str (evk n) (slotAt n)) c) 0 ∅ 0 ∗ cred (tallyAt (dmaCell false (str (evk n) (slotAt n)) c) () N))
            ∗ (∃ W, owes (c : Thread nD τ) O W) -∗ WP c (k ⟨⟩) Q) -∗ WP c (.op op k) Q)) :
    Ht m ρ K c iprop(ow c (O + tallyAt (dmaCell true (str (evk n) (slotAt n)) (peer (str (evk n) (slotAt n)) c)) () N)
        ∗ slotSt m ρ c (slotAt n) (rem (n + 1) (slotAt n) + 1)) op
      iprop(ow c O ∗ slotSt m ρ c (slotAt n) (rem (n + 1) (slotAt n))) := by
  refine slot_move n h.move (act_live _ _ _ ha) _ _ ?_
  obtain ⟨-, -, p1, p2, -⟩ := h
  unfold sendK sendSt
  rw [p1, p2, if_pos ha, if_pos ha, kpay_eq m ρ c _ _ ha]
  simp only [if_neg (show ¬(1 = 0) by decide), if_neg (show ¬(2 = 0) by decide), if_neg (show ¬(2 = 1) by decide), if_true]
  unfold ow
  refine ⟨fun {α} k Q => ?_⟩
  iintro ⟨#HE, HO, HS, Hp⟩ Hk
  iapply (hop k Q) $$ [HO HS Hp]
  · isplitr; · iexact HE
    isplitl [Hp]; · iexact Hp
    isplitl [HS] <;> iassumption
  iintro ⟨H1, H2⟩
  iapply Hk
  isplitl [H2] <;> iassumption

/-- A send which a device does not take part in. -/
theorem slot_still (n : ℕ) (h : IsMove n) (ha : act (slotAt n) c (evk n) = false) :
    slotSt m ρ c (slotAt n) (rem (n + 1) (slotAt n) + 1) = slotSt m ρ c (slotAt n) (rem (n + 1) (slotAt n)) := by
  obtain ⟨-, p1, p2, dr, dp, -⟩ := h
  unfold slotSt
  congr 2
  · exact bigSep_congr fun i _ => recvK_of (r' := 0) (dr i)
  · refine bigSep_congr fun i _ => ?_
    by_cases hi : i = evk n
    · subst hi
      unfold sendK sendSt
      rw [ha, if_neg Bool.false_ne_true, if_neg Bool.false_ne_true, if_neg p1, if_neg p2]
    · exact sendK_of (r' := 0) (dp i hi)

end Slot

end Cert.KernelIdeal.AG
-- ==== Proof.IState.lean ====
/-
# The state after each event, and the program's steps between them
-/
module

public import proofs.«01_k».proof.Proof.ISlots

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)

/-! ## What is owed -/

theorem Ok_same (c : Dev nD) (k : Slot) (r : ℕ) (h : ∀ i, act k c i = true → (thr k i ≤ r + 1 ↔ thr k i ≤ r)) : Ok c k (r + 1) = Ok c k r := by
  unfold Ok
  refine Finset.sum_congr rfl fun i _ => ?_
  by_cases ha : act k c i = true
  · simp only [h i ha]
  · rw [if_neg (fun hh => ha hh.1), if_neg (fun hh => ha hh.1)]

theorem Ok_sent (c : Dev nD) (k : Slot) (r : ℕ) (kd : Fin 4) (ha : act k c kd = true) (h1 : thr k kd = r + 1)
    (h : ∀ i, i ≠ kd → (thr k i ≤ r + 1 ↔ thr k i ≤ r)) :
    Ok c k (r + 1) = Ok c k r + tallyAt (dmaCell true (str kd k) (peer (str kd k) c)) () N := by
  unfold Ok
  rw [← Finset.sum_erase_add _ _ (Finset.mem_univ kd), ← Finset.sum_erase_add Finset.univ (fun i => if act k c i = true ∧ thr k i ≤ r then _ else 0) (Finset.mem_univ kd),
    if_pos ⟨ha, h1.le⟩, if_neg (fun hh => by omega), add_zero]
  congr 1
  refine Finset.sum_congr rfl fun i hi => ?_
  simp only [h i (Finset.ne_of_mem_erase hi)]

theorem rem_at (n : ℕ) (hn : n < 304) : rem n (slotAt n) = rem (n + 1) (slotAt n) + 1 := by
  have := rem_step ⟨n, hn⟩ (slotAt n)
  rwa [if_pos rfl] at this
theorem rem_other (n : ℕ) (hn : n < 304) (k : Slot) (hk : k ≠ slotAt n) : rem n k = rem (n + 1) k := by
  have := rem_step ⟨n, hn⟩ k
  rwa [if_neg hk] at this

theorem Oc_at (c : Dev nD) (f : Slot → ℕ) (k : Slot) : Oc c f = (∑ k' ∈ Finset.univ.erase k, Ok c k' (f k')) + Ok c k (f k) :=
  (Finset.sum_erase_add _ _ (Finset.mem_univ k)).symm

theorem Oc_same (c : Dev nD) (n : ℕ) (hn : n < 304)
    (h : ∀ i, act (slotAt n) c i = true → (thr (slotAt n) i ≤ rem (n + 1) (slotAt n) + 1 ↔ thr (slotAt n) i ≤ rem (n + 1) (slotAt n))) :
    Oc c (rem n) = Oc c (rem (n + 1)) := by
  rw [Oc_at c (rem n) (slotAt n), Oc_at c (rem (n + 1)) (slotAt n), rem_at n hn, Ok_same c _ _ h]
  congr 1
  exact Finset.sum_congr rfl fun k hk => by rw [rem_other n hn k (Finset.ne_of_mem_erase hk)]

theorem Oc_sent (c : Dev nD) (n : ℕ) (h : IsSend n) (ha : act (slotAt n) c (evk n) = true) :
    Oc c (rem n) = Oc c (rem (n + 1)) + tallyAt (dmaCell true (str (evk n) (slotAt n)) (peer (str (evk n) (slotAt n)) c)) () N := by
  obtain ⟨hn, -, -, -, -, -, h1, h2⟩ := h
  rw [Oc_at c (rem n) (slotAt n), Oc_at c (rem (n + 1)) (slotAt n), rem_at n hn, Ok_sent c _ _ (evk n) ha h1 h2, add_assoc]
  congr 1
  exact Finset.sum_congr rfl fun k hk => by rw [rem_other n hn k (Finset.ne_of_mem_erase hk)]

/-! ## The state -/

/-- What device `c` holds after the first `n` events. -/
def St (c : Dev nD) (n : ℕ) : sProp 𝕄 := iprop(ow c (Oc c (rem n)) ∗ bigSep Finset.univ fun k : Slot => slotSt m ρ c k (rem n k))

/-- The slots an event leaves alone. -/
def others (c : Dev nD) (n : ℕ) : sProp 𝕄 := bigSep (Finset.univ.erase (slotAt n)) fun k : Slot => slotSt m ρ c k (rem (n + 1) k)

theorem St_before (c : Dev nD) (n : ℕ) (hn : n < 304) :
    St m ρ c n = iprop(ow c (Oc c (rem n)) ∗ slotSt m ρ c (slotAt n) (rem (n + 1) (slotAt n) + 1) ∗ others m ρ c n) := by
  unfold St others
  rw [bigSep_univ_split (slotAt n), rem_at n hn]
  congr 2
  exact bigSep_congr fun k hk => by rw [rem_other n hn k (Finset.ne_of_mem_erase hk)]
theorem St_after (c : Dev nD) (n : ℕ) :
    St m ρ c (n + 1) = iprop(ow c (Oc c (rem (n + 1))) ∗ slotSt m ρ c (slotAt n) (rem (n + 1) (slotAt n)) ∗ others m ρ c n) := by
  unfold St others
  rw [bigSep_univ_split (slotAt n)]
  rfl

section
variable {m ρ} {K : Dev nD × CI → ℕ} {c : Dev nD}

theorem St_lift {op : TpuEff nD τ sig (Elt F) Λ₀ .tc PUnit} (n : ℕ) (hn : n < 304)
    (h : Ht m ρ K c iprop(ow c (Oc c (rem n)) ∗ slotSt m ρ c (slotAt n) (rem (n + 1) (slotAt n) + 1)) op
      iprop(ow c (Oc c (rem (n + 1))) ∗ slotSt m ρ c (slotAt n) (rem (n + 1) (slotAt n)))) :
    Ht m ρ K c (St m ρ c n) op (St m ρ c (n + 1)) := by
  refine Ht.conv (Ht.frame h (others m ρ c n)) ?_ ?_
  · rw [St_before m ρ c n hn]
    iintro ⟨H1, H2, H3⟩
    isplitr [H3]
    · isplitl [H1] <;> iassumption
    iexact H3
  · rw [St_after]
    iintro ⟨⟨H1, H2⟩, H3⟩
    isplitl [H1]; · iexact H1
    isplitl [H2] <;> iassumption

/-- The `n`-th event under the condition `C`: the operation carries it out, and without it nothing changes. -/
structure Ev (m : (ℓ : Loc nD τ sig) → Buf (Elt F) ℓ) (ρ : Dev nD → PrngReg) (K : Dev nD × CI → ℕ) (c : Dev nD) (n : ℕ) (C : Prop) (op : C → TpuEff nD τ sig (Elt F) Λ₀ .tc PUnit) : Prop where
  yes : ∀ h : C, Ht m ρ K c (St m ρ c n) (op h) (St m ρ c (n + 1))
  no : ¬C → St m ρ c n = St m ρ c (n + 1)

/-- Not taking part in a send or in its completion. -/
theorem move_no {n : ℕ} (h : IsMove n) (ha : act (slotAt n) c (evk n) = false) : St m ρ c n = St m ρ c (n + 1) := by
  have hn := h.1
  rw [St_before m ρ c n hn, St_after, slot_still n h ha, Oc_same c n hn]
  intro i hi
  refine h.2.2.2.2.2 i fun he => ?_
  rw [he, ha] at hi
  exact Bool.false_ne_true hi

theorem recv_no {n : ℕ} (h : IsRecv n) (hl : live (slotAt n) c = false) : St m ρ c n = St m ρ c (n + 1) := by
  have hn := h.1
  rw [St_before m ρ c n hn, St_after, Oc_same c n hn (fun i _ => h.2.2.2.2.2.2.1 i)]
  unfold slotSt
  rw [hl, if_neg Bool.false_ne_true, if_neg Bool.false_ne_true]

theorem not_true {C : Prop} {b : Bool} (h : C ↔ b = true) (hn : ¬C) : b = false := by
  cases b
  · rfl
  · exact absurd (h.2 rfl) hn

variable {n : ℕ} {C : Dev nD → Prop}

theorem Ev.recv (h : IsRecv n) (hC : ∀ c, C c ↔ live (slotAt n) c = true) {s : DmaSem sig} (hs : s = tsem (true, rtr (evk n) (slotAt n)))
    {src dst : C c → Memref sig .tc .vmem S64x512 .bf16} (hN : ∀ h, (dst h).view.dmaCredit = N) {h1 : ∀ h, (src h).view.WordExact} {h2 : ∀ h, (dst h).view.WordExact} :
    Ev m ρ K c n (C c) (fun h => .waitDma2 s (src h) (dst h) (h1 h) (h2 h)) where
  yes hc := by
    refine St_lift n h.1 ?_
    rw [← Oc_same c n h.1 (fun i _ => h.2.2.2.2.2.2.1 i)]
    exact slot_recv n h ((hC c).1 hc) hs (hN hc) _ (mayWait_at c n _ _ (slev_recv _).le h.2.2.2.2.2.2.2)
  no hc := recv_no h (not_true (hC c) hc)

theorem Ev.read (h : IsRead n) (hC : ∀ c, C c ↔ act (slotAt n) c (evk n) = true) {s : DmaSem sig} (hs : s = tsem (false, str (evk n) (slotAt n)))
    {src dst : C c → Memref sig .tc .vmem S64x512 .bf16} (hN : ∀ h, (dst h).view.dmaCredit = N) {h1 : ∀ h, (src h).view.WordExact} {h2 : ∀ h, (dst h).view.WordExact} :
    Ev m ρ K c n (C c) (fun h => .waitDma2 s (src h) (dst h) (h1 h) (h2 h)) where
  yes hc := by
    refine St_lift n h.1 ?_
    rw [← Oc_same c n h.1 (fun i _ => h.2.2.2.2.2.2.1 i)]
    exact slot_read n h ((hC c).1 hc) hs (hN hc) _ (mayWait_at c n _ _ (slev_send _).le h.2.2.2.2.2.2.2)
  no hc := move_no h.move (not_true (hC c) hc)

theorem sendPay_out (t : Tr) (h0 : ¬(t.1 = 0 ∧ t.2.2.1 = 0)) : ∃ q, sendPay m ρ c t = oPts c (sch t c) q (outVal m ρ c) := by
  unfold sendPay
  by_cases h : t.1 = 0
  · rw [if_pos h, if_neg (fun hh => h0 ⟨h, hh⟩)]; exact ⟨_, rfl⟩
  · rw [if_neg h]; exact ⟨_, rfl⟩

theorem Ev.send {off off' : Dev nD → Fin 2 → ℕ} {dv : Dev nD → ℕ} (h : IsSend n) (hk : (slotAt n).2.1 ≠ 0) (hC : ∀ c, C c ↔ act (slotAt n) c (evk n) = true)
    (ho : ∀ c, C c → off c = ![64 * sch (str (evk n) (slotAt n)) c, 0]) (ho' : ∀ c, C c → off' c = ![64 * sch (str (evk n) (slotAt n)) c, 0])
    (hd : ∀ c, C c → dv c = (peer (str (evk n) (slotAt n)) c).val)
    {s1 s2 : DmaSem sig} (hs1 : s1 = tsem (false, str (evk n) (slotAt n))) (hs2 : s2 = tsem (true, str (evk n) (slotAt n)))
    {lt : C c → dv c < nD} {inb : C c → ∀ i, off c i + S64x512.size i ≤ S4096x512.size i} {inb' : C c → ∀ i, off' c i + S64x512.size i ≤ S4096x512.size i} {hsc : ∀ h : C c, (oM.slice (Rect.unit (s := S4096x512) (off' c) S64x512.size (inb' h)) (fun _ => rfl)).view.ref.isScScratch = false}
    {hsrc : ∀ h : C c, (oM.slice (Rect.unit (s := S4096x512) (off c) S64x512.size (inb h)) (fun _ => rfl)).view.WordExact}
    {hdst : ∀ h : C c, (oM.slice (Rect.unit (s := S4096x512) (off' c) S64x512.size (inb' h)) (fun _ => rfl)).view.WordExact}
    {hsem : ∀ h : C c, DmaTarget.Typed .vmem (.dma s2) (.remote (Dev.tc (⟨dv c, lt h⟩ : Dev nD) : Thread nD τ) (oM.slice (Rect.unit (s := S4096x512) (off' c) S64x512.size (inb' h)) (fun _ => rfl)) (.dma s1) (hsc h))} :
    Ev m ρ K c n (C c) (fun h => .enqueueDma (oM.slice (Rect.unit (s := S4096x512) (off c) S64x512.size (inb h)) (fun _ => rfl))
              (.remote (Dev.tc (⟨dv c, lt h⟩ : Dev nD) : Thread nD τ) (oM.slice (Rect.unit (s := S4096x512) (off' c) S64x512.size (inb' h)) (fun _ => rfl)) (.dma s1) (hsc h))
              (.dma s2) (hsrc h) (hdst h) (hsem h)) where
  yes hc := by
    have ha := (hC c).1 hc
    refine St_lift n h.1 ?_
    rw [Oc_sent c n h ha]
    have h0 := act_on _ _ _ hk ha
    obtain ⟨q, hq⟩ := sendPay_out (m := m) (ρ := ρ) (c := c) _ h0
    exact slot_send n h ha _ (fun k Q => send_out m ρ K c _ _ (act_liveS _ _ _ ha) (Fin.ext (hd c hc)) hs1 hs2 q h0 hq (ho c hc) (ho' c hc) _ k Q)
  no hc := move_no h.move (not_true (hC c) hc)

theorem Ev.own {off' : Dev nD → Fin 2 → ℕ} {off : Fin 2 → ℕ} {dv : Dev nD → ℕ} (h : IsSend n) (hk : (slotAt n).2.1 = 0) (hC : ∀ c, C c ↔ act (slotAt n) c (evk n) = true)
    (ho : off = ![64 * (slotAt n).2.2.val, 0]) (ho' : ∀ c, C c → off' c = ![64 * sch (str (evk n) (slotAt n)) c, 0])
    (hd : ∀ c, C c → dv c = (peer (str (evk n) (slotAt n)) c).val)
    {s1 s2 : DmaSem sig} (hs1 : s1 = tsem (false, str (evk n) (slotAt n))) (hs2 : s2 = tsem (true, str (evk n) (slotAt n)))
    {lt : C c → dv c < nD} {inb : ∀ i, off i + S64x512.size i ≤ S256x512.size i} {inb' : C c → ∀ i, off' c i + S64x512.size i ≤ S4096x512.size i} {hsc : ∀ h : C c, (oM.slice (Rect.unit (s := S4096x512) (off' c) S64x512.size (inb' h)) (fun _ => rfl)).view.ref.isScScratch = false}
    {hsrc : ∀ h : C c, (wM.slice (Rect.unit (s := S256x512) off S64x512.size inb) (fun _ => rfl)).view.WordExact}
    {hdst : ∀ h : C c, (oM.slice (Rect.unit (s := S4096x512) (off' c) S64x512.size (inb' h)) (fun _ => rfl)).view.WordExact}
    {hsem : ∀ h : C c, DmaTarget.Typed .vmem (.dma s2) (.remote (Dev.tc (⟨dv c, lt h⟩ : Dev nD) : Thread nD τ) (oM.slice (Rect.unit (s := S4096x512) (off' c) S64x512.size (inb' h)) (fun _ => rfl)) (.dma s1) (hsc h))} :
    Ev m ρ K c n (C c) (fun h => .enqueueDma (wM.slice (Rect.unit (s := S256x512) off S64x512.size inb) (fun _ => rfl))
              (.remote (Dev.tc (⟨dv c, lt h⟩ : Dev nD) : Thread nD τ) (oM.slice (Rect.unit (s := S4096x512) (off' c) S64x512.size (inb' h)) (fun _ => rfl)) (.dma s1) (hsc h))
              (.dma s2) (hsrc h) (hdst h) (hsem h)) where
  yes hc := by
    have ha := (hC c).1 hc
    refine St_lift n h.1 ?_
    rw [Oc_sent c n h ha]
    have hkd := h.2.1 hk
    obtain ⟨e1, e2, e3, e4⟩ := str_own _ hk
    have hs0 : str 0 = str (evk n) := by rw [hkd]
    rw [hs0] at e1 e2 e3 e4
    have hq : sendPay m ρ c (str (evk n) (slotAt n)) = wPts c (str (evk n) (slotAt n)).2.2.2.val (shr (str (evk n) (slotAt n)).2.1) (ownVal m ρ c) := by
      unfold sendPay; rw [if_pos e1, if_pos e2]
    exact slot_send n h ha _ (fun k Q => send_own m ρ K c _ _ (act_liveS _ _ _ ha) (Fin.ext (hd c hc)) hs1 hs2 ⟨e1, e2⟩ hq (by rw [e3]; exact ho) (ho' c hc) _ k Q)
  no hc := move_no h.move (not_true (hC c) hc)

/-! ## Steps of the program -/

/-- What runs on: from the `n`-th event on, `p` ends in `Q`. -/
def Go (m : (ℓ : Loc nD τ sig) → Buf (Elt F) ℓ) (ρ : Dev nD → PrngReg) (K : Dev nD × CI → ℕ) (c : Dev nD) (R : sProp 𝕄) (n : ℕ) {α : Type} (p : Pg (F := F) α) (Q : α → sProp 𝕄) : Prop :=
  iprop(env m ρ K ∗ St m ρ c n ∗ R) ⊢ WP c p Q

theorem Go.op {R : sProp 𝕄} {α : Type} {Q : α → sProp 𝕄} {op : TpuEff nD τ sig (Elt F) Λ₀ .tc PUnit} {k : PUnit → Pg (F := F) α} (h : Ht m ρ K c (St m ρ c n) op (St m ρ c (n + 1)))
    (hk : Go m ρ K c R (n + 1) (k ⟨⟩) Q) : Go m ρ K c R n (.op op k) Q := by
  unfold Go at *
  iintro ⟨#HE, HS, HR⟩
  iapply (h.run k Q) $$ [HS]
  · isplitr; · iexact HE
    iexact HS
  iintro HS
  iapply hk
  isplitr; · iexact HE
  isplitl [HS] <;> iassumption

theorem Go.skip {R : sProp 𝕄} {α : Type} {Q : α → sProp 𝕄} {p : Pg (F := F) α} (h : St m ρ c n = St m ρ c (n + 1)) (hk : Go m ρ K c R (n + 1) p Q) : Go m ρ K c R n p Q := by
  unfold Go at *; rw [h]; exact hk

variable {D : Prop} {inst : Decidable D}

/-- A program's continuation is looked at once, however often it is called: past one event. -/
theorem Go.join1 {R : sProp 𝕄} {α : Type} {Q : α → sProp 𝕄} {p : Pg (F := F) α} (f : Unit → Pg (F := F) α)
    (hp : Go m ρ K c R (n + 1) (f ⟨⟩) Q → Go m ρ K c R n p Q) (hf : Go m ρ K c R (n + 1) (f ⟨⟩) Q) : Go m ρ K c R n p Q := hp hf

/-- The same past two events. -/
theorem Go.join2 {R : sProp 𝕄} {α : Type} {Q : α → sProp 𝕄} {p : Pg (F := F) α} (f : Unit → Pg (F := F) α)
    (hp : Go m ρ K c R (n + 1 + 1) (f ⟨⟩) Q → Go m ρ K c R n p Q) (hf : Go m ρ K c R (n + 1 + 1) (f ⟨⟩) Q) : Go m ρ K c R n p Q := hp hf

/-- The same past three events. -/
theorem Go.join3 {R : sProp 𝕄} {α : Type} {Q : α → sProp 𝕄} {p : Pg (F := F) α} (f : Unit → Pg (F := F) α)
    (hp : Go m ρ K c R (n + 1 + 1 + 1) (f ⟨⟩) Q → Go m ρ K c R n p Q) (hf : Go m ρ K c R (n + 1 + 1 + 1) (f ⟨⟩) Q) : Go m ρ K c R n p Q := hp hf

/-- One event under a condition. -/
theorem Go.one {R : sProp 𝕄} {α : Type} {Q : α → sProp 𝕄} {op : D → TpuEff nD τ sig (Elt F) Λ₀ .tc PUnit} {p : Pg (F := F) α}
    (hk : Go m ρ K c R (n + 1) p Q) (e : Ev m ρ K c n D op) : Go m ρ K c R n (dite D (fun h => .op (op h) fun _ => p) fun _ => p) Q := by
  by_cases h : D
  · rw [dif_pos h]; exact Go.op (e.yes h) hk
  · rw [dif_neg h]; exact Go.skip (e.no h) hk

/-- Two events under one condition. -/
theorem Go.two {R : sProp 𝕄} {α : Type} {Q : α → sProp 𝕄} {op op' : D → TpuEff nD τ sig (Elt F) Λ₀ .tc PUnit} {p : Pg (F := F) α}
    (hk : Go m ρ K c R (n + 1 + 1) p Q) (e : Ev m ρ K c n D op) (e' : Ev m ρ K c (n + 1) D op') :
    Go m ρ K c R n (dite D (fun h => .op (op h) fun _ => .op (op' h) fun _ => p) fun _ => p) Q := by
  by_cases h : D
  · rw [dif_pos h]; exact Go.op (e.yes h) (Go.op (e'.yes h) hk)
  · rw [dif_neg h]; exact Go.skip (e.no h) (Go.skip (e'.no h) hk)

/-- Three events under one condition. -/
theorem Go.three {R : sProp 𝕄} {α : Type} {Q : α → sProp 𝕄} {op op' op'' : D → TpuEff nD τ sig (Elt F) Λ₀ .tc PUnit} {p : Pg (F := F) α}
    (hk : Go m ρ K c R (n + 1 + 1 + 1) p Q) (e : Ev m ρ K c n D op) (e' : Ev m ρ K c (n + 1) D op') (e'' : Ev m ρ K c (n + 1 + 1) D op'') :
    Go m ρ K c R n (dite D (fun h => .op (op h) fun _ => .op (op' h) fun _ => .op (op'' h) fun _ => p) fun _ => p) Q := by
  by_cases h : D
  · rw [dif_pos h]; exact Go.op (e.yes h) (Go.op (e'.yes h) (Go.op (e''.yes h) hk))
  · rw [dif_neg h]; exact Go.skip (e.no h) (Go.skip (e'.no h) (Go.skip (e''.no h) hk))

/-- An event no device takes part in. -/
theorem Go.still {R : sProp 𝕄} {α : Type} {Q : α → sProp 𝕄} {p : Pg (F := F) α} (ha : ∀ c : Dev nD, act (slotAt n) c (evk n) = false) (h : IsMove n)
    (hk : Go m ρ K c R (n + 1) p Q) : Go m ρ K c R n p Q := Go.skip (move_no h (ha c)) hk

theorem Go.ret {R : sProp 𝕄} {α : Type} {Q : α → sProp 𝕄} {a : α} (h : iprop(env m ρ K ∗ St m ρ c n ∗ R) ⊢ Q a) : Go m ρ K c R n (pure a) Q := by
  unfold Go WP
  refine h.trans ?_
  show _ ⊢ wp frame _ Set.univ (.ret a) Q
  rw [wp_ret]
  exact fupd_intro

/-- The program `p` takes the state from the `n`-th event to the `n'`-th. -/
def Runs (m : (ℓ : Loc nD τ sig) → Buf (Elt F) ℓ) (ρ : Dev nD → PrngReg) (K : Dev nD × CI → ℕ) (c : Dev nD) (n n' : ℕ) {α : Type} (p : Pg (F := F) α) : Prop :=
  ∀ (R : sProp 𝕄) (Q : α → sProp 𝕄), (∀ v, iprop(env m ρ K ∗ St m ρ c n' ∗ R) ⊢ Q v) → Go m ρ K c R n p Q

theorem Go.bind {n' : ℕ} {R : sProp 𝕄} {α β : Type} {Q : β → sProp 𝕄} {p : Pg (F := F) α} {k : α → Pg (F := F) β} (h : Runs m ρ K c n n' p)
    (hk : ∀ v, Go m ρ K c R n' (k v) Q) : Go m ρ K c R n (p >>= k) Q := by
  have := h R (fun v => WP c (k v) Q) hk
  unfold Go WP at *
  rw [wp_bind]
  exact this

end

end Cert.KernelIdeal.AG
-- ==== Proof.IPartsA.lean ====
/-
# The first pieces arriving: forwarding along `y`, to `x` and to `z`
-/
module

public import proofs.«01_k».proof.Proof.IState

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI Idealize.SL.Sem

variable {F : FTy → Type} [FloatOps F]
variable {m : (ℓ : Loc nD τ sig) → Buf (Elt F) ℓ} {ρ : Dev nD → PrngReg} {K : Dev nD × CI → ℕ} {c : Dev nD}

attribute [local irreducible] instDecidableEqBitVec BitVec.decEq

set_option maxRecDepth 65536 in
set_option maxHeartbeats 4000000 in
/-- Each of these stretches carries out its events in turn. -/
theorem partsA (h0 : xM.IsWhole) (h1 : oM.IsWhole) (h2 : wM.IsWhole) :
    (∀ v2 v5 v8 v9 v22 v24 v30 v31 v32 v33 v83 v84 v86 v88, Runs m ρ K c 10 25
      (k0_part76 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v2 v5 v8 v9 v22 v24 v30 v31 v32 v33 v83 v84 v86 v88)) ∧
    (∀ v2 v5 v8 v9 v22 v24 v30 v31 v32 v33 v83 v84 v122 v124, Runs m ρ K c 25 40
      (k0_part77 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v2 v5 v8 v9 v22 v24 v30 v31 v32 v33 v83 v84 v122 v124)) ∧
    (∀ v2 v5 v8 v9 v22 v24 v30 v31 v32 v33 v157 v158, Runs m ρ K c 40 53
      (k0_part78 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v2 v5 v8 v9 v22 v24 v30 v31 v32 v33 v157 v158)) ∧
    (∀ v2 v5 v8 v9 v22 v24 v30 v31 v32 v33 v157 v158 v180 v190, Runs m ρ K c 53 66
      (k0_part79 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v2 v5 v8 v9 v22 v24 v30 v31 v32 v33 v157 v158 v180 v190)) := by
  refine ⟨?_, ?_, ?_, ?_⟩
  all_goals intros
  all_goals intro R Q hk
  all_goals first
    | (rw [k0_part76_eq_skeleton]; unfold k0_part76_skel)
    | (rw [k0_part77_eq_skeleton]; unfold k0_part77_skel)
    | (rw [k0_part78_eq_skeleton]; unfold k0_part78_skel)
    | (rw [k0_part79_eq_skeleton]; unfold k0_part79_skel)
  all_goals repeat
    iterate 2 try refine Go.still (by decide +kernel) (by decide +kernel) ?_
    extract_lets -underBinder +onlyGivenNames jp
    first
    | (refine Go.join1 jp ?_ ?_
       focus
        clear_value jp
        intro hj
        simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, Prog.lift, Prog.bind_op, Prog.bind_ret, Prog.pure_eq_ret]
        refine Go.one hj ?_
        first
          | (apply Ev.send <;> decide +kernel)
          | (apply Ev.recv <;> first | decide +kernel | exact fun _ => rfl)
          | (apply Ev.read <;> first | decide +kernel | exact fun _ => rfl)
       subst jp
       beta_reduce)
    | (refine Go.join2 jp ?_ ?_
       focus
        clear_value jp
        intro hj
        simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, Prog.lift, Prog.bind_op, Prog.bind_ret, Prog.pure_eq_ret]
        refine Go.two hj ?_ ?_
        all_goals first
          | (apply Ev.send <;> decide +kernel)
          | (apply Ev.recv <;> first | decide +kernel | exact fun _ => rfl)
          | (apply Ev.read <;> first | decide +kernel | exact fun _ => rfl)
       subst jp
       beta_reduce)
    | (subst jp
       beta_reduce)
  all_goals exact Go.ret (hk _)

end Cert.KernelIdeal.AG
-- ==== Proof.IPartsB.lean ====
/-
# The later pieces, and the first onward sends
-/
module

public import proofs.«01_k».proof.Proof.IState

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI Idealize.SL.Sem

variable {F : FTy → Type} [FloatOps F]
variable {m : (ℓ : Loc nD τ sig) → Buf (Elt F) ℓ} {ρ : Dev nD → PrngReg} {K : Dev nD × CI → ℕ} {c : Dev nD}

attribute [local irreducible] instDecidableEqBitVec BitVec.decEq

set_option maxRecDepth 65536 in
set_option maxHeartbeats 4000000 in
/-- Each of these stretches carries out its events in turn. -/
theorem partsB (h0 : xM.IsWhole) (h1 : oM.IsWhole) (h2 : wM.IsWhole) :
    (∀ v2 v5 v8 v9 v22 v24 v30 v31 v32 v158 v214 v216 v222, Runs m ρ K c 66 84
      (k0_part80 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v2 v5 v8 v9 v22 v24 v30 v31 v32 v158 v214 v216 v222)) ∧
    (∀ v2 v5 v8 v9 v22 v24 v30 v31 v231 v232 v248, Runs m ρ K c 84 104
      (k0_part81 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v2 v5 v8 v9 v22 v24 v30 v31 v231 v232 v248)) ∧
    (∀ v2 v5 v8 v9 v22 v24 v26 v29 v281 v282, Runs m ρ K c 104 118
      (k0_part82 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v2 v5 v8 v9 v22 v24 v26 v29 v281 v282)) ∧
    (∀ v2 v5 v8 v9 v22 v24 v26 v29 v281 v282 v308 v310, Runs m ρ K c 118 133
      (k0_part83 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v2 v5 v8 v9 v22 v24 v26 v29 v281 v282 v308 v310)) := by
  refine ⟨?_, ?_, ?_, ?_⟩
  all_goals intros
  all_goals intro R Q hk
  all_goals first
    | (rw [k0_part80_eq_skeleton]; unfold k0_part80_skel)
    | (rw [k0_part81_eq_skeleton]; unfold k0_part81_skel)
    | (rw [k0_part82_eq_skeleton]; unfold k0_part82_skel)
    | (rw [k0_part83_eq_skeleton]; unfold k0_part83_skel)
  all_goals repeat
    iterate 2 try refine Go.still (by decide +kernel) (by decide +kernel) ?_
    extract_lets -underBinder +onlyGivenNames jp
    first
    | (refine Go.join1 jp ?_ ?_
       focus
        clear_value jp
        intro hj
        simp only [k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, Prog.lift, Prog.bind_op, Prog.bind_ret, Prog.pure_eq_ret]
        refine Go.one hj ?_
        first
          | (apply Ev.send <;> decide +kernel)
          | (apply Ev.recv <;> first | decide +kernel | exact fun _ => rfl)
          | (apply Ev.read <;> first | decide +kernel | exact fun _ => rfl)
       subst jp
       beta_reduce)
    | (refine Go.join2 jp ?_ ?_
       focus
        clear_value jp
        intro hj
        simp only [k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, Prog.lift, Prog.bind_op, Prog.bind_ret, Prog.pure_eq_ret]
        refine Go.two hj ?_ ?_
        all_goals first
          | (apply Ev.send <;> decide +kernel)
          | (apply Ev.recv <;> first | decide +kernel | exact fun _ => rfl)
          | (apply Ev.read <;> first | decide +kernel | exact fun _ => rfl)
       subst jp
       beta_reduce)
    | (subst jp
       beta_reduce)
  all_goals exact Go.ret (hk _)

end Cert.KernelIdeal.AG
-- ==== Proof.IPartsC.lean ====
/-
# The onward sends, the last arrivals and the first completions
-/
module

public import proofs.«01_k».proof.Proof.IState

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI Idealize.SL.Sem

variable {F : FTy → Type} [FloatOps F]
variable {m : (ℓ : Loc nD τ sig) → Buf (Elt F) ℓ} {ρ : Dev nD → PrngReg} {K : Dev nD × CI → ℕ} {c : Dev nD}

attribute [local irreducible] instDecidableEqBitVec BitVec.decEq

set_option maxRecDepth 65536 in
set_option maxHeartbeats 4000000 in
/-- Each of these stretches carries out its events in turn. -/
theorem partsC (h0 : xM.IsWhole) (h1 : oM.IsWhole) (h2 : wM.IsWhole) :
    (∀ v2 v5 v8 v9 v22 v24 v26 v29 v331 v332 v336, Runs m ρ K c 133 146
      (k0_part84 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v2 v5 v8 v9 v22 v24 v26 v29 v331 v332 v336)) ∧
    (∀ v2 v5 v8 v9 v22 v24 v26 v29 v331 v332 v370 v372, Runs m ρ K c 146 160
      (k0_part85 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v2 v5 v8 v9 v22 v24 v26 v29 v331 v332 v370 v372)) ∧
    (∀ v2 v5 v8 v9 v22 v24 v26 v29 v381 v382 v396 v398, Runs m ρ K c 160 176
      (k0_part86 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v2 v5 v8 v9 v22 v24 v26 v29 v381 v382 v396 v398)) ∧
    (∀ v5 v8 v9 v19 v431 v432, Runs m ρ K c 176 181
      (k0_part87 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v5 v8 v9 v19 v431 v432)) ∧
    (∀ v5 v8 v9 v19 v431 v432 v458 v461 v464, Runs m ρ K c 181 186
      (k0_part88 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v5 v8 v9 v19 v431 v432 v458 v461 v464)) ∧
    (∀ v5 v8 v9 v19 v477 v478 v491 v493 v494 c1_i32_314, Runs m ρ K c 186 192
      (k0_part89 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v5 v8 v9 v19 v477 v478 v491 v493 v494 c1_i32_314)) ∧
    (∀ v5 v8 v9 v19 v523 v524 v526, Runs m ρ K c 192 198
      (k0_part90 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v5 v8 v9 v19 v523 v524 v526)) ∧
    (∀ v5 v8 v9 v19 v24 v32 v33 v523 v524 c1_i32_359, Runs m ρ K c 198 208
      (k0_part91 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v5 v8 v9 v19 v24 v32 v33 v523 v524 c1_i32_359)) := by
  refine ⟨?_, ?_, ?_, ?_, ?_, ?_, ?_, ?_⟩
  all_goals intros
  all_goals intro R Q hk
  all_goals first
    | (rw [k0_part84_eq_skeleton]; unfold k0_part84_skel)
    | (rw [k0_part85_eq_skeleton]; unfold k0_part85_skel)
    | (rw [k0_part86_eq_skeleton]; unfold k0_part86_skel)
    | (rw [k0_part87_eq_skeleton]; unfold k0_part87_skel)
    | (rw [k0_part88_eq_skeleton]; unfold k0_part88_skel)
    | (rw [k0_part89_eq_skeleton]; unfold k0_part89_skel)
    | (rw [k0_part90_eq_skeleton]; unfold k0_part90_skel)
    | (rw [k0_part91_eq_skeleton]; unfold k0_part91_skel)
  all_goals repeat
    iterate 2 try refine Go.still (by decide +kernel) (by decide +kernel) ?_
    extract_lets -underBinder +onlyGivenNames jp
    first
    | (refine Go.join1 jp ?_ ?_
       focus
        clear_value jp
        intro hj
        simp only [k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, Prog.lift, Prog.bind_op, Prog.bind_ret, Prog.pure_eq_ret]
        refine Go.one hj ?_
        first
          | (apply Ev.send <;> decide +kernel)
          | (apply Ev.recv <;> first | decide +kernel | exact fun _ => rfl)
          | (apply Ev.read <;> first | decide +kernel | exact fun _ => rfl)
       subst jp
       beta_reduce)
    | (refine Go.join2 jp ?_ ?_
       focus
        clear_value jp
        intro hj
        simp only [k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, Prog.lift, Prog.bind_op, Prog.bind_ret, Prog.pure_eq_ret]
        refine Go.two hj ?_ ?_
        all_goals first
          | (apply Ev.send <;> decide +kernel)
          | (apply Ev.recv <;> first | decide +kernel | exact fun _ => rfl)
          | (apply Ev.read <;> first | decide +kernel | exact fun _ => rfl)
       subst jp
       beta_reduce)
    | (subst jp
       beta_reduce)
  all_goals exact Go.ret (hk _)

end Cert.KernelIdeal.AG
-- ==== Proof.IPartsD.lean ====
/-
# The completions
-/
module

public import proofs.«01_k».proof.Proof.IState

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI Idealize.SL.Sem

variable {F : FTy → Type} [FloatOps F]
variable {m : (ℓ : Loc nD τ sig) → Buf (Elt F) ℓ} {ρ : Dev nD → PrngReg} {K : Dev nD × CI → ℕ} {c : Dev nD}

attribute [local irreducible] instDecidableEqBitVec BitVec.decEq

set_option maxRecDepth 65536 in
set_option maxHeartbeats 4000000 in
/-- Each of these stretches carries out its events in turn. -/
theorem partsD (h0 : xM.IsWhole) (h1 : oM.IsWhole) (h2 : wM.IsWhole) :
    (∀ v5 v24 v26 v29 v32 v33 v585 v586 v588, Runs m ρ K c 208 224
      (k0_part92 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v5 v24 v26 v29 v32 v33 v585 v586 v588)) ∧
    (∀ v5 v24 v26 v29 v32 v33 v585 v586 v616 v618, Runs m ρ K c 224 241
      (k0_part93 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v5 v24 v26 v29 v32 v33 v585 v586 v616 v618)) ∧
    (∀ v5 v24 v26 v29 v32 v33 v643 v644 v646 v648 v653 c0_i32_416, Runs m ρ K c 241 261
      (k0_part94 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v5 v24 v26 v29 v32 v33 v643 v644 v646 v648 v653 c0_i32_416)) ∧
    (∀ v5 v24 v26 v29 v32 v33 v643 v644 v676 v685 c0_i32_434, Runs m ρ K c 261 285
      (k0_part95 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
        c v5 v24 v26 v29 v32 v33 v643 v644 v676 v685 c0_i32_434)) := by
  refine ⟨?_, ?_, ?_, ?_⟩
  all_goals intros
  all_goals intro R Q hk
  all_goals first
    | (rw [k0_part92_eq_skeleton]; unfold k0_part92_skel)
    | (rw [k0_part93_eq_skeleton]; unfold k0_part93_skel)
    | (rw [k0_part94_eq_skeleton]; unfold k0_part94_skel)
    | (rw [k0_part95_eq_skeleton]; unfold k0_part95_skel)
  all_goals repeat
    iterate 2 try refine Go.still (by decide +kernel) (by decide +kernel) ?_
    extract_lets -underBinder +onlyGivenNames jp
    first
    | (refine Go.join1 jp ?_ ?_
       focus
        clear_value jp
        intro hj
        simp only [k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, Prog.lift, Prog.bind_op, Prog.bind_ret, Prog.pure_eq_ret]
        refine Go.one hj ?_
        first
          | (apply Ev.send <;> decide +kernel)
          | (apply Ev.recv <;> first | decide +kernel | exact fun _ => rfl)
          | (apply Ev.read <;> first | decide +kernel | exact fun _ => rfl)
       subst jp
       beta_reduce)
    | (refine Go.join2 jp ?_ ?_
       focus
        clear_value jp
        intro hj
        simp only [k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, Prog.lift, Prog.bind_op, Prog.bind_ret, Prog.pure_eq_ret]
        refine Go.two hj ?_ ?_
        all_goals first
          | (apply Ev.send <;> decide +kernel)
          | (apply Ev.recv <;> first | decide +kernel | exact fun _ => rfl)
          | (apply Ev.read <;> first | decide +kernel | exact fun _ => rfl)
       subst jp
       beta_reduce)
    | (refine Go.join3 jp ?_ ?_
       focus
        clear_value jp
        intro hj
        simp only [k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, Prog.lift, Prog.bind_op, Prog.bind_ret, Prog.pure_eq_ret]
        refine Go.three hj ?_ ?_ ?_
        all_goals first
          | (apply Ev.send <;> decide +kernel)
          | (apply Ev.recv <;> first | decide +kernel | exact fun _ => rfl)
          | (apply Ev.read <;> first | decide +kernel | exact fun _ => rfl)
       subst jp
       beta_reduce)
    | (subst jp
       beta_reduce)
  all_goals exact Go.ret (hk _)

end Cert.KernelIdeal.AG
-- ==== Proof.IEntry.lean ====
/-
# A device's state at the start and at the end of the copying
-/
module

public import proofs.«01_k».proof.Proof.IState
public import proofs.«01_k».proof.Proof.Mesh2

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)

/-! ## Counting resources another way -/

theorem sep_none (P : sProp 𝕄) : iprop(P ∗ emp) = P := equiv_iff.mp BI.sep_emp
theorem none_sep (P : sProp 𝕄) : iprop(emp ∗ P) = P := equiv_iff.mp BI.emp_sep
theorem sep_regroup (P Q R : sProp 𝕄) : iprop((P ∗ Q) ∗ R) = iprop(P ∗ Q ∗ R) := equiv_iff.mp ⟨BI.sep_assoc, BI.sep_assoc'⟩
theorem bigSep_none {I : Type} (s : Finset I) : (bigSep s fun _ => (iprop(emp) : sProp 𝕄)) = iprop(emp) := BI.bigSep_emp_const s

theorem bigSep_reindex {I J : Type} (s : Finset I) (t : Finset J) (f : I → J) (g : J → I) (hf : ∀ x ∈ s, f x ∈ t ∧ g (f x) = x)
    (hg : ∀ y ∈ t, g y ∈ s ∧ f (g y) = y) (Φ : J → sProp 𝕄) : bigSep t Φ = bigSep s fun x => Φ (f x) := by
  classical
  have hi : Function.Injective fun x : s => f x.1 := fun x y h => Subtype.ext (by rw [← (hf x.1 x.2).2, ← (hf y.1 y.2).2]; exact congrArg g h)
  have ht : t = s.attach.map ⟨fun x : s => f x.1, hi⟩ := by
    ext y
    simp only [Finset.mem_map, Finset.mem_attach, true_and, Function.Embedding.coeFn_mk, Subtype.exists]
    exact ⟨fun hy => ⟨g y, (hg y hy).1, (hg y hy).2⟩, fun ⟨x, hx, e⟩ => e ▸ (hf x hx).1⟩
  rw [ht, bigSep_map]
  conv_rhs => rw [← Finset.attach_map_val (s := s), bigSep_map]
  rfl

/-- A family dealt out by what `g` says of its members. -/
theorem bigSep_groups {I : Type} (s : Finset I) (g : I → Fin 4) (Φ : I → sProp 𝕄) :
    bigSep s Φ = bigSep Finset.univ fun i => bigSep (s.filter fun t => g t = i) Φ := by
  classical
  induction s using Finset.induction_on with
  | empty => simp only [Finset.filter_empty, BI.bigSep_empty]; exact (bigSep_none _).symm
  | insert a s ha ih =>
    rw [BI.bigSep_insert ha, ih, bigSep_univ_split (g a) (Φ := fun i => bigSep ((insert a s).filter fun t => g t = i) Φ),
      bigSep_univ_split (g a) (Φ := fun i => bigSep (s.filter fun t => g t = i) Φ), Finset.filter_insert, if_pos rfl,
      BI.bigSep_insert (fun h => ha (Finset.mem_filter.mp h).1)]
    rw [bigSep_congr (s := Finset.univ.erase (g a)) (Φ := fun i => bigSep ((insert a s).filter fun t => g t = i) Φ)
      (Ψ := fun i => bigSep (s.filter fun t => g t = i) Φ)
      (fun i hi => by rw [Finset.filter_insert, if_neg (fun h => Finset.ne_of_mem_erase hi h.symm)])]
    exact (sep_regroup _ _ _).symm

theorem bigSep_if_sep {I : Type} (s : Finset I) (p : I → Prop) [DecidablePred p] (Φ Ψ : I → sProp 𝕄) :
    (bigSep s fun i => if p i then iprop(Φ i ∗ Ψ i) else iprop(emp))
      = iprop((bigSep s fun i => if p i then Φ i else iprop(emp)) ∗ bigSep s fun i => if p i then Ψ i else iprop(emp)) := by
  rw [← bigSep_sep']
  refine bigSep_congr fun i _ => ?_
  by_cases h : p i
  · simp only [if_pos h]
  · simp only [if_neg h]; exact (sep_none _).symm

/-- A family over the slots and kinds for which `p` holds. -/
theorem slots_sum (p : Slot × Fin 4 → Bool) (c : Dev nD) (hp : ∀ x, p x = true → live x.1 c = true) (Φ : Slot × Fin 4 → sProp 𝕄) :
    (bigSep Finset.univ fun k : Slot => if live k c = true then bigSep Finset.univ fun i : Fin 4 => if p (k, i) = true then Φ (k, i) else iprop(emp) else iprop(emp))
      = bigSep (Finset.univ.filter fun x => p x = true) Φ := by
  rw [bigSep_filter]
  refine Eq.trans ?_ (bigSep_univ_prod (fun x : Slot × Fin 4 => if p x = true then Φ x else iprop(emp))).symm
  refine bigSep_congr fun k _ => ?_
  by_cases hl : live k c = true
  · rw [if_pos hl]
  · rw [if_neg hl]
    refine Eq.trans (bigSep_none (F := F) (Finset.univ : Finset (Fin 4))).symm (bigSep_congr fun i _ => ?_)
    exact (if_neg fun h => hl (hp _ h)).symm

section
variable (c : Dev nD)

theorem recv_slots (f : Tr → sProp 𝕄) :
    (bigSep Finset.univ fun k : Slot => if live k c = true then bigSep Finset.univ fun i : Fin 4 => if rin c (k, i) = true then f (rtr i k) else iprop(emp) else iprop(emp))
      = bigSep (recvs c) f := by
  rw [slots_sum (rin c) c (fun x h => by unfold rin at h; exact (Bool.and_eq_true_iff.mp h).2) (fun x => f (rtr x.2 x.1))]
  refine (bigSep_reindex _ _ (fun x : Slot × Fin 4 => rtr x.2 x.1) unr (fun x hx => ?_) (fun t ht => ?_) f).symm
  · have := rtr_rin c x (Finset.mem_filter.mp hx).2
    exact ⟨mem_recvs.mpr this.1, this.2⟩
  · have := unr_live c t (mem_recvs.mp ht)
    exact ⟨Finset.mem_filter.mpr ⟨Finset.mem_univ _, this.1⟩, this.2⟩

theorem send_slots (f : Tr → sProp 𝕄) :
    (bigSep Finset.univ fun k : Slot => if live k c = true then bigSep Finset.univ fun i : Fin 4 => if act k c i = true then f (str i k) else iprop(emp) else iprop(emp))
      = bigSep (sends c) f := by
  refine (slots_sum (Cert.AG.sin c) c (fun x h => (sin_live c x h).1) (fun x => f (str x.2 x.1))).trans ?_
  refine (bigSep_reindex _ _ (fun x : Slot × Fin 4 => str x.2 x.1) uns (fun x hx => ?_) (fun t ht => ?_) f).symm
  · have := str_sin c x (Finset.mem_filter.mp hx).2
    exact ⟨mem_sends.mpr this.1, this.2⟩
  · have := uns_live c t (mem_sends.mp ht)
    exact ⟨Finset.mem_filter.mpr ⟨Finset.mem_univ _, this.1⟩, this.2⟩

/-- The device's own slots. -/
def own (x : Slot × Fin 4) : Bool := decide (x.1.2.1 = 0 ∧ x.2 = 0)
theorem own_slots (f : Bool × Fin 4 → sProp 𝕄) :
    (bigSep Finset.univ fun k : Slot => if live k c = true then bigSep Finset.univ fun i : Fin 4 => if own (k, i) = true then f (k.1, k.2.2) else iprop(emp) else iprop(emp))
      = bigSep Finset.univ f := by
  have key : ∀ x : Slot × Fin 4, own x = true → x = ((x.1.1, 0, x.1.2.2), 0) := fun x h => by
    obtain ⟨⟨b, j, g⟩, i⟩ := x
    obtain ⟨h1, h2⟩ := of_decide_eq_true h
    dsimp only at h1 h2
    rw [h1, h2]
  rw [slots_sum own c (fun x h => by rw [key x h]; exact live_own c _ _) (fun x => f (x.1.1, x.1.2.2))]
  refine (bigSep_reindex _ _ (fun x : Slot × Fin 4 => (x.1.1, x.1.2.2)) (fun y => ((y.1, 0, y.2), 0)) (fun x hx => ?_) (fun y _ => ?_) f).symm
  · exact ⟨Finset.mem_univ _, (key x (Finset.mem_filter.mp hx).2).symm⟩
  · exact ⟨Finset.mem_filter.mpr ⟨Finset.mem_univ _, rfl⟩, rfl⟩

end

/-! ## The start -/

def recv0 (c : Dev nD) (t : Tr) : sProp 𝕄 :=
  iprop(atPos ER (dmaCell true t c) 0 ∅ 0 ∗ cred (tallyAt (dmaCell true t c) () N))
def ownPts (c : Dev nD) (x : Bool × Fin 4) : sProp 𝕄 := wPts c x.2.val (shr x.1) (ownVal m ρ c)

theorem recvK_first (c : Dev nD) (k : Slot) (hl : live k c = true) (i : Fin 4) :
    recvK m ρ c k (rem 0 k) i = if rin c (k, i) = true then recv0 c (rtr i k) else iprop(emp) := by
  unfold recvK recvSt rin
  by_cases h : k.2.1 = 0
  · rw [if_pos h, if_neg]; simp [h]
  · rw [if_neg h, rdone_zero k i h, if_neg Bool.false_ne_true, if_pos]
    · rfl
    · simp [h, hl]

theorem sendK_first (c : Dev nD) (k : Slot) (i : Fin 4) :
    sendK m ρ c k (rem 0 k) i = iprop((if act k c i = true then SB c (str i k) else iprop(emp)) ∗ if own (k, i) = true then ownPts m ρ c (k.1, k.2.2) else iprop(emp)) := by
  unfold sendK sendSt
  rw [phS_zero]
  by_cases h : k.2.1 = 0 ∧ i = 0
  · have hk : kpay m ρ c k i = ownPts m ρ c (k.1, k.2.2) := by unfold kpay; rw [if_pos h.1]; rfl
    rw [if_pos h, if_pos (show own (k, i) = true from decide_eq_true h), hk]
    by_cases ha : act k c i = true
    · rw [if_pos ha, if_pos ha, if_neg Nat.one_ne_zero, if_pos rfl]
    · rw [if_neg ha, if_neg ha, if_neg Nat.one_ne_zero]; exact (none_sep _).symm
  · rw [if_neg h, if_neg (show ¬own (k, i) = true from fun hh => h (of_decide_eq_true hh))]
    by_cases ha : act k c i = true
    · rw [if_pos ha, if_pos ha, if_pos rfl]; exact (sep_none _).symm
    · rw [if_neg ha, if_neg ha, if_pos rfl]; exact (sep_none _).symm

/-- What a device brings to the copying. -/
theorem St_intro (c : Dev nD) :
    iprop(ow c (Oc c (rem 0)) ∗ bigSep (recvs c) (recv0 c) ∗ bigSep (sends c) (SB c) ∗ bigSep Finset.univ (ownPts m ρ c)) ⊢ St m ρ c 0 := by
  have e : (bigSep Finset.univ fun k : Slot => slotSt m ρ c k (rem 0 k))
      = iprop(bigSep (recvs c) (recv0 c) ∗ bigSep (sends c) (SB c) ∗ bigSep Finset.univ (ownPts m ρ c)) := by
    rw [← recv_slots c, ← send_slots c, ← own_slots c, ← bigSep_sep', ← bigSep_sep']
    refine bigSep_congr fun k _ => ?_
    unfold slotSt
    by_cases hl : live k c = true
    · simp only [if_pos hl]
      rw [bigSep_congr fun i _ => recvK_first m ρ c k hl i, bigSep_congr fun i _ => sendK_first m ρ c k i, bigSep_sep']
    · simp only [if_neg hl]
      rw [sep_none, sep_none]
  unfold St
  rw [e]

/-! ## The end -/

/-- What is kept and what was sent on is what was received. -/
theorem unfeed (c : Dev nD) (k : Slot) (h0 : k.2.1 ≠ 0) :
    iprop(bigSep Finset.univ (hold m ρ c k) ∗ bigSep Finset.univ (kpay m ρ c k)) ⊢ bigSep Finset.univ fun i : Fin 4 => recvPay m ρ c (rtr i k) := by
  obtain ⟨b, j, g⟩ := k
  have hj : ¬j = 0 := h0
  rw [four, four, four]
  unfold hold kpay
  simp only [if_neg hj]
  have f0 : ∀ x : Fin 4, feeds (b, j, g) 0 x = decide (x ≠ 3) := fun _ => rfl
  have k0 : kch (b, j, g) c 0 = rch (rtr 0 (b, j, g)) c := rfl
  have k1 : kch (b, j, g) c 1 = rch (rtr 0 (b, j, g)) c := rfl
  have k2 : kch (b, j, g) c 2 = rch (rtr 0 (b, j, g)) c := rfl
  have f3 : feeds (b, j, g) 3 3 = false := rfl
  have q3 : qs 3 = fullShare := rfl
  have pay : ∀ t, oPts c (rch t c) fullShare (outVal m ρ c) ⊢ recvPay m ρ c t := fun _ => Entails.of_eq rfl
  have join : iprop(oPts c (rch (rtr 0 (b, j, g)) c) fullShare.left (outVal m ρ c)
      ∗ oPts c (rch (rtr 0 (b, j, g)) c) fullShare.right.left (outVal m ρ c)
      ∗ oPts c (rch (rtr 0 (b, j, g)) c) fullShare.right.right (outVal m ρ c)) ⊢ recvPay m ρ c (rtr 0 (b, j, g)) := by
    iintro ⟨H1, H2, H3⟩
    ihave H := (oPts_join c _ fullShare.right _) $$ [H2 H3]
    · isplitl [H2] <;> iassumption
    unfold recvPay
    iapply (oPts_join c _ fullShare _)
    isplitl [H1] <;> iassumption
  rw [k0, k1, k2, if_neg (show ¬((0 : Fin 4) ≠ 0 ∧ _) from fun h => h.1 rfl), if_pos (show (3 : Fin 4) ≠ 0 ∧ _ from ⟨by decide, f3⟩)]
  by_cases hg : g.val % 2 = 0
  · have f1 : feeds (b, j, g) 1 3 = true := by simp [feeds, hg]
    have f2 : feeds (b, j, g) 2 3 = false := by simp [feeds, hg]
    have k3 : kch (b, j, g) c 3 = rch (rtr 1 (b, j, g)) c := by simp [kch, hg]
    rw [k3, q3, if_neg (fun h => by rw [f1] at h; exact Bool.false_ne_true h.2.symm), if_pos (show (2 : Fin 4) ≠ 0 ∧ _ from ⟨by decide, f2⟩)]
    iintro ⟨⟨-, -, H2, H3⟩, Ha, Hb, Hc, H1⟩
    isplitl [Ha Hb Hc]
    · iapply join
      isplitl [Ha]; · iexact Ha
      isplitl [Hb]; · iexact Hb
      iexact Hc
    isplitl [H1]; · iapply (pay (rtr 1 (b, j, g))); iexact H1
    isplitl [H2]; · iexact H2
    iexact H3
  · have hg1 : g.val % 2 = 1 := by omega
    have f1 : feeds (b, j, g) 1 3 = false := by simp [feeds, hg]
    have f2 : feeds (b, j, g) 2 3 = true := by simp [feeds, hg1]
    have k3 : kch (b, j, g) c 3 = rch (rtr 2 (b, j, g)) c := by simp [kch, hg1]
    rw [k3, q3, if_pos (show (1 : Fin 4) ≠ 0 ∧ _ from ⟨by decide, f1⟩), if_neg (fun h => by rw [f2] at h; exact Bool.false_ne_true h.2.symm)]
    iintro ⟨⟨-, H1, -, H3⟩, Ha, Hb, Hc, H2⟩
    isplitl [Ha Hb Hc]
    · iapply join
      isplitl [Ha]; · iexact Ha
      isplitl [Hb]; · iexact Hb
      iexact Hc
    isplitl [H1]; · iexact H1
    isplitl [H2]; · iapply (pay (rtr 2 (b, j, g))); iexact H2
    iexact H3

def recvZ (c : Dev nD) (t : Tr) : sProp 𝕄 := iprop(semVal (dmaCell true t c) 0 ∗ recvPay m ρ c t)
def sendZ (c : Dev nD) (t : Tr) : sProp 𝕄 := semVal (dmaCell false t c) 0

theorem recvK_last (c : Dev nD) (k : Slot) (i : Fin 4) :
    recvK m ρ c k (rem 304 k) i = if k.2.1 = 0 then iprop(emp) else iprop(semVal (dmaCell true (rtr i k) c) 0 ∗ hold m ρ c k i) := by
  unfold recvK recvSt
  rw [rdone_last, if_pos rfl]

theorem sendK_last (c : Dev nD) (k : Slot) (i : Fin 4) :
    sendK m ρ c k (rem 304 k) i = iprop((if act k c i = true then sendZ c (str i k) else iprop(emp)) ∗ if k.2.1 = 0 ∧ i ≠ 0 then iprop(emp) else kpay m ρ c k i) := by
  unfold sendK sendSt
  rw [phS_last]
  by_cases h : k.2.1 = 0 ∧ i ≠ 0
  · have ha : ¬act k c i = true := fun ha => h.2 (act_own k c i h.1 ha)
    rw [if_pos h, if_pos h, if_neg ha, if_neg ha, if_pos rfl]; exact (sep_none _).symm
  · rw [if_neg h, if_neg h]
    by_cases ha : act k c i = true
    · rw [if_pos ha, if_pos ha, if_neg (by decide), if_neg (by decide), if_neg (by decide)]; rfl
    · rw [if_neg ha, if_neg ha, if_neg (by decide)]; exact (none_sep _).symm

theorem slot_last (c : Dev nD) (k : Slot) (hl : live k c = true) :
    slotSt m ρ c k (rem 304 k) ⊢ iprop((bigSep Finset.univ fun i : Fin 4 => if rin c (k, i) = true then recvZ m ρ c (rtr i k) else iprop(emp))
      ∗ (bigSep Finset.univ fun i : Fin 4 => if act k c i = true then sendZ c (str i k) else iprop(emp))
      ∗ bigSep Finset.univ fun i : Fin 4 => if own (k, i) = true then ownPts m ρ c (k.1, k.2.2) else iprop(emp)) := by
  unfold slotSt
  rw [if_pos hl, bigSep_congr fun i _ => recvK_last m ρ c k i, bigSep_congr fun i _ => sendK_last m ρ c k i, bigSep_sep']
  by_cases h : k.2.1 = 0
  · have e1 : ∀ i : Fin 4, (if rin c (k, i) = true then recvZ m ρ c (rtr i k) else iprop(emp)) = iprop(emp) := fun i => if_neg (by simp [rin, h])
    have e2 : ∀ i : Fin 4, (if k.2.1 = 0 ∧ i ≠ 0 then iprop(emp) else kpay m ρ c k i) = if own (k, i) = true then ownPts m ρ c (k.1, k.2.2) else iprop(emp) := fun i => by
      by_cases hi : i = 0
      · rw [if_neg (fun hh => hh.2 hi), if_pos (show own (k, i) = true from decide_eq_true ⟨h, hi⟩)]
        unfold kpay; rw [if_pos h]; rfl
      · rw [if_pos ⟨h, hi⟩, if_neg (fun hh => hi (of_decide_eq_true hh).2)]
    simp only [e1, e2, if_pos h]
    exact .rfl
  · have e1 : ∀ i : Fin 4, (if rin c (k, i) = true then recvZ m ρ c (rtr i k) else iprop(emp)) = recvZ m ρ c (rtr i k) := fun i => if_pos (by simp [rin, h, hl])
    have e2 : ∀ i : Fin 4, (if k.2.1 = 0 ∧ i ≠ 0 then iprop(emp) else kpay m ρ c k i) = kpay m ρ c k i := fun i => if_neg fun hh => h hh.1
    have e3 : ∀ i : Fin 4, (if own (k, i) = true then ownPts m ρ c (k.1, k.2.2) else iprop(emp)) = iprop(emp) := fun i => if_neg fun hh => h (of_decide_eq_true hh).1
    simp only [e1, e2, e3, if_neg h]
    unfold recvZ
    rw [bigSep_sep', bigSep_sep', bigSep_none]
    iintro ⟨⟨Hz, Hh⟩, Hs, Hp⟩
    ihave Hr := (unfeed m ρ c k h) $$ [Hh Hp]
    · isplitl [Hh] <;> iassumption
    isplitl [Hz Hr]
    · isplitl [Hz] <;> iassumption
    isplitl [Hs]; · iexact Hs
    iempintro

theorem Oc_last (c : Dev nD) : Oc c (rem 304) = 0 := by
  unfold Oc Ok
  refine Finset.sum_eq_zero fun k _ => Finset.sum_eq_zero fun i _ => if_neg fun h => ?_
  have := thr_pos k i
  rw [rem_last] at h
  omega

/-- What a device is left with. -/
theorem St_elim (c : Dev nD) :
    St m ρ c 304 ⊢ iprop(ow c 0 ∗ bigSep (recvs c) (recvZ m ρ c) ∗ bigSep (sends c) (sendZ c) ∗ bigSep Finset.univ (ownPts m ρ c)) := by
  have e : (bigSep Finset.univ fun k : Slot => slotSt m ρ c k (rem 304 k))
      ⊢ iprop(bigSep (recvs c) (recvZ m ρ c) ∗ bigSep (sends c) (sendZ c) ∗ bigSep Finset.univ (ownPts m ρ c)) := by
    rw [← recv_slots c, ← send_slots c, ← own_slots c, ← bigSep_sep', ← bigSep_sep']
    refine bigSep_mono fun k _ => ?_
    by_cases hl : live k c = true
    · simp only [if_pos hl]
      exact slot_last m ρ c k hl
    · simp only [if_neg hl]
      unfold slotSt
      rw [if_neg hl, sep_none, sep_none]
      exact (Entails.of_eq rfl : (iprop(emp) : sProp 𝕄) ⊢ iprop(emp))
  unfold St
  rw [Oc_last]
  iintro ⟨HO, H⟩
  ihave H := e $$ H
  isplitl [HO]; · iexact HO
  iexact H

end Cert.KernelIdeal.AG
-- ==== Proof.IBar.lean ====
/-
# The barrier
Every device tells each of its neighbours that it has started, and hands it the chunks of its result that neighbour's
copies land in.
-/
module

public import proofs.«01_k».proof.Proof.IEntry

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)

/-! ## Buffers in pieces -/

/-- A device's own block of the result. -/
def blk (c : Dev nD) : Finset (cc0_stg1_0 : Ref sig .tc).ty.Idx := Finset.univ.filter fun i => (i 0).val / 1024 = yc c
theorem mem_blk {c : Dev nD} {i : (cc0_stg1_0 : Ref sig .tc).ty.Idx} : i ∈ blk c ↔ (i 0).val / 1024 = yc c := by simp [blk]

def bPts (c : Dev nD) (f : (cc0_stg1_0 : Ref sig .tc).ty.Contents (Elt F)) : sProp 𝕄 :=
  ((c : Thread nD τ).loc cc0_stg1_0) ↦[blk c]{fullShare} f

/-- A result is the device's own block and the chunks it receives. -/
theorem out_parts (c : Dev nD) (f : (cc0_stg1_0 : Ref sig .tc).ty.Contents (Elt F)) :
    (((c : Thread nD τ).loc cc0_stg1_0) ↦{fullShare} f : sProp 𝕄) ⊣⊢ iprop(bPts c f ∗ bigSep (recvs c) fun t => oPts c (rch t c) fullShare f) := by
  classical
  have hu : (Finset.univ : Finset (cc0_stg1_0 : Ref sig .tc).ty.Idx) = blk c ∪ (recvs c).biUnion fun t => ck (rch t c) := by
    ext i
    simp only [Finset.mem_univ, true_iff, Finset.mem_union, Finset.mem_biUnion, mem_blk, mem_ck, mem_recvs]
    by_cases h : (i 0).val / 1024 = yc c
    · exact Or.inl h
    · have h0 : (i 0).val < 4096 := (i 0).isLt
      have := rch_inv c ⟨(i 0).val / 64, by omega⟩ (by rw [Nat.div_div_eq_div_mul]; exact h)
      exact Or.inr ⟨_, this.1, this.2.symm⟩
  have hd : Disjoint (blk c) ((recvs c).biUnion fun t => ck (rch t c)) := by
    rw [Finset.disjoint_left]
    intro i hb hi
    obtain ⟨t, ht, hi⟩ := Finset.mem_biUnion.mp hi
    have := (inv_rch c t (mem_recvs.mp ht)).2.2
    rw [← mem_ck.mp hi, Nat.div_div_eq_div_mul] at this
    exact this (mem_blk.mp hb)
  have hp : ∀ t ∈ recvs c, ∀ t' ∈ recvs c, t ≠ t' → Disjoint (ck (rch t c)) (ck (rch t' c)) := by
    intro t ht t' ht' hne
    rw [Finset.disjoint_left]
    intro i hi hi'
    apply hne
    rw [← (inv_rch c t (mem_recvs.mp ht)).1, ← (inv_rch c t' (mem_recvs.mp ht')).1, ← mem_ck.mp hi, ← mem_ck.mp hi']
  unfold bPts oPts
  rw [hu, ← pointsTo_biUnion _ _ hp]
  exact pointsTo_union hd

theorem shares (P : PosShare TreeShare → sProp 𝕄) : (bigSep Finset.univ fun b : Bool => P (shr b)) = iprop(P fullShare.left ∗ P fullShare.right) := by
  rw [bigSep_univ_eq_bigSepL [false, true] (by decide) (by decide), bigSepL_cons_cons, bigSepL_singleton]
  rfl

/-- The quarter a device sends is its pieces, each held for two directions. -/
theorem own_parts (c : Dev nD) :
    (((c : Thread nD τ).loc cc0_scratch0) ↦{fullShare} (ownVal m ρ c) : sProp 𝕄) ⊣⊢ bigSep Finset.univ (ownPts m ρ c) := by
  classical
  have hu : (Finset.univ : Finset (cc0_scratch0 : Ref sig .tc).ty.Idx) = (Finset.univ : Finset (Fin 4)).biUnion fun g => wk g.val := by
    ext i
    simp only [Finset.mem_univ, true_iff, Finset.mem_biUnion, mem_wk, true_and]
    have h0 : (i 0).val < 256 := (i 0).isLt
    exact ⟨⟨(i 0).val / 64, by omega⟩, rfl⟩
  have hp : ∀ g ∈ (Finset.univ : Finset (Fin 4)), ∀ g' ∈ (Finset.univ : Finset (Fin 4)), g ≠ g' →
      Disjoint (wk g.val) (wk g'.val) := by
    intro g _ g' _ hne
    rw [Finset.disjoint_left]
    intro i hi hi'
    exact hne (Fin.ext ((mem_wk.mp hi).symm.trans (mem_wk.mp hi')))
  have e : bigSep Finset.univ (ownPts m ρ c)
      = iprop((bigSep Finset.univ fun g : Fin 4 => wPts c g.val fullShare.left (ownVal m ρ c)) ∗ bigSep Finset.univ fun g : Fin 4 => wPts c g.val fullShare.right (ownVal m ρ c)) :=
    (bigSep_univ_prod (ownPts m ρ c)).trans (shares fun q => bigSep Finset.univ fun g : Fin 4 => wPts c g.val q (ownVal m ρ c))
  rw [e, hu]
  unfold wPts
  rw [← pointsTo_biUnion _ _ hp, ← pointsTo_biUnion _ _ hp]
  exact pointsTo_share (PosShare.mem_left_op_right fullShare)

/-! ## What is handed over -/

theorem pay_out (c : Dev nD) (f : (cc0_stg1_0 : Ref sig .tc).ty.Contents (Elt F)) :
    (bigSep (recvs c) fun t => oPts c (rch t c) fullShare f : sProp 𝕄)
      ⊢ bigSep Finset.univ fun i : Fin 4 => if hasNbr i c = true then barPay (nbr i c) (opp i) else iprop(emp) := by
  rw [bigSep_groups (recvs c) (fun t => opp (via t))]
  refine bigSep_mono fun i _ => ?_
  by_cases hn : hasNbr i c = true
  · rw [if_pos hn]
    have key : ∀ t : Tr, opp (via t) = i → peer t (nbr i c) = c := fun t h => by
      rw [← nbr_via, (opp_inj _ _).mp h, nbr_opp]
    have hs : (recvs c).filter (fun t => opp (via t) = i) = toward (nbr i c) (opp i) := by
      ext t
      simp only [Finset.mem_filter, mem_recvs, toward, Finset.mem_univ, true_and, opp_inj]
      constructor
      · rintro ⟨h1, h2⟩
        refine ⟨?_, h2⟩
        rw [← liveR_peer, key t ((opp_inj _ _).mpr h2)]; exact h1
      · rintro ⟨h1, h2⟩
        refine ⟨?_, h2⟩
        rw [← liveR_peer, key t ((opp_inj _ _).mpr h2)] at h1; exact h1
    unfold barPay
    rw [hs]
    refine bigSep_mono fun t ht => ?_
    have hv : via t = opp i := (Finset.mem_filter.mp ht).2.2
    unfold tgt sch
    rw [key t ((opp_inj _ _).mpr hv)]
    show (oPts c (rch t c) fullShare f : sProp 𝕄) ⊢ iprop(∃ f, oPts c (rch t c) fullShare f)
    iintro H
    iexists f
    iexact H
  · rw [if_neg hn]
    have hs : (recvs c).filter (fun t => opp (via t) = i) = ∅ := by
      refine Finset.filter_eq_empty_iff.mpr fun t ht h => hn ?_
      rw [← h]; exact via_back c t (mem_recvs.mp ht)
    rw [hs, BI.bigSep_empty]
    exact (Entails.of_eq rfl : (iprop(emp) : sProp 𝕄) ⊢ iprop(emp))

/-- The neighbours a device has. -/
def bnb (c : Dev nD) : Finset (Fin 4) := Finset.univ.filter fun i => hasNbr i c = true

theorem pay_in (c : Dev nD) : (bigSep (bnb c) (barPay c) : sProp 𝕄) ⊢ bigSep (sends c) (tgt c) := by
  unfold bnb
  rw [bigSep_groups (sends c) via, bigSep_filter]
  refine bigSep_mono fun i _ => ?_
  have hs : toward c i = (sends c).filter fun t => via t = i := by
    ext t
    simp only [Finset.mem_filter, mem_sends, toward, Finset.mem_univ, true_and]
  by_cases hn : hasNbr i c = true
  · rw [if_pos hn, ← hs]
    exact (Entails.of_eq rfl : (barPay c i : sProp 𝕄) ⊢ bigSep (toward c i) (tgt c))
  · rw [if_neg hn]
    have h0 : (sends c).filter (fun t => via t = i) = ∅ := by
      refine Finset.filter_eq_empty_iff.mpr fun t ht h => hn ?_
      rw [← h]; exact hasNbr_via t c (mem_sends.mp ht)
    rw [h0, BI.bigSep_empty]
    exact (Entails.of_eq rfl : (iprop(emp) : sProp 𝕄) ⊢ iprop(emp))

/-! ## The signals -/

def sigP (c : Dev nD) (i : Fin 4) : sProp 𝕄 :=
  if hasNbr i c = true then iprop(dutyTok ER (barCell (nbr i c)) 0 (opp i) ∗ barPay (nbr i c) (opp i)) else iprop(emp)
/-- With the neighbours in `s` still to be told. -/
def sigSt (c : Dev nD) (s : Finset (Fin 4)) : sProp 𝕄 := iprop(ow c (Oc c (rem 0) + Ob c s) ∗ bigSep s (sigP c))

section
variable {m ρ} {K : Dev nD × CI → ℕ} {c : Dev nD}

theorem sig_no {i : Fin 4} {s : Finset (Fin 4)} (hi : i ∉ s) (hn : hasNbr i c = false) : sigSt (F := F) c (insert i s) = sigSt c s := by
  have h : ¬hasNbr i c = true := fun h => by rw [hn] at h; exact Bool.false_ne_true h
  unfold sigSt Ob
  rw [Finset.sum_insert hi, if_neg h, zero_add, BI.bigSep_insert hi, show sigP (F := F) c i = iprop(emp) from if_neg h]
  exact congrArg (fun P => iprop(_ ∗ P)) (none_sep _)

theorem ht_sig {i : Fin 4} {s : Finset (Fin 4)} (hi : i ∉ s) (hn : hasNbr i c = true) {n : Dev nD} (e : n = nbr i c) :
    Ht m ρ K c (sigSt c (insert i s)) (.semSignal (n : Thread nD τ) barS (1#32 : BitVec 32).toInt) (sigSt c s) := by
  subst e
  refine ⟨fun {α} k Q => ?_⟩
  have ho : Oc c (rem 0) + Ob c (insert i s) = (Oc c (rem 0) + Ob c s) + tallyAt (barCell (nbr i c)) () 1 := by
    unfold Ob
    rw [Finset.sum_insert hi, if_pos hn, add_assoc, add_comm (tallyAt _ _ _)]
  have hd : opp i ∈ (agRd (F := F) m ρ).duties (barCell (nbr i c)) 0 := by
    rw [duties_bar]
    exact Finset.mem_filter.mpr ⟨Finset.mem_univ _, by rw [hasNbr_opp]; exact hn⟩
  have hb : bigSep (insert i s) (sigP (F := F) c) = iprop((dutyTok ER (barCell (nbr i c)) 0 (opp i) ∗ barPay (nbr i c) (opp i)) ∗ bigSep s (sigP c)) := by
    rw [BI.bigSep_insert hi, show sigP (F := F) c i = _ from if_pos hn]; rfl
  unfold sigSt ow
  rw [ho, hb]
  iintro ⟨#HE, ⟨%W, HO⟩, ⟨Htok, Hpay⟩, HR⟩ Hk
  ihave HI := (env_at m ρ K (nbr i c) none) $$ HE
  icases HI with ⟨#HI, #HR0⟩
  iapply (Rounds.wp_signal 𝒱₀ ER (agRd m ρ) (c : Thread nD τ) none (dst := (nbr i c : Thread nD τ)) (κ := K (nbr i c, none))
      (d := opp i) hd ((amount_bar m ρ (nbr i c) (opp i)).trans (by decide)) () (Oc c (rem 0) + Ob c s) rfl) $$ [HO Htok Hpay]
  · isplitr; · iexact HI
    isplitl [HO]; · iexact HO
    isplitl [Htok]; · iexact Htok
    isplitl [Hpay]; · rw [payload_bar]; iexact Hpay
    iexact HR0
  iintro HO
  iapply Hk
  isplitl [HO]; · iexists W; iexact HO
  iexact HR

/-! ## The waits -/

/-- With `n` of the neighbours' signals still to be waited for. -/
def Wt (c : Dev nD) (n : ℕ) : sProp 𝕄 :=
  if n = 0 then iprop(semVal (barCell c) 0 ∗ bigSep (bnb c) (barPay c))
  else iprop((∃ S : Finset (Fin 4), ⌜S ⊆ bnb c⌝ ∗ atPos ER (barCell c) 0 S ((bnb c).card - n) ∗ bigSep S (barPay c)) ∗ cred (tallyAt (barCell c) () n))

theorem bar_may (c : Dev nD) : (levAts L lv : sProp 𝕄) ⊢ MayWait (c : Thread nD τ) (.reg barS) () (Oc c (rem 0)) :=
  mayWait_at c 0 _ 1 slev_bar.le above_bar

theorem ht_bar (n k : ℕ) (hk : 0 < k) (hle : n + k ≤ (bnb c).card) :
    Ht m ρ K c iprop(ow c (Oc c (rem 0)) ∗ Wt c (n + k)) (.semWait barS ((k : ℕ) : ℤ)) iprop(ow c (Oc c (rem 0)) ∗ Wt c n) := by
  refine ⟨fun {α} kk Q => ?_⟩
  have hdut : (agRd (F := F) m ρ).duties (barCell c) 0 = bnb c := duties_bar m ρ c
  have hexp : (agRd (F := F) m ρ).expect (barCell c) 0 = (bnb c).card := expect_bar m ρ c
  have hW : Wt (F := F) c (n + k) = _ := if_neg (show ¬n + k = 0 by omega)
  rw [hW]
  unfold ow
  iintro ⟨#HE, ⟨%W, HO⟩, ⟨%S, %hS, Hat, Hpay⟩, Hc⟩ Hk
  ihave HI := (env_at m ρ K c none) $$ HE
  icases HI with ⟨#HI, -⟩
  ihave HL := (@env_lev F _ m ρ K) $$ HE
  ihave HM := (bar_may c) $$ HL
  by_cases h0 : n = 0
  · subst h0
    iapply (Rounds.wp_wait_rest_token 𝒱₀ ER (agRd m ρ) (c : Thread nD τ) none (κ := K (c, none))
        (wpE_semWait_eq 𝒱₀ (c : Thread nD τ) none Set.univ) (Set.mem_univ _) () (O := Oc c (rem 0)) (W := W) (R := 0) (m := (bnb c).card - (0 + k)) (T := S)
        (k' := k) (by rw [hexp]; omega)) $$ [Hc HO HM Hat]
    · isplitr; · iexact HI
      isplitl [Hc]; · rw [Nat.zero_add]; iexact Hc
      isplitl [HO]; · iexact HO
      isplitl [HM]; · iexact HM
      iexact Hat
    iintro ⟨HO, Hat, -, Hrest⟩
    imod (Rounds.cell_close ER (agRd m ρ) (Set.mem_univ (K (c, none))) (fun h => h) (R := 0 + 1) (duties_later m ρ _)) $$ [Hat] with Hz
    · isplitr; · iexact HI
      iexact Hat
    iapply Hk
    isplitl [HO]; · iexists _; iexact HO
    have hW0 : Wt (F := F) c 0 = _ := if_pos rfl
    rw [hW0]
    isplitl [Hz]; · iexact Hz
    rw [hdut, show bigSep (bnb c) (barPay (F := F) c) = iprop(bigSep S (barPay c) ∗ bigSep (bnb c \ S) (barPay c)) from bigSep_sdiff_split hS]
    isplitl [Hpay]; · iexact Hpay
    iexact Hrest
  · have hcr : (cred (tallyAt (barCell c) () (n + k)) : sProp 𝕄) ⊢ iprop(cred (tallyAt (barCell c) () n) ∗ cred (tallyAt (barCell c) () k)) := by
      rw [← tallyAt_add]; exact (cred_add _ _).1
    ihave Hc := hcr $$ Hc
    icases Hc with ⟨Hn, Hc⟩
    iapply (Rounds.wp_wait 𝒱₀ ER (agRd m ρ) (c : Thread nD τ) none (κ := K (c, none)) (k' := k)
        (wpE_semWait_eq 𝒱₀ (c : Thread nD τ) none Set.univ) (Set.mem_univ _) (cr := Finsupp.single () k) (O := Oc c (rem 0)) (W := W) {(SemLoc.reg barS, ())}
        (R := 0) (m := (bnb c).card - (n + k)) (T := S) (Util.total_single ..) (image_single_subset (SemLoc.reg barS) () k)) $$ [Hc HO HM Hat]
    · isplitr; · iexact HI
      isplitl [Hc]; · iexact Hc
      isplitl [HO]; · iexact HO
      isplitl [HM]; · iexact HM
      iexact Hat
    iintro %S' ⟨%h, HO, Hat, Hnew⟩
    have hW0 : Wt (F := F) c n = _ := if_neg h0
    rw [hW0]
    iapply Hk
    isplitl [HO]; · iexists _; iexact HO
    isplitr [Hn]
    · iexists S'
      isplitr; · ipureintro; rw [← hdut]; exact h.2.1
      isplitl [Hat]
      · rw [show (bnb c).card - n = (bnb c).card - (n + k) + k by omega]; iexact Hat
      rw [show bigSep S' (barPay (F := F) c) = iprop(bigSep S (barPay c) ∗ bigSep (S' \ S) (barPay c)) from bigSep_sdiff_split h.1]
      isplitl [Hpay]; · iexact Hpay
      iexact Hnew
    iexact Hn

end

end Cert.KernelIdeal.AG
-- ==== Proof.IFront.lean ====
/-
# The body's first parts: the barrier, the device's own buffers, and the first copies
-/
module

public import proofs.«01_k».proof.Proof.IBar
public import Idealize.ShloMosaic.Lib.Pipeline.Value

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]
local notation "𝕄" => MT nD τ sig Unit (Elt F) ℕ UU ℕ

/-! ## Steps from any state -/

def Gq (m : (ℓ : Loc nD τ sig) → Buf (Elt F) ℓ) (ρ : Dev nD → PrngReg) (K : Dev nD × CI → ℕ) (c : Dev nD) (P : sProp 𝕄) {α : Type} (p : Pg (F := F) α) (Q : α → sProp 𝕄) : Prop :=
  iprop(env m ρ K ∗ P) ⊢ WP c p Q

variable {m : (ℓ : Loc nD τ sig) → Buf (Elt F) ℓ} {ρ : Dev nD → PrngReg} {K : Dev nD × CI → ℕ} {c : Dev nD}

section
variable {D : Prop} {inst : Decidable D}

theorem Gq.conv {P P' : sProp 𝕄} {α : Type} {p : Pg (F := F) α} {Q : α → sProp 𝕄} (h : P ⊢ P') (hk : Gq m ρ K c P' p Q) : Gq m ρ K c P p Q := by
  unfold Gq at *
  iintro ⟨#HE, HP⟩
  ihave HP := h $$ HP
  iapply hk
  isplitr; · iexact HE
  iexact HP

theorem Gq.op {P P' R : sProp 𝕄} {α : Type} {Q : α → sProp 𝕄} {op : TpuEff nD τ sig (Elt F) Λ₀ .tc PUnit} {k : PUnit → Pg (F := F) α} (h : Ht m ρ K c P op P')
    (hk : Gq m ρ K c iprop(P' ∗ R) (k ⟨⟩) Q) : Gq m ρ K c iprop(P ∗ R) (.op op k) Q := by
  unfold Gq at *
  iintro ⟨#HE, HS, HR⟩
  iapply (h.run k Q) $$ [HS]
  · isplitr; · iexact HE
    iexact HS
  iintro HS
  iapply hk
  isplitr; · iexact HE
  isplitl [HS] <;> iassumption

theorem Gq.one {P P' R : sProp 𝕄} {α : Type} {Q : α → sProp 𝕄} {op : D → TpuEff nD τ sig (Elt F) Λ₀ .tc PUnit} {p : Pg (F := F) α}
    (hk : Gq m ρ K c iprop(P' ∗ R) p Q) (yes : ∀ h : D, Ht m ρ K c P (op h) P') (no : ¬D → P = P') :
    Gq m ρ K c iprop(P ∗ R) (dite D (fun h => .op (op h) fun _ => p) fun _ => p) Q := by
  by_cases h : D
  · rw [dif_pos h]; exact Gq.op (yes h) hk
  · rw [dif_neg h, no h]; exact hk

/-- A continuation is looked at once. -/
theorem Gq.join {P P' : sProp 𝕄} {α : Type} {Q : α → sProp 𝕄} {p : Pg (F := F) α} (f : Unit → Pg (F := F) α)
    (hp : Gq m ρ K c P' (f ⟨⟩) Q → Gq m ρ K c P p Q) (hf : Gq m ρ K c P' (f ⟨⟩) Q) : Gq m ρ K c P p Q := hp hf

end

/-! ## The device's own buffers -/

def xPts (m : (ℓ : Loc nD τ sig) → Buf (Elt F) ℓ) (ρ : Dev nD → PrngReg) (c : Dev nD) : sProp 𝕄 := ((c : Thread nD τ).loc cc0_stg0_0) ↦{fullShare} (xstg m ρ c)
def wAll (c : Dev nD) (f : (cc0_scratch0 : Ref sig .tc).ty.Contents (Elt F)) : sProp 𝕄 := ((c : Thread nD τ).loc cc0_scratch0) ↦{fullShare} f

theorem Gq.load_x {R : sProp 𝕄} {α : Type} {Q : α → sProp 𝕄} {r : LoadRect S1024x512} {hl : xM.view.LoadsAt r} {k : (r.shape.Idx → Elt F .bf16) → Pg (F := F) α}
    (hk : Gq m ρ K c iprop(xPts m ρ c ∗ R) (k (xM.view.readAt (Elt F) r (xstg m ρ c))) Q) : Gq m ρ K c iprop(xPts m ρ c ∗ R) (.op (.load xM r hl) k) Q := by
  unfold Gq at *
  iintro ⟨#HE, HX, HR⟩
  unfold xPts at *
  iapply (wp_load 𝒱₀ (c : Thread nD τ) none Set.univ (m := xM) (Finset.subset_univ _)) $$ HX
  iintro HX
  iapply hk
  isplitr; · iexact HE
  isplitl [HX] <;> iassumption

theorem Gq.load_w {R : sProp 𝕄} {α : Type} {Q : α → sProp 𝕄} {f : (cc0_scratch0 : Ref sig .tc).ty.Contents (Elt F)} {r : LoadRect S256x512} {hl : wM.view.LoadsAt r} {k : (r.shape.Idx → Elt F .bf16) → Pg (F := F) α}
    (hk : ∀ v, Gq m ρ K c iprop(wAll c f ∗ R) (k v) Q) : Gq m ρ K c iprop(wAll c f ∗ R) (.op (.load wM r hl) k) Q := by
  have hk := hk (wM.view.readAt (Elt F) r f)
  unfold Gq at *
  iintro ⟨#HE, HX, HR⟩
  unfold wAll at *
  iapply (wp_load 𝒱₀ (c : Thread nD τ) none Set.univ (m := wM) (Finset.subset_univ _)) $$ HX
  iintro HX
  iapply hk
  isplitr; · iexact HE
  isplitl [HX] <;> iassumption

theorem Gq.store_w {R : sProp 𝕄} {α : Type} {Q : α → sProp 𝕄} {f : (cc0_scratch0 : Ref sig .tc).ty.Contents (Elt F)} {r : Rect S256x512} {w : r.shape.Idx → Elt F .bf16}
    {hx : (wM.access r).Stores Finset.univ} {hm} {k : PUnit → Pg (F := F) α}
    (hk : Gq m ρ K c iprop(wAll c ((wM.access r).write (Elt F) f w Finset.univ) ∗ R) (k ⟨⟩) Q) : Gq m ρ K c iprop(wAll c f ∗ R) (.op (.store wM r w Finset.univ hx hm) k) Q := by
  unfold Gq at *
  iintro ⟨#HE, HX, HR⟩
  unfold wAll at *
  iapply (wp_store 𝒱₀ (c : Thread nD τ) none Set.univ (m := wM) (r := r) (f := f) (w := w) (Mk := Finset.univ) (S := Finset.univ) (Finset.subset_univ _)) $$ HX
  iintro HX
  iapply hk
  isplitr; · iexact HE
  isplitl [HX] <;> iassumption

theorem Gq.load_o {R : sProp 𝕄} {α : Type} {Q : α → sProp 𝕄} {f : (cc0_stg1_0 : Ref sig .tc).ty.Contents (Elt F)} {r : LoadRect S4096x512} {hl : oM.view.LoadsAt r} {k : (r.shape.Idx → Elt F .bf16) → Pg (F := F) α}
    (hS : oM.view.setOn r.set ⊆ blk c) (hk : ∀ v, Gq m ρ K c iprop(bPts c f ∗ R) (k v) Q) : Gq m ρ K c iprop(bPts c f ∗ R) (.op (.load oM r hl) k) Q := by
  have hk := hk (oM.view.readAt (Elt F) r f)
  unfold Gq at *
  iintro ⟨#HE, HX, HR⟩
  unfold bPts at *
  iapply (wp_load 𝒱₀ (c : Thread nD τ) none Set.univ (m := oM) hS) $$ HX
  iintro HX
  iapply hk
  isplitr; · iexact HE
  isplitl [HX] <;> iassumption

theorem Gq.store_o {R : sProp 𝕄} {α : Type} {Q : α → sProp 𝕄} {f : (cc0_stg1_0 : Ref sig .tc).ty.Contents (Elt F)} {r : Rect S4096x512} {w : r.shape.Idx → Elt F .bf16}
    {hx : (oM.access r).Stores Finset.univ} {hm} {k : PUnit → Pg (F := F) α} (hS : (oM.access r).setOn Finset.univ ⊆ blk c)
    (hk : Gq m ρ K c iprop(bPts c ((oM.access r).write (Elt F) f w Finset.univ) ∗ R) (k ⟨⟩) Q) : Gq m ρ K c iprop(bPts c f ∗ R) (.op (.store oM r w Finset.univ hx hm) k) Q := by
  unfold Gq at *
  iintro ⟨#HE, HX, HR⟩
  unfold bPts at *
  iapply (wp_store 𝒱₀ (c : Thread nD τ) none Set.univ (m := oM) (r := r) (f := f) (w := w) (Mk := Finset.univ) hS) $$ HX
  iintro HX
  iapply hk
  isplitr; · iexact HE
  isplitl [HX] <;> iassumption

/-- The scratch buffer's contents, whatever they are. -/
theorem Gq.some_w {P R : sProp 𝕄} {α : Type} {p : Pg (F := F) α} {Q : α → sProp 𝕄} (hk : ∀ f, Gq m ρ K c iprop(wAll c f ∗ P ∗ R) p Q) :
    Gq m ρ K c iprop(P ∗ (∃ f, wAll c f) ∗ R) p Q := by
  unfold Gq at *
  iintro ⟨#HE, HP, ⟨%f, HW⟩, HR⟩
  iapply (hk f)
  isplitr; · iexact HE
  isplitl [HW]; · iexact HW
  isplitl [HP] <;> iassumption

theorem Gq.some_b {P R : sProp 𝕄} {α : Type} {p : Pg (F := F) α} {Q : α → sProp 𝕄} (hk : ∀ f, Gq m ρ K c iprop(bPts c f ∗ P ∗ R) p Q) :
    Gq m ρ K c iprop(P ∗ (∃ f, bPts c f) ∗ R) p Q := by
  unfold Gq at *
  iintro ⟨#HE, HP, ⟨%f, HW⟩, HR⟩
  iapply (hk f)
  isplitr; · iexact HE
  isplitl [HW]; · iexact HW
  isplitl [HP] <;> iassumption

/-! ### What the stores write -/

theorem off1_eq : ∀ c : Fin 32, k0_off1 c = ![kp c * 256, 0] := by decide +kernel
theorem off10_eq : ∀ c : Fin 32, k0_off10 c = ![yc c * 1024, 0] := by decide +kernel

theorem zeros : (![0, 0] : Fin 2 → ℕ) = fun _ => 0 := by funext a; fin_cases a <;> rfl

theorem kp_lt : ∀ c : Fin 32, kp c < 4 := by decide +kernel

theorem pay1_eq (v : S256x512.Idx → Elt F .bf16) : k0_pay1 v = v := by
  unfold k0_pay1
  dsimp only
  rw [shapeCast_self, shapeCast_self]
theorem pay2_eq (v : S1024x512.Idx → Elt F .bf16) : k0_pay2 v = v := by
  unfold k0_pay2
  dsimp only
  rw [shapeCast_self]

/-- The quarter, copied into the buffer it is sent from. -/
theorem own_written (f : (cc0_scratch0 : Ref sig .tc).ty.Contents (Elt F)) :
    (wM.access (Rect.unit (s := S256x512) ![0, 0] S256x512.size inb_S256x512_S256x512_0_0)).write (Elt F) f
      (k0_pay1 (xM.view.readAt (Elt F) (Rect.unit (s := S1024x512) (k0_off1 c) S256x512.size (k0_off1_inb c)).toLoadRect (xstg m ρ c))) Finset.univ
      = ownVal m ρ c := by
  refine (Memref.write_access_unit_zero_univ (Elt F) cc0_scratch0 zeros _ f _).trans ?_
  rw [pay1_eq]
  funext i
  have h0 : (i 0).val < 256 := (i 0).isLt
  have h1 : (i 1).val < 512 := (i 1).isLt
  have hk := kp_lt c
  rw [View.readAt_apply]
  unfold ownVal
  show xstg m ρ c _ = xstg m ρ c _
  congr 1
  funext a
  match a with
  | ⟨0, _⟩ =>
    apply Fin.ext
    show k0_off1 c 0 + 1 * (i 0).val = (kp c * 256 + (i 0).val) % 1024
    have e : k0_off1 c 0 = kp c * 256 := congrFun (off1_eq c) 0
    omega
  | ⟨1, _⟩ =>
    apply Fin.ext
    show k0_off1 c 1 + 1 * (i 1).val = (i 1).val % 512
    have e : k0_off1 c 1 = 0 := congrFun (off1_eq c) 1
    omega
  | ⟨_ + 2, h⟩ => exact absurd h (Nat.not_lt.2 (Nat.le_add_left _ _))

theorem blk_set : (oM.access (Rect.unit (s := S4096x512) (k0_off10 c) S1024x512.size (k0_off10_inb c))).set = blk c := by
  have hy : yc c < 4 := by unfold yc; omega
  ext i
  show i ∈ ((View.whole cc0_stg1_0).slice _).set ↔ _
  rw [View.set_slice_whole, Rect.mem_set_unit, mem_blk, off10_eq]
  have h1 : (i 1).val < 512 := (i 1).isLt
  constructor
  · intro h
    have := h 0
    simp [Shape.size] at this
    omega
  · intro h a
    fin_cases a
    · simp [Shape.size]; omega
    · simp [Shape.size]; exact h1

/-- The device's own block, copied into its result. -/
theorem blk_written (f : (cc0_stg1_0 : Ref sig .tc).ty.Contents (Elt F)) (i : (cc0_stg1_0 : Ref sig .tc).ty.Idx) (hi : i ∈ blk c) :
    (oM.access (Rect.unit (s := S4096x512) (k0_off10 c) S1024x512.size (k0_off10_inb c))).write (Elt F) f
      (k0_pay2 (xM.view.readAt (Elt F) (Rect.unit (s := S1024x512) ![0, 0] S1024x512.size inb_S1024x512_S1024x512_0_0).toLoadRect (xstg m ρ c))) Finset.univ i
      = outVal m ρ c i := by
  have hb := mem_blk.mp hi
  rw [← blk_set] at hi
  obtain ⟨x, -, rfl⟩ := Finset.mem_map.mp hi
  refine (View.write_emb_of_mem _ _ (Finset.mem_univ x)).trans ?_
  rw [pay2_eq]
  have e := congrFun (Memref.readAt_unit_zero (Elt F) cc0_stg0_0 zeros inb_S1024x512_S1024x512_0_0 (xstg m ρ c)) x
  refine Eq.trans e ?_
  unfold outVal dv
  rw [if_pos hb]
  have h0 : (x 0).val < 1024 := (x 0).isLt
  have h1 : (x 1).val < 512 := (x 1).isLt
  congr 1
  funext a
  match a with
  | ⟨0, _⟩ =>
    apply Fin.ext
    show (x 0).val = (k0_off10 c 0 + 1 * (x 0).val) % 1024
    have e : k0_off10 c 0 = yc c * 1024 := congrFun (off10_eq c) 0
    omega
  | ⟨1, _⟩ =>
    apply Fin.ext
    show (x 1).val = (k0_off10 c 1 + 1 * (x 1).val) % 512
    have e : k0_off10 c 1 = 0 := congrFun (off10_eq c) 1
    omega
  | ⟨_ + 2, h⟩ => exact absurd h (Nat.not_lt.2 (Nat.le_add_left _ _))

theorem blk_stored (f : (cc0_stg1_0 : Ref sig .tc).ty.Contents (Elt F)) :
    bPts c ((oM.access (Rect.unit (s := S4096x512) (k0_off10 c) S1024x512.size (k0_off10_inb c))).write (Elt F) f
      (k0_pay2 (xM.view.readAt (Elt F) (Rect.unit (s := S1024x512) ![0, 0] S1024x512.size inb_S1024x512_S1024x512_0_0).toLoadRect (xstg m ρ c))) Finset.univ)
      ⊢ bPts c (outVal m ρ c) := by
  unfold bPts
  exact Entails.of_eq (pointsTo_congr (blk_written (m := m) (ρ := ρ) (c := c) f))

theorem blk_load : oM.view.setOn (Rect.unit (s := S4096x512) (k0_off10 c) S1024x512.size (k0_off10_inb c)).toLoadRect.set ⊆ blk c := by
  rw [← blk_set]
  unfold Memref.access
  rw [View.set_slice]
  exact Finset.Subset.refl _

/-! ## The states around the first parts -/

def sendTok (c : Dev nD) (t : Tr) : sProp 𝕄 :=
  iprop(atPos ER (dmaCell false t c) 0 ∅ 0 ∗ dutyTok ER (dmaCell false t c) 0 0 ∗ dutyTok ER (dmaCell true t (peer t c)) 0 0)

theorem sends_ready (c : Dev nD) : iprop(bigSep (sends c) (sendTok c) ∗ bigSep (sends c) (tgt c)) ⊢ (bigSep (sends c) (SB c) : sProp 𝕄) := by
  rw [← bigSep_sep']
  refine bigSep_mono fun t _ => ?_
  unfold sendTok SB
  show iprop((atPos ER (dmaCell false t c) 0 ∅ 0 ∗ dutyTok ER (dmaCell false t c) 0 0 ∗ dutyTok ER (dmaCell true t (peer t c)) 0 0) ∗ tgt c t)
    ⊢ iprop(atPos ER (dmaCell false t c) 0 ∅ 0 ∗ dutyTok ER (dmaCell false t c) 0 0 ∗ dutyTok ER (dmaCell true t (peer t c)) 0 0 ∗ tgt c t)
  iintro ⟨⟨H1, H2, H3⟩, H4⟩
  isplitl [H1]; · iexact H1
  isplitl [H2]; · iexact H2
  isplitl [H3]; · iexact H3
  iexact H4

variable (m ρ c)

/-- What is not the barrier's, before the body. -/
def rest0 (Z : sProp 𝕄) : sProp 𝕄 :=
  iprop(xPts m ρ c ∗ (∃ f, wAll c f) ∗ (∃ f, bPts c f) ∗ bigSep (recvs c) (recv0 c) ∗ bigSep (sends c) (sendTok c) ∗ Z)
def pre (Z : sProp 𝕄) : sProp 𝕄 := iprop(sigSt c (insert 0 (insert 1 (insert 3 {2}))) ∗ Wt c (bnb c).card ∗ rest0 m ρ c Z)
def rest1 (Z : sProp 𝕄) : sProp 𝕄 := iprop(xPts m ρ c ∗ (∃ f, bPts c f) ∗ semVal (barCell c) 0 ∗ Z)
def rest2 (Z : sProp 𝕄) : sProp 𝕄 := iprop(xPts m ρ c ∗ bPts c (outVal m ρ c) ∗ semVal (barCell c) 0 ∗ Z)

variable {m ρ c}

abbrev w32 (c : Dev nD) : BitVec 1 := Scalar.cmpi .sge (Scalar.remsi (Scalar.divsi (Dev.word c) 4#32) 4#32) 1#32
abbrev w33 (c : Dev nD) : BitVec 1 := Scalar.cmpi .sle (Scalar.remsi (Scalar.divsi (Dev.word c) 4#32) 4#32) 2#32
abbrev T74 : Type := Σ' (v64 : BitVec 32), BitVec 32
abbrev T75 : Type := Σ' (v83 : BitVec 1) (v84 : BitVec 1) (v86 : BitVec 32), BitVec 32

theorem dev1_nbr : ∀ c : Fin 32, k0_dev1 c = (nbr 0 c).val := by decide +kernel
theorem dev2_nbr : ∀ c : Fin 32, k0_dev2 c = (nbr 1 c).val := by decide +kernel
theorem dev3_nbr : ∀ c : Fin 32, k0_cond1 c = 1#1 → k0_dev3 c = (nbr 3 c).val := by decide +kernel
theorem dev4_nbr : ∀ c : Fin 32, k0_cond2 c = 1#1 → k0_dev4 c = (nbr 2 c).val := by decide +kernel
theorem cond1_nbr : ∀ c : Fin 32, k0_cond1 c = 1#1 ↔ hasNbr 3 c = true := by decide +kernel
theorem cond2_nbr : ∀ c : Fin 32, k0_cond2 c = 1#1 ↔ hasNbr 2 c = true := by decide +kernel
theorem w32_nbr : ∀ c : Fin 32, Scalar.cmpi .ne (Scalar.extui (w32 c) : BitVec 32) 0#32 = 1#1 ↔ nb true c = true := by decide +kernel
theorem w33_nbr : ∀ c : Fin 32, Scalar.cmpi .ne (Scalar.extui (w33 c) : BitVec 32) 0#32 = 1#1 ↔ nb false c = true := by decide +kernel

theorem wait_yes (n : ℕ) {b : Bool} (hb : b = true) (hle : n + 1 ≤ (bnb c).card) :
    Ht m ρ K c iprop(ow c (Oc c (rem 0)) ∗ Wt c (n + if b = true then 1 else 0)) (.semWait barS ((1#32 : BitVec 32).toInt)) iprop(ow c (Oc c (rem 0)) ∗ Wt c n) := by
  rw [if_pos hb]
  exact ht_bar n 1 Nat.one_pos hle

theorem wait_no (n : ℕ) {b : Bool} (hb : ¬b = true) : (iprop(ow c (Oc c (rem 0)) ∗ Wt c (n + if b = true then 1 else 0)) : sProp 𝕄) = iprop(ow c (Oc c (rem 0)) ∗ Wt c n) := by
  rw [if_neg hb]; rfl

end Cert.KernelIdeal.AG
-- ==== Proof.IBody.lean ====
/-
# The body: from its parts to its whole
-/
module

public import proofs.«01_k».proof.Proof.IPartsA
public import proofs.«01_k».proof.Proof.IPartsB
public import proofs.«01_k».proof.Proof.IPartsC
public import proofs.«01_k».proof.Proof.IPartsD
public import proofs.«01_k».proof.Proof.IFront

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI Idealize.SL.Sem
open scoped Idealize.SL.BI
open Idealize.SL.BI.BIBase Idealize.SL.BI.Laws Idealize.SL.ProofMode

variable {F : FTy → Type} [FloatOps F]
local notation "𝕄" => MT nD τ sig Unit (Elt F) ℕ UU ℕ
variable {m : (ℓ : Loc nD τ sig) → Buf (Elt F) ℓ} {ρ : Dev nD → PrngReg} {K : Dev nD × CI → ℕ} {c : Dev nD}

abbrev T73 : Type := Σ' (d0 : Dev nD) (v2 : BitVec 32) (v5 : BitVec 32) (v8 : BitVec 32) (v9 : BitVec 32) (v19 : BitVec 32) (v22 : BitVec 32) (v24 : BitVec 32) (v26 : BitVec 32) (v29 : BitVec 32) (v30 : BitVec 32) (v31 : BitVec 32) (v32 : BitVec 1) (v33 : BitVec 1), Sems sig S_

attribute [local irreducible] instDecidableEqBitVec BitVec.decEq

/-- One part, then the rest. -/
theorem wp_then {P X : sProp 𝕄} {α β : Type} {p : Pg (F := F) α} {k : α → Pg (F := F) β} {Q : β → sProp 𝕄}
    (h : ∀ Q' : α → sProp 𝕄, (∀ v, X ⊢ Q' v) → P ⊢ WP c p Q') (hk : ∀ v, X ⊢ WP c (k v) Q) : P ⊢ WP c (p >>= k) Q := by
  unfold WP
  rw [wp_bind]
  exact h _ hk

theorem part73 (h0 : xM.IsWhole) (h1 : oM.IsWhole) (h2 : wM.IsWhole) {P : sProp 𝕄} {β : Type} {Q : β → sProp 𝕄} {k : T73 → Pg (F := F) β}
    (hk : ∀ v2 v5 v8 v9 v19 v22 v24 v26 v29 v30 v31 : BitVec 32, P ⊢ WP c (k ⟨c, v2, v5, v8, v9, v19, v22, v24, v26, v29, v30, v31, w32 c, w33 c, SemArray.scalar (sig.barrier 0 rfl)⟩) Q) :
    P ⊢ WP c (k0_part73 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 >>= k) Q := by
  rw [k0_part73_eq_skeleton]
  unfold k0_part73_skel WP
  simp only [Prog.lift, Prog.bind_op, Prog.bind_ret, Prog.pure_eq_ret, wp_deviceId]
  exact hk _ _ _ _ _ _ _ _ _ _ _

set_option maxRecDepth 65536 in
set_option maxHeartbeats 4000000 in
/-- The whole body, from its first parts. -/
theorem body_run (h0 : xM.IsWhole) (h1 : oM.IsWhole) (h2 : wM.IsWhole) {P X R : sProp 𝕄} {Q : PUnit → sProp 𝕄}
    (h74 : ∀ v2 v5 v8 v9 v22 v24 v30 v31 (Q' : T74 → sProp 𝕄), (∀ v, X ⊢ Q' v) → P ⊢ WP c (k0_part74 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
      c v2 v5 v8 v9 v22 v24 v30 v31 (w32 c) (w33 c) (SemArray.scalar (sig.barrier 0 rfl))) Q')
    (h75 : ∀ v2 v5 v8 v24 v30 v31 v64 z (Q' : T75 → sProp 𝕄), (∀ v, iprop(env m ρ K ∗ St m ρ c 10 ∗ R) ⊢ Q' v) → X ⊢ WP c (k0_part75 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
      c v2 v5 v8 v24 v30 v31 (w32 c) (w33 c) v64 z) Q')
    (hk : iprop(env m ρ K ∗ St m ρ c 304 ∗ R) ⊢ Q ⟨⟩) : P ⊢ WP c (cc0_body xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16) Q := by
  rw [cc0_body_eq_skeleton]
  unfold cc0_body_skel
  refine part73 h0 h1 h2 fun v2 v5 v8 v9 v19 v22 v24 v26 v29 v30 v31 => ?_
  refine wp_then (h74 _ _ _ _ _ _ _ _) ?_
  rintro ⟨v64, z⟩
  refine wp_then (h75 _ _ _ _ _ _ _ _) ?_
  rintro ⟨v83, v84, v86, v88⟩
  show Go m ρ K c R 10 _ Q
  refine Go.bind ((partsA h0 h1 h2).1 _ _ _ _ _ _ _ _ _ _ _ _ _ _) ?_
  rintro ⟨v122, v124⟩
  refine Go.bind ((partsA h0 h1 h2).2.1 _ _ _ _ _ _ _ _ _ _ _ _ _ _) ?_
  rintro ⟨v157, v158⟩
  refine Go.bind ((partsA h0 h1 h2).2.2.1 _ _ _ _ _ _ _ _ _ _ _ _) ?_
  rintro ⟨v180, v190⟩
  refine Go.bind ((partsA h0 h1 h2).2.2.2 _ _ _ _ _ _ _ _ _ _ _ _ _ _) ?_
  rintro ⟨v214, v216, v222⟩
  refine Go.bind ((partsB h0 h1 h2).1 _ _ _ _ _ _ _ _ _ _ _ _ _) ?_
  rintro ⟨v231, v232, v248⟩
  refine Go.bind ((partsB h0 h1 h2).2.1 _ _ _ _ _ _ _ _ _ _ _) ?_
  rintro ⟨v281, v282⟩
  refine Go.bind ((partsB h0 h1 h2).2.2.1 _ _ _ _ _ _ _ _ _ _) ?_
  rintro ⟨v308, v310⟩
  refine Go.bind ((partsB h0 h1 h2).2.2.2 _ _ _ _ _ _ _ _ _ _ _ _) ?_
  rintro ⟨v331, v332, v336⟩
  refine Go.bind ((partsC h0 h1 h2).1 _ _ _ _ _ _ _ _ _ _ _) ?_
  rintro ⟨v370, v372⟩
  refine Go.bind ((partsC h0 h1 h2).2.1 _ _ _ _ _ _ _ _ _ _ _ _) ?_
  rintro ⟨v381, v382, v396, v398⟩
  refine Go.bind ((partsC h0 h1 h2).2.2.1 _ _ _ _ _ _ _ _ _ _ _ _) ?_
  rintro ⟨v431, v432⟩
  refine Go.bind ((partsC h0 h1 h2).2.2.2.1 _ _ _ _ _ _) ?_
  rintro ⟨v458, v461, v464⟩
  refine Go.bind ((partsC h0 h1 h2).2.2.2.2.1 _ _ _ _ _ _ _ _ _) ?_
  rintro ⟨v477, v478, v491, v493, v494, c1_i32_314⟩
  refine Go.bind ((partsC h0 h1 h2).2.2.2.2.2.1 _ _ _ _ _ _ _ _ _ _) ?_
  rintro ⟨v523, v524, v526⟩
  refine Go.bind ((partsC h0 h1 h2).2.2.2.2.2.2.1 _ _ _ _ _ _ _) ?_
  intro c1_i32_359
  refine Go.bind ((partsC h0 h1 h2).2.2.2.2.2.2.2 _ _ _ _ _ _ _ _ _ _) ?_
  rintro ⟨v585, v586, v588⟩
  refine Go.bind ((partsD h0 h1 h2).1 _ _ _ _ _ _ _ _ _) ?_
  rintro ⟨v616, v618⟩
  refine Go.bind ((partsD h0 h1 h2).2.1 _ _ _ _ _ _ _ _ _ _) ?_
  rintro ⟨v643, v644, v646, v648, v653, c0_i32_416⟩
  refine Go.bind ((partsD h0 h1 h2).2.2.1 _ _ _ _ _ _ _ _ _ _ _ _) ?_
  rintro ⟨v676, v685, c0_i32_434⟩
  refine Go.bind ((partsD h0 h1 h2).2.2.2 _ _ _ _ _ _ _ _ _ _ _) ?_
  rintro ⟨v701, v702, v714⟩
  dsimp -zeta only
  repeat
    iterate 2 try refine Go.still (by decide +kernel) (by decide +kernel) ?_
    extract_lets -underBinder +onlyGivenNames jp
    first
    | (refine Go.join1 jp ?_ ?_
       focus
        clear_value jp
        intro hj
        simp only [k0_part68_eq_skeleton, k0_part68_skel, k0_part69_eq_skeleton, k0_part69_skel, k0_part70_eq_skeleton, k0_part70_skel, k0_part71_eq_skeleton, k0_part71_skel, k0_part72_eq_skeleton, k0_part72_skel, Prog.lift, Prog.bind_op, Prog.bind_ret, Prog.pure_eq_ret]
        refine Go.one hj ?_
        all_goals first
          | (apply Ev.send <;> decide +kernel)
          | (apply Ev.recv <;> first | decide +kernel | exact fun _ => rfl)
          | (apply Ev.read <;> first | decide +kernel | exact fun _ => rfl)
       subst jp
       beta_reduce)
    | (refine Go.join2 jp ?_ ?_
       focus
        clear_value jp
        intro hj
        simp only [k0_part68_eq_skeleton, k0_part68_skel, k0_part69_eq_skeleton, k0_part69_skel, k0_part70_eq_skeleton, k0_part70_skel, k0_part71_eq_skeleton, k0_part71_skel, k0_part72_eq_skeleton, k0_part72_skel, Prog.lift, Prog.bind_op, Prog.bind_ret, Prog.pure_eq_ret]
        refine Go.two hj ?_ ?_
        all_goals first
          | (apply Ev.send <;> decide +kernel)
          | (apply Ev.recv <;> first | decide +kernel | exact fun _ => rfl)
          | (apply Ev.read <;> first | decide +kernel | exact fun _ => rfl)
       subst jp
       beta_reduce)
    | (refine Go.join3 jp ?_ ?_
       focus
        clear_value jp
        intro hj
        simp only [k0_part68_eq_skeleton, k0_part68_skel, k0_part69_eq_skeleton, k0_part69_skel, k0_part70_eq_skeleton, k0_part70_skel, k0_part71_eq_skeleton, k0_part71_skel, k0_part72_eq_skeleton, k0_part72_skel, Prog.lift, Prog.bind_op, Prog.bind_ret, Prog.pure_eq_ret]
        refine Go.three hj ?_ ?_ ?_
        all_goals first
          | (apply Ev.send <;> decide +kernel)
          | (apply Ev.recv <;> first | decide +kernel | exact fun _ => rfl)
          | (apply Ev.read <;> first | decide +kernel | exact fun _ => rfl)
       subst jp
       beta_reduce)
    | (subst jp
       beta_reduce)
  exact Go.ret hk

end Cert.KernelIdeal.AG
-- ==== Proof.IFront2.lean ====
/-
# The body's first two parts
-/
module

public import proofs.«01_k».proof.Proof.IFront

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]
local notation "𝕄" => MT nD τ sig Unit (Elt F) ℕ UU ℕ

variable {m : (ℓ : Loc nD τ sig) → Buf (Elt F) ℓ} {ρ : Dev nD → PrngReg} {K : Dev nD × CI → ℕ} {c : Dev nD}

attribute [local irreducible] instDecidableEqBitVec BitVec.decEq

set_option maxRecDepth 65536 in
set_option maxHeartbeats 4000000 in
theorem part74 (h0 : xM.IsWhole) (h1 : oM.IsWhole) (h2 : wM.IsWhole) (Z : sProp 𝕄) (v2 v5 v8 v9 v22 v24 v30 v31 : BitVec 32) (Q : T74 → sProp 𝕄)
    (hk : ∀ v, iprop(env m ρ K ∗ St m ρ c 1 ∗ rest1 m ρ c Z) ⊢ Q v) :
    iprop(env m ρ K ∗ pre m ρ c Z) ⊢ WP c (k0_part74 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
      c v2 v5 v8 v9 v22 v24 v30 v31 (w32 c) (w33 c) (SemArray.scalar (sig.barrier 0 rfl))) Q := by
  rw [k0_part74_eq_skeleton]
  unfold k0_part74_skel
  simp -zeta only [semSignalWord, semWaitWord, Prog.lift, Prog.bind_op, Prog.bind_ret, Prog.pure_eq_ret]
  show Gq m ρ K c (pre m ρ c Z) _ Q
  have hc : (bnb c).card = ((0 + if nb false c = true then 1 else 0) + if nb true c = true then 1 else 0) + 2 := by
    rw [show (bnb c).card = _ from card_nbr c]; omega
  unfold pre
  refine Gq.op (ht_sig (by decide) rfl (Fin.ext (dev1_nbr c))) ?_
  refine Gq.op (ht_sig (by decide) rfl (Fin.ext (dev2_nbr c))) ?_
  extract_lets -underBinder +onlyGivenNames jp
  refine Gq.join jp (P' := iprop(sigSt c {2} ∗ Wt c (bnb c).card ∗ rest0 m ρ c Z)) ?_ ?_
  · clear_value jp
    intro hj
    refine Gq.one hj (fun h => ht_sig (by decide) ((cond1_nbr c).mp h) (Fin.ext (dev3_nbr c h))) (fun h => sig_no (by decide) ?_)
    exact Bool.eq_false_iff.mpr fun hh => h ((cond1_nbr c).mpr hh)
  subst jp
  beta_reduce
  extract_lets -underBinder +onlyGivenNames jp
  refine Gq.join jp (P' := iprop(sigSt c ∅ ∗ Wt c (bnb c).card ∗ rest0 m ρ c Z)) ?_ ?_
  · clear_value jp
    intro hj
    refine Gq.one hj (fun h => ht_sig (i := 2) (s := ∅) (by decide) ((cond2_nbr c).mp h) (Fin.ext (dev4_nbr c h))) (fun h => sig_no (i := 2) (s := ∅) (by decide) ?_)
    exact Bool.eq_false_iff.mpr fun hh => h ((cond2_nbr c).mpr hh)
  subst jp
  beta_reduce
  refine Gq.conv (P' := iprop((ow c (Oc c (rem 0)) ∗ Wt c (((0 + if nb false c = true then 1 else 0) + if nb true c = true then 1 else 0) + 2)) ∗ rest0 m ρ c Z)) ?_ ?_
  · rw [hc]
    unfold sigSt Ob
    rw [Finset.sum_empty, add_zero]
    iintro ⟨⟨HO, -⟩, HW, HR⟩
    isplitr [HR]
    · isplitl [HO] <;> iassumption
    iexact HR
  refine Gq.op (ht_bar _ 2 (by decide) hc.ge) ?_
  extract_lets -underBinder +onlyGivenNames v51 v52 jp
  refine Gq.join jp (P' := iprop((ow c (Oc c (rem 0)) ∗ Wt c (0 + if nb false c = true then 1 else 0)) ∗ rest0 m ρ c Z)) ?_ ?_
  · clear_value jp
    intro hj
    refine Gq.one hj (fun h => wait_yes _ ((w32_nbr c).mp h) (by rw [hc]; omega)) (fun h => wait_no _ fun hh => h ((w32_nbr c).mpr hh))
  subst jp
  beta_reduce
  extract_lets -underBinder +onlyGivenNames v53 v54 jp
  refine Gq.join jp (P' := iprop((ow c (Oc c (rem 0)) ∗ Wt c 0) ∗ rest0 m ρ c Z)) ?_ ?_
  · clear_value jp
    intro hj
    refine Gq.one hj (fun h => wait_yes _ ((w33_nbr c).mp h) (by rw [hc]; omega)) (fun h => wait_no _ fun hh => h ((w33_nbr c).mpr hh))
  subst jp
  beta_reduce
  have hW : Wt (F := F) c 0 = iprop(semVal (barCell c) 0 ∗ bigSep (bnb c) (barPay c)) := if_pos rfl
  rw [hW]
  unfold rest0
  refine Gq.conv (P' := iprop(xPts m ρ c ∗ (∃ f, wAll c f) ∗ ow c (Oc c (rem 0)) ∗ (semVal (barCell c) 0 ∗ bigSep (sends c) (tgt c)) ∗ (∃ f, bPts c f)
    ∗ bigSep (recvs c) (recv0 c) ∗ bigSep (sends c) (sendTok c) ∗ Z)) ?_ ?_
  · iintro ⟨⟨HO, Hz, Hp⟩, HX, HW, HB, HR⟩
    ihave Hp := (pay_in c) $$ Hp
    isplitl [HX]; · iexact HX
    isplitl [HW]; · iexact HW
    isplitl [HO]; · iexact HO
    isplitl [Hz Hp]
    · isplitl [Hz] <;> iassumption
    isplitl [HB]; · iexact HB
    iexact HR
  refine Gq.load_x ?_
  refine Gq.some_w fun f => ?_
  refine Gq.load_w fun _ => ?_
  refine Gq.store_w ?_
  rw [own_written]
  refine Gq.conv (P' := iprop(St m ρ c 0 ∗ rest1 m ρ c Z)) ?_ ?_
  · unfold rest1
    iintro ⟨HW, HX, HO, ⟨Hz, Ht⟩, HB, HV, HS, HZ⟩
    isplitr [HX HB Hz HZ]
    · iapply (St_intro m ρ c)
      isplitl [HO]; · iexact HO
      isplitl [HV]; · iexact HV
      isplitl [HS Ht]
      · iapply (sends_ready c)
        isplitl [HS] <;> iassumption
      unfold wAll
      iapply (own_parts m ρ c).1
      iexact HW
    isplitl [HX]; · iexact HX
    isplitl [HB]; · iexact HB
    isplitl [Hz]; · iexact Hz
    iexact HZ
  show Go m ρ K c (rest1 m ρ c Z) 0 _ Q
  extract_lets -underBinder +onlyGivenNames jp
  refine Go.join1 jp ?_ ?_
  · clear_value jp
    intro hj
    refine Go.one hj ?_
    apply Ev.own <;> decide +kernel
  subst jp
  beta_reduce
  exact Go.ret (hk _)

set_option maxRecDepth 65536 in
set_option maxHeartbeats 4000000 in
theorem part75 (h0 : xM.IsWhole) (h1 : oM.IsWhole) (h2 : wM.IsWhole) (Z : sProp 𝕄) (v2 v5 v8 v24 v30 v31 v64 z : BitVec 32) (Q : T75 → sProp 𝕄)
    (hk : ∀ v, iprop(env m ρ K ∗ St m ρ c 10 ∗ rest2 m ρ c Z) ⊢ Q v) :
    iprop(env m ρ K ∗ St m ρ c 1 ∗ rest1 m ρ c Z) ⊢ WP c (k0_part75 xM h0 oM h1 wM h2 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16
      c v2 v5 v8 v24 v30 v31 (w32 c) (w33 c) v64 z) Q := by
  rw [k0_part75_eq_skeleton]
  unfold k0_part75_skel
  simp -zeta only [Prog.lift, Prog.bind_op, Prog.bind_ret, Prog.pure_eq_ret]
  show Go m ρ K c (rest1 m ρ c Z) 1 _ Q
  iterate 7
    iterate 2 try refine Go.still (by decide +kernel) (by decide +kernel) ?_
    extract_lets -underBinder +onlyGivenNames jp
    first
    | (refine Go.join1 jp ?_ ?_
       focus
        clear_value jp
        intro hj
        refine Go.one hj ?_
        all_goals first
          | (apply Ev.own <;> decide +kernel)
          | (apply Ev.send <;> decide +kernel)
          | (apply Ev.recv <;> first | decide +kernel | exact fun _ => rfl)
       subst jp
       beta_reduce)
    | (refine Go.join2 jp ?_ ?_
       focus
        clear_value jp
        intro hj
        refine Go.two hj ?_ ?_
        all_goals first
          | (apply Ev.own <;> decide +kernel)
          | (apply Ev.send <;> decide +kernel)
          | (apply Ev.recv <;> first | decide +kernel | exact fun _ => rfl)
       subst jp
       beta_reduce)
    | (subst jp
       beta_reduce)
  show Gq m ρ K c iprop(St m ρ c 8 ∗ rest1 m ρ c Z) _ Q
  unfold rest1
  refine Gq.conv (P' := iprop(xPts m ρ c ∗ (∃ f, bPts c f) ∗ semVal (barCell c) 0 ∗ Z ∗ St m ρ c 8)) ?_ ?_
  · iintro ⟨HS, HX, HB, Hz, HZ⟩
    isplitl [HX]; · iexact HX
    isplitl [HB]; · iexact HB
    isplitl [Hz]; · iexact Hz
    isplitl [HZ] <;> iassumption
  refine Gq.load_x ?_
  refine Gq.some_b fun f => ?_
  refine Gq.load_o blk_load fun _ => ?_
  refine Gq.store_o blk_set.le ?_
  refine Gq.conv (P' := iprop(St m ρ c 8 ∗ rest2 m ρ c Z)) ?_ ?_
  · unfold rest2
    iintro ⟨HB, HX, Hz, HZ, HS⟩
    ihave HB := (blk_stored f) $$ HB
    isplitl [HS]; · iexact HS
    isplitl [HX]; · iexact HX
    isplitl [HB]; · iexact HB
    isplitl [Hz]; · iexact Hz
    iexact HZ
  show Go m ρ K c (rest2 m ρ c Z) 8 _ Q
  repeat
    iterate 2 try refine Go.still (by decide +kernel) (by decide +kernel) ?_
    extract_lets -underBinder +onlyGivenNames jp
    first
    | (refine Go.join1 jp ?_ ?_
       focus
        clear_value jp
        intro hj
        refine Go.one hj ?_
        all_goals first
          | (apply Ev.own <;> decide +kernel)
          | (apply Ev.send <;> decide +kernel)
          | (apply Ev.recv <;> first | decide +kernel | exact fun _ => rfl)
       subst jp
       beta_reduce)
    | (refine Go.join2 jp ?_ ?_
       focus
        clear_value jp
        intro hj
        refine Go.two hj ?_ ?_
        all_goals first
          | (apply Ev.own <;> decide +kernel)
          | (apply Ev.send <;> decide +kernel)
          | (apply Ev.recv <;> first | decide +kernel | exact fun _ => rfl)
       subst jp
       beta_reduce)
    | (subst jp
       beta_reduce)
  exact Go.ret (hk _)

end Cert.KernelIdeal.AG
-- ==== Proof.IRun.lean ====
/-
# The whole body, between the states the pipeline passes it
-/
module

public import proofs.«01_k».proof.Proof.IBody
public import proofs.«01_k».proof.Proof.IFront2
public import proofs.«01_k».proof.Proof.Gen.KernelIdeal.Points

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ UU ℕ
variable (m : (ℓ : Loc nD τ sig) → Buf (Elt F) ℓ) (ρ : Dev nD → PrngReg)

/-! ## All cells of a device -/

def recvsNot (c : Fin 32) : Finset Tr := Finset.univ.filter fun t => ¬liveR t c = true
def sendsNot (c : Fin 32) : Finset Tr := Finset.univ.filter fun t => ¬liveS t c = true

/-- A device's DMA cells: the used ones and the others, at both ends. -/
theorem dma_split (c : Dev nD) (Φ : Bool × Tr → sProp 𝕄) :
    bigSep Finset.univ Φ = iprop((bigSep (sends c) (fun t => Φ (false, t)) ∗ bigSep (sendsNot c) fun t => Φ (false, t))
      ∗ (bigSep (recvs c) (fun t => Φ (true, t)) ∗ bigSep (recvsNot c) fun t => Φ (true, t))) := by
  have hb (Ψ : Bool → sProp 𝕄) : bigSep Finset.univ Ψ = iprop(Ψ false ∗ Ψ true) := bigSep_univ_eq_bigSepL [false, true] (by decide) (by decide) Ψ
  have hs (Ψ : Tr → sProp 𝕄) : bigSep Finset.univ Ψ = iprop(bigSep (sends c) Ψ ∗ bigSep (sendsNot c) Ψ) :=
    BI.bigSep_filter_split Finset.univ (fun t : Tr => liveS t c = true)
  have hr (Ψ : Tr → sProp 𝕄) : bigSep Finset.univ Ψ = iprop(bigSep (recvs c) Ψ ∗ bigSep (recvsNot c) Ψ) :=
    BI.bigSep_filter_split Finset.univ (fun t : Tr => liveR t c = true)
  rw [BI.bigSep_univ_prod Φ, hb, hs, hr]

theorem cells_split (Φ : CI → sProp 𝕄) : bigSep Finset.univ Φ = iprop(Φ none ∗ bigSep Finset.univ fun x : Bool × Tr => Φ (some x)) := by
  have h : (Finset.univ : Finset CI) = insert none ((Finset.univ : Finset (Bool × Tr)).map Function.Embedding.some) := by
    ext i
    cases i <;> simp
  rw [h, BI.bigSep_insert (by simp), BI.bigSep_map]
  rfl

/-- What holds with a resource that can be kept holds of all together. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Cells that are not used close at once. -/
theorem idle_close (K : Dev nD × CI → ℕ) (c : Dev nD) (b : Bool) (S : Finset Tr) (hS : ∀ t ∈ S, liveC (b, t) c = false) :
    iprop(env m ρ K ∗ bigSep S fun t => atPos ER (dmaCell b t c) 0 ∅ 0) ⊢ |={Set.univ}=> (bigSep S fun t => (semVal (dmaCell b t c) 0 : sProp 𝕄)) := by
  refine (each_with (R := env m ρ K) (Ψ := fun t => iprop(|={Set.univ}=> (semVal (dmaCell b t c) 0 : sProp 𝕄))) fun t ht => ?_).trans (bigSep_fupd _ _)
  iintro ⟨#HE, Hat⟩
  ihave H := (env_at m ρ K c (some (b, t))) $$ HE
  icases H with ⟨#HI, -⟩
  iapply (Rounds.cell_close ER (agRd m ρ) (Set.mem_univ (K (c, some (b, t)))) (fun h => h) (R := 0) (duties_none m ρ c (b, t) (hS t ht)))
  isplitr; · iexact HI
  iexact Hat

/-! ## What the pipeline passes -/

/-- The duties a device pays: one per neighbour, and at both ends of each of its transfers. -/
def payToks (c : Dev nD) : sProp 𝕄 :=
  iprop((bigSep Finset.univ fun i : Fin 4 => dutyTok ER (barCell (nbr i c)) 0 (opp i))
    ∗ (bigSep Finset.univ fun t : Tr => dutyTok ER (dmaCell false t c) 0 0)
    ∗ bigSep Finset.univ fun t : Tr => dutyTok ER (dmaCell true t (peer t c)) 0 0)

def hand (c : Dev nD) : sProp 𝕄 := iprop((bigSep Finset.univ fun i : CI => atPos ER (kcell (c, i)) 0 ∅ 0) ∗ payToks c)

def deal (K : Dev nD × CI → ℕ) (c : Dev nD) : sProp 𝕄 := iprop(bigSep Finset.univ (recAt m ρ K) ∗ hand c)

def start (c : Dev nD) : sProp 𝕄 :=
  iprop((∃ K, deal m ρ K c) ∗ cred (tallyAt (barCell c) () (bnb c).card) ∗ (bigSep (recvs c) fun t => cred (tallyAt (dmaCell true t c) () N)) ∗ levAts L lv)

def Φ₀ (c : Dev nD) : sProp 𝕄 := iprop(start m ρ c ∗ ∃ f, wAll c f)
def Φ₁ (c : Dev nD) : sProp 𝕄 :=
  iprop((∃ f, wAll c f) ∗ (bigSep Finset.univ fun x : Bool × Tr => semVal (dmaCell x.1 x.2 c) 0) ∗ semVal (barCell c) 0)

def O₀ (c : Dev nD) : CellTallies nD τ sig Unit := Oc c (rem 0) + Ob c Finset.univ

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outVal m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outVal m ρ c))

/-- The counters of the cells that are not used. -/
def idleZ (c : Dev nD) : sProp 𝕄 :=
  iprop((bigSep (sendsNot c) fun t => semVal (dmaCell false t c) 0) ∗ bigSep (recvsNot c) fun t => semVal (dmaCell true t c) 0)

theorem sig_ready (c : Dev nD) (f : (cc0_stg1_0 : Ref sig .tc).ty.Contents (Elt F)) :
    iprop((bigSep Finset.univ fun i : Fin 4 => dutyTok ER (barCell (nbr i c)) 0 (opp i)) ∗ bigSep (recvs c) fun t => oPts c (rch t c) fullShare f)
      ⊢ (bigSep (insert 0 (insert 1 (insert 3 {2}))) (sigP c) : sProp 𝕄) := by
  rw [show (insert 0 (insert 1 (insert 3 {2})) : Finset (Fin 4)) = Finset.univ from by decide]
  refine (sep_mono_right (pay_out c f)).trans ?_
  rw [← bigSep_sep']
  refine bigSep_mono fun i _ => ?_
  by_cases h : hasNbr i c = true
  · rw [if_pos h, show sigP (F := F) c i = iprop(dutyTok ER (barCell (nbr i c)) 0 (opp i) ∗ barPay (nbr i c) (opp i)) from if_pos h]
    exact Entails.refl _
  · rw [if_neg h, show sigP (F := F) c i = iprop(emp) from if_neg h]
    show iprop(dutyTok ER (barCell (nbr i c)) 0 (opp i) ∗ emp) ⊢ iprop(emp)
    iintro -
    iempintro

theorem bar_ready (c : Dev nD) : iprop(atPos ER (barCell c) 0 ∅ 0 ∗ cred (tallyAt (barCell c) () (bnb c).card)) ⊢ (Wt c (bnb c).card : sProp 𝕄) := by
  have hc : ¬(bnb c).card = 0 := by rw [show (bnb c).card = _ from card_nbr c]; omega
  rw [show Wt (F := F) c (bnb c).card = iprop((∃ S : Finset (Fin 4), ⌜S ⊆ bnb c⌝ ∗ atPos ER (barCell c) 0 S ((bnb c).card - (bnb c).card) ∗ bigSep S (barPay c)) ∗ cred (tallyAt (barCell c) () (bnb c).card)) from if_neg hc, Nat.sub_self]
  iintro ⟨H, Hc⟩
  isplitr [Hc]
  · iexists ∅
    isplitr; · ipureintro; exact Finset.empty_subset _
    isplitl [H]; · iexact H
    rw [BI.bigSep_empty]
    iempintro
  iexact Hc

theorem tok_ready (c : Dev nD) :
    iprop((bigSep (sends c) fun t => atPos ER (dmaCell false t c) 0 ∅ 0) ∗ (bigSep Finset.univ fun t : Tr => dutyTok ER (dmaCell false t c) 0 0)
      ∗ bigSep Finset.univ fun t : Tr => dutyTok ER (dmaCell true t (peer t c)) 0 0) ⊢ (bigSep (sends c) (sendTok c) : sProp 𝕄) := by
  have e : (bigSep (sends c) (sendTok c) : sProp 𝕄) = iprop((bigSep (sends c) fun t => atPos ER (dmaCell false t c) 0 ∅ 0)
      ∗ (bigSep (sends c) fun t => dutyTok ER (dmaCell false t c) 0 0) ∗ bigSep (sends c) fun t => dutyTok ER (dmaCell true t (peer t c)) 0 0) := by
    rw [← bigSep_sep', ← bigSep_sep']
    rfl
  rw [e]
  exact BI.sep_mono (Entails.refl _) (BI.sep_mono (bigSep_subset (Finset.subset_univ (sends c))) (bigSep_subset (Finset.subset_univ (sends c))))

theorem recv_ready (c : Dev nD) :
    iprop((bigSep (recvs c) fun t => atPos ER (dmaCell true t c) 0 ∅ 0) ∗ bigSep (recvs c) fun t => cred (tallyAt (dmaCell true t c) () N))
      ⊢ (bigSep (recvs c) (recv0 c) : sProp 𝕄) := by
  rw [← bigSep_sep']
  exact Entails.refl _

theorem recv_back (c : Dev nD) : (bigSep (recvs c) (recvZ m ρ c) : sProp 𝕄)
    = iprop((bigSep (recvs c) fun t => semVal (dmaCell true t c) 0) ∗ bigSep (recvs c) fun t => oPts c (rch t c) fullShare (outVal m ρ c)) := by
  rw [← bigSep_sep']
  rfl

/-- From the body's last state, what the pipeline takes back. -/
theorem post (K : Dev nD × CI → ℕ) (c : Dev nD) : iprop(env m ρ K ∗ St m ρ c 304 ∗ rest2 m ρ c (idleZ c)) ⊢ bodyPost m ρ c := by
  unfold rest2 idleZ bodyPost Φ₁ Dat.owesAt Pipeline.owesWithin
  rw [show (dats m ρ 0 c).owed t0_0.succ = 0 from rfl, dma_split c]
  iintro ⟨-, HS, HX, HB, Hz, HiS, HiR⟩
  ihave HS := (St_elim m ρ c) $$ HS
  rw [recv_back]
  icases HS with ⟨HO, ⟨HzR, HoR⟩, HzS, HW⟩
  unfold ow
  icases HO with ⟨%W, HO⟩
  isplitl [HW HzR HzS HiS HiR Hz]
  · isplitl [HW]
    · iexists (ownVal m ρ c)
      unfold wAll
      iapply (own_parts m ρ c).2
      iexact HW
    isplitr [Hz]
    · isplitl [HzS HiS]
      · isplitl [HzS]
        · iapply (show bigSep (sends c) (sendZ c) ⊢ bigSep (sends c) (fun t => (semVal (dmaCell false t c) 0 : sProp 𝕄)) from Entails.refl _)
          iexact HzS
        iexact HiS
      isplitl [HzR] <;> iassumption
    iexact Hz
  isplitl [HO]
  · iexists W
    isplitr; · ipureintro; exact fun _ _ => Or.inl trivial
    iexact HO
  isplitl [HX]
  · iexists _; isplitr; · (ipureintro; rfl)
    unfold xPts
    iexact HX
  iexists _; isplitr; · (ipureintro; rfl)
  iapply (out_parts c (outVal m ρ c)).2
  isplitl [HB] <;> iassumption

theorem idle_both (K : Dev nD × CI → ℕ) (c : Dev nD) :
    iprop(env m ρ K ∗ (bigSep (sendsNot c) fun t => atPos ER (dmaCell false t c) 0 ∅ 0) ∗ bigSep (recvsNot c) fun t => atPos ER (dmaCell true t c) 0 ∅ 0)
      ⊢ |={Set.univ}=> (idleZ c : sProp 𝕄) := by
  unfold idleZ
  iintro ⟨#HE, HS, HR⟩
  imod (idle_close m ρ K c false (sendsNot c) (fun t ht => Bool.eq_false_iff.mpr (Finset.mem_filter.mp ht).2)) $$ [HS] with HS
  · isplitr; · iexact HE
    iexact HS
  imod (idle_close m ρ K c true (recvsNot c) (fun t ht => Bool.eq_false_iff.mpr (Finset.mem_filter.mp ht).2)) $$ [HR] with HR
  · isplitr; · iexact HE
    iexact HR
  imodintro
  isplitl [HS] <;> iassumption

theorem sound_body (c : Dev nD) :
    bodyPre m ρ c ⊢ WP c (cc0_body xM (Memref.isWhole_whole _) oM (Memref.isWhole_whole _) wM (Memref.isWhole_whole _) cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16)
      (fun _ => bodyPost m ρ c) := by
  have run (K : Dev nD × CI → ℕ) : iprop(env m ρ K ∗ pre m ρ c (idleZ c)) ⊢ WP c _ (fun _ => bodyPost m ρ c) :=
    body_run (m := m) (ρ := ρ) (K := K) (c := c) (R := rest2 m ρ c (idleZ c)) (Memref.isWhole_whole _) (Memref.isWhole_whole _) (Memref.isWhole_whole _)
      (fun v2 v5 v8 v9 v22 v24 v30 v31 Q' h => part74 _ _ _ (idleZ c) v2 v5 v8 v9 v22 v24 v30 v31 Q' h)
      (fun v2 v5 v8 v24 v30 v31 v64 z Q' h => part75 _ _ _ (idleZ c) v2 v5 v8 v24 v30 v31 v64 z Q' h)
      (post m ρ K c)
  unfold bodyPre Φ₀ start deal hand payToks
  rw [cells_split, dma_split c]
  iintro ⟨⟨⟨⟨%K, #HI, ⟨HaB, ⟨HaS, HaSn⟩, HaR, HaRn⟩, HtB, HtS, HtR⟩, HcB, HcR, #Hlev⟩, HW⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  ihave #HE := (show iprop(bigSep Finset.univ (recAt m ρ K) ∗ levAts L lv) ⊢ env m ρ K from Entails.refl _) $$ []
  · isplitl; · iexact HI
    iexact Hlev
  imod (idle_both m ρ K c) $$ [HaSn HaRn] with HZ
  · isplitr; · iexact HE
    isplitl [HaSn]; · iexact HaSn
    iexact HaRn
  ihave Hout := (out_parts c g1).1 $$ Hout
  icases Hout with ⟨HB, HoR⟩
  iapply (run K)
  isplitr; · iexact HE
  unfold pre rest0 sigSt
  isplitl [HO HtB HoR]
  · isplitl [HO]
    · unfold ow
      iexists W
      rw [show (insert 0 (insert 1 (insert 3 {2})) : Finset (Fin 4)) = Finset.univ from by decide]
      unfold O₀
      iexact HO
    iapply (sig_ready c g1)
    isplitl [HtB]; · iexact HtB
    iexact HoR
  isplitl [HaB HcB]
  · iapply (bar_ready c)
    isplitl [HaB]; · iexact HaB
    iexact HcB
  isplitl [Hx]; · unfold xPts; iexact Hx
  isplitl [HW]; · iexact HW
  isplitl [HB]; · iexists g1; iexact HB
  isplitl [HaR HcR]
  · iapply (recv_ready c)
    isplitl [HaR]; · iexact HaR
    iexact HcR
  isplitl [HaS HtS HtR]
  · iapply (tok_ready c)
    isplitl [HaS]; · iexact HaS
    isplitl [HtS]; · iexact HtS
    iexact HtR
  iexact HZ

/-- The body takes each point's state to the next. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

end Cert.KernelIdeal.AG
-- ==== Proof.ILaunch.lean ====
/-
# The launch and the run
-/
module

public import proofs.«01_k».proof.Proof.IRun
public import Idealize.ShloMosaic.Lib.Quiescent
public import Idealize.ShloMosaic.Lib.Pipeline.CollectiveSegs

@[expose] public section

noncomputable section

namespace Cert.KernelIdeal.AG

open Cert.AG Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ UU ℕ
variable (m : (ℓ : Loc nD τ sig) → Buf (Elt F) ℓ) (ρ : Dev nD → PrngReg)

/-! ## Cells and tokens -/

def osem (x : Bool × Tr) : SemLoc sig := .dma (tsem x)

theorem stage_sem_lt : ∀ (w : Fin cfg0.W) (s : Fin (cfg0.spec w).nbuf), ((cfg0.spec w).sem s).val < 2 := by decide

theorem dma_scoped : ∀ q : DmaSem sig, SemLoc.isScoped (sig := sig) .tc (.dma q) = true := by decide +kernel

theorem ownSemFacts : Pipeline.OwnSemFacts cfg0.spec osem where
  isScoped x := dma_scoped (tsem x)
  inj x y h := tsem_inj (SemLoc.dma.inj h)
  disj x w s h := by
    have h1 := stage_sem_lt w s
    rw [← SemLoc.dma.inj h] at h1
    exact absurd (tsem_ge x) (Nat.not_le.mpr h1)

theorem share_eq (c : Dev nD) (w : Fin cfg0.W) : (dats m ρ 0 c).share w = fullShare := by unfold Dat.share; split <;> rfl

theorem kcell_injective : Function.Injective (kcell : Dev nD × CI → GSem nD τ sig) := by
  rintro ⟨c, i⟩ ⟨c', i'⟩ h
  have h1 : c = c' := congrArg (fun g : GSem nD τ sig => g.1.1) h
  have h2 : i = i' := csem_inj (congrArg Prod.snd h)
  rw [h1, h2]

def agCells : Finset (GSem nD τ sig) := Finset.univ.map ⟨kcell, kcell_injective⟩

def tokOf (x : (Dev nD × CI) × Fin 4) : GSem nD τ sig × ℕ × Fin 4 := (kcell x.1, 0, x.2)
theorem tokOf_injective : Function.Injective tokOf := by
  rintro ⟨p, d⟩ ⟨p', d'⟩ h
  have h1 : p = p' := kcell_injective (congrArg Prod.fst h)
  have h2 : d = d' := congrArg (fun x : GSem nD τ sig × ℕ × Fin 4 => x.2.2) h
  rw [h1, h2]
def agToks : Finset (GSem nD τ sig × ℕ × Fin 4) := Finset.univ.map ⟨tokOf, tokOf_injective⟩

def u₀ : UU := (initOf (Pipeline.cells cfgs cellOf_inj) (Pipeline.launchToks cfgs cellOf_inj), initOf agCells agToks)

/-- The duty tokens of a device's own cells. -/
def toks (c : Dev nD) : sProp 𝕄 := bigSep Finset.univ fun i : CI => bigSep Finset.univ fun d : Fin 4 => dutyTok ER (kcell (c, i)) 0 d

/-- What the launch element deals a device. -/
def G (c : Dev nD) : sProp 𝕄 :=
  iprop((bigSep Finset.univ fun i : CI => roundState ER (agRd m ρ) (kcell (c, i)) 0)
    ∗ (bigSep Finset.univ fun i : CI => iprop(atPos ER (kcell (c, i)) 0 ∅ 0 ∗ reached ER (kcell (c, i)) 0)) ∗ toks c)

def G' (c : Dev nD) : sProp 𝕄 := iprop(∃ K, deal m ρ K c)

theorem fund_ag : BI.own (ER (initOf agCells agToks)) ⊢ (|==> bigSep Finset.univ (G m ρ) : sProp 𝕄) := by
  have hX (Φ : GSem nD τ sig → sProp 𝕄) : bigSep agCells Φ = bigSep Finset.univ fun c : Dev nD => bigSep Finset.univ fun i : CI => Φ (kcell (c, i)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod, bigSep_univ_prod]; rfl
  iintro HX
  imod (Rounds.fund ER (agRd m ρ) agCells agToks) $$ HX with ⟨Hst, Hr, Hat, Htok⟩
  imodintro
  ihave Hst' := (Entails.of_eq (hX fun g => roundState ER (agRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun x : Bool × Tr => semVal (dmaCell x.1 x.2 c) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, cells_split]
  iintro ⟨HD, HB⟩
  isplitl [HB]; · iexact HB
  iexact HD

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (agRd m ρ) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (agRd m ρ) (kcell (c, i)) 0)
      ⊢ (|={Set.univ}=> bigSep Finset.univ fun i => iprop(∃ κ : ℕ, cellInv ER (agRd m ρ) κ (kcell (c, i))) : sProp 𝕄) from by
        rw [← bigSep_sep']
        exact (bigSep_mono fun i _ => (Rounds.body_intro ER (agRd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Tokens dealt to those who pay -/

def hands : Dev nD × Fin 4 ≃ Dev nD × Fin 4 where
  toFun x := (nbr x.2 x.1, opp x.2)
  invFun x := (nbr x.2 x.1, opp x.2)
  left_inv x := by
    show (nbr (opp x.2) (nbr x.2 x.1), opp (opp x.2)) = x
    rw [nbr_opp, opp_opp]
  right_inv x := by
    show (nbr (opp x.2) (nbr x.2 x.1), opp (opp x.2)) = x
    rw [nbr_opp, opp_opp]

/-- The tokens of duties that are paid. -/
def toks' (c : Dev nD) : sProp 𝕄 :=
  iprop((bigSep Finset.univ fun i : Fin 4 => dutyTok ER (barCell c) 0 i)
    ∗ (bigSep Finset.univ fun t : Tr => dutyTok ER (dmaCell false t c) 0 0)
    ∗ bigSep Finset.univ fun t : Tr => dutyTok ER (dmaCell true t c) 0 0)

theorem toks_use (c : Dev nD) : toks c ⊢ (toks' c : sProp 𝕄) := by
  have hd : (bigSep Finset.univ fun x : Bool × Tr => bigSep Finset.univ fun d : Fin 4 => (dutyTok ER (kcell (c, some x)) 0 d : sProp 𝕄))
      ⊢ bigSep Finset.univ fun x : Bool × Tr => dutyTok ER (dmaCell x.1 x.2 c) 0 0 :=
    bigSep_mono fun x _ => bigSep_elim (Finset.mem_univ (0 : Fin 4))
  have hb (Ψ : Bool → sProp 𝕄) : bigSep Finset.univ Ψ = iprop(Ψ false ∗ Ψ true) := bigSep_univ_eq_bigSepL [false, true] (by decide) (by decide) Ψ
  rw [bigSep_univ_prod (fun x : Bool × Tr => (dutyTok ER (dmaCell x.1 x.2 c) 0 0 : sProp 𝕄)), hb] at hd
  unfold toks toks'
  rw [cells_split]
  exact sep_mono_right hd

theorem toks_around : (bigSep Finset.univ fun c : Dev nD => (toks' c : sProp 𝕄)) ⊢ bigSep Finset.univ fun c : Dev nD => payToks c := by
  have e1 : (bigSep Finset.univ fun c : Dev nD => bigSep Finset.univ fun i : Fin 4 => (dutyTok ER (barCell c) 0 i : sProp 𝕄))
      = bigSep Finset.univ fun c : Dev nD => bigSep Finset.univ fun i : Fin 4 => dutyTok ER (barCell (nbr i c)) 0 (opp i) := by
    rw [← bigSep_univ_prod (fun x : Dev nD × Fin 4 => (dutyTok ER (barCell x.1) 0 x.2 : sProp 𝕄)),
      bigSep_univ_equiv hands (fun x : Dev nD × Fin 4 => (dutyTok ER (barCell x.1) 0 x.2 : sProp 𝕄)),
      bigSep_univ_prod (fun x : Dev nD × Fin 4 => (dutyTok ER (barCell (hands x).1) 0 (hands x).2 : sProp 𝕄))]
    rfl
  have e2 : (bigSep Finset.univ fun c : Dev nD => bigSep Finset.univ fun t : Tr => (dutyTok ER (dmaCell true t c) 0 0 : sProp 𝕄))
      = bigSep Finset.univ fun c : Dev nD => bigSep Finset.univ fun t : Tr => dutyTok ER (dmaCell true t (peer t c)) 0 0 := by
    rw [← bigSep_univ_prod (fun x : Dev nD × Tr => (dutyTok ER (dmaCell true x.2 x.1) 0 0 : sProp 𝕄)),
      bigSep_univ_equiv (around : Dev nD × Tr ≃ Dev nD × Tr) (fun x : Dev nD × Tr => (dutyTok ER (dmaCell true x.2 x.1) 0 0 : sProp 𝕄)),
      bigSep_univ_prod (fun x : Dev nD × Tr => (dutyTok ER (dmaCell true (around x).2 (around x).1) 0 0 : sProp 𝕄))]
    rfl
  unfold toks' payToks
  rw [bigSep_sep', bigSep_sep', bigSep_sep', bigSep_sep', e1, e2]

theorem regroup :
    (bigSep Finset.univ fun c : Dev nD => iprop((bigSep Finset.univ fun i => iprop(∃ κ : ℕ, cellInv ER (agRd m ρ) κ (kcell (c, i))))
          ∗ (bigSep Finset.univ fun i => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun p : Dev nD × CI => iprop(∃ κ : ℕ, cellInv ER (agRd m ρ) κ (kcell p))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun p : Dev nD × CI => (reached ER (kcell p) 0 : sProp 𝕄))]
  iintro ⟨HI, ⟨Hat, #HR⟩, Htok⟩
  ihave HK := (BI.bigSep_exists_pi Finset.univ (fun (p : Dev nD × CI) (κ : ℕ) => (cellInv ER (agRd m ρ) κ (kcell p) : sProp 𝕄))) $$ HI
  icases HK with ⟨%K, #HI⟩
  ihave Htk := (show (bigSep Finset.univ fun c : Dev nD => (toks c : sProp 𝕄)) ⊢ bigSep Finset.univ fun c : Dev nD => payToks c from
    (bigSep_mono fun c _ => toks_use (F := F) c).trans toks_around) $$ Htok
  have hrec : bigSep Finset.univ (recAt m ρ K)
      = iprop((bigSep Finset.univ fun p : Dev nD × CI => cellInv ER (agRd m ρ) (K p) (kcell p)) ∗ bigSep Finset.univ fun p : Dev nD × CI => reached ER (kcell p) 0) := by
    rw [← bigSep_sep']; rfl
  have hh : (bigSep Finset.univ fun c : Dev nD => (hand c : sProp 𝕄))
      = iprop((bigSep Finset.univ fun c : Dev nD => bigSep Finset.univ fun i : CI => atPos ER (kcell (c, i)) 0 ∅ 0) ∗ bigSep Finset.univ fun c : Dev nD => payToks c) := by
    rw [← bigSep_sep']; rfl
  iapply (each_with (R := bigSep Finset.univ (recAt m ρ K)) (Φ := fun c : Dev nD => hand c) (Ψ := G' m ρ) fun c _ => by
    show iprop(bigSep Finset.univ (recAt m ρ K) ∗ hand c) ⊢ iprop(∃ K, deal m ρ K c)
    iintro H
    iexists K
    unfold deal
    iexact H)
  rw [hrec, hh]
  isplitr
  · isplitl; · iexact HI
    iexact HR
  isplitl [Hat]; · iexact Hat
  iexact Htk

/-- The global step: every device's counters at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : barCell a = barCell b ↔ a = b :=
  ⟨fun h => congrArg (fun g : GSem nD τ sig => g.1.1) h, fun h => h ▸ rfl⟩
theorem dma_eq_iff {t u : Tr} {a b : Dev nD} : dmaCell true t a = dmaCell true u b ↔ t = u ∧ a = b :=
  ⟨fun h => ⟨congrArg Prod.snd (tsem_inj (SemLoc.dma.inj (congrArg Prod.snd h))), congrArg (fun g : GSem nD τ sig => g.1.1) h⟩,
    fun h => by rw [h.1, h.2]⟩
theorem dma_ne_bar {t : Tr} {a b : Dev nD} : dmaCell true t a ≠ barCell b := fun h => nomatch (congrArg Prod.snd h)

theorem thr_start : ∀ (k : Slot) (c : Fin 32) (kd : Fin 4), act k c kd = true → thr k kd ≤ rem 0 k := by decide +kernel

theorem Oc_bar (d c : Dev nD) : Oc d (rem 0) (barCell c) () = 0 := by
  by_contra h
  obtain ⟨k, -, hk⟩ := pos_sum _ _ (Nat.pos_of_ne_zero h)
  obtain ⟨kd, -, -, hg⟩ := Ok_pos hk
  exact dma_ne_bar hg.symm

theorem Ob_dma (d c : Dev nD) (t : Tr) : Ob d Finset.univ (dmaCell true t c) () = 0 := by
  by_contra h
  obtain ⟨i, -, -, hg⟩ := Ob_pos (Nat.pos_of_ne_zero h)
  exact dma_ne_bar hg

theorem Oc_dma (d c : Dev nD) (t : Tr) (h : liveR t c = true) :
    Oc d (rem 0) (dmaCell true t c) () = if d = sender t c then N else 0 := by
  have e : Oc d (rem 0) (dmaCell true t c) () = ∑ x : Slot × Fin 4, if x = uns t then (if d = sender t c then N else 0) else 0 := by
    rw [Fintype.sum_prod_type]
    unfold Oc Ok
    rw [Finset.sum_apply, Finsupp.finset_sum_apply]
    refine Finset.sum_congr rfl fun k _ => ?_
    rw [Finset.sum_apply, Finsupp.finset_sum_apply]
    refine Finset.sum_congr rfl fun kd _ => ?_
    by_cases ha : act k d kd = true
    · rw [if_pos ⟨ha, thr_start k d kd ha⟩, tallyAt_apply]
      have hs := (str_sin d (k, kd) ha).2
      by_cases hx : (k, kd) = uns t
      · rw [if_pos hx]
        by_cases hd : d = sender t c
        · subst hd
          have hl : liveS t (sender t c) = true := by rw [← liveR_peer, peer_sender]; exact h
          have hu := (uns_live (sender t c) t hl).2
          rw [← hx] at hu
          rw [if_pos rfl, if_pos ⟨dma_eq_iff.mpr ⟨hu.symm, by rw [show str kd k = t from hu, peer_sender]⟩, rfl⟩]
        · rw [if_neg hd, if_neg fun hh => hd ?_]
          obtain ⟨h1, h2⟩ := dma_eq_iff.mp hh.1
          rw [h2, ← h1, sender_peer]
      · rw [if_neg hx, if_neg fun hh => hx ?_]
        rw [(dma_eq_iff.mp hh.1).1]; exact hs.symm
    · rw [if_neg fun hh => ha hh.1]
      by_cases hx : (k, kd) = uns t
      · rw [if_pos hx, if_neg fun hd => ha ?_]
        · rfl
        · subst hd
          have hl : liveS t (sender t c) = true := by rw [← liveR_peer, peer_sender]; exact h
          have hu := (uns_live (sender t c) t hl).1
          rw [← hx] at hu
          exact hu
      · rw [if_neg hx]; rfl
  rw [e, Finset.sum_ite_eq' Finset.univ (uns t), if_pos (Finset.mem_univ _)]

theorem nbr_count : ∀ c : Fin 32, (∑ d : Fin 32, ∑ i : Fin 4, if hasNbr i d = true ∧ c = nbr i d then 1 else 0)
    = (Finset.univ.filter fun i => hasNbr i c = true).card := by decide +kernel

theorem Ob_bar (d c : Dev nD) : Ob d Finset.univ (barCell c) () = ∑ i : Fin 4, if hasNbr i d = true ∧ c = nbr i d then 1 else 0 := by
  unfold Ob
  rw [Finset.sum_apply, Finsupp.finset_sum_apply]
  refine Finset.sum_congr rfl fun i _ => ?_
  by_cases h : hasNbr i d = true
  · rw [if_pos h, tallyAt_apply]
    by_cases hc : c = nbr i d
    · rw [if_pos ⟨bar_eq_iff.mpr hc, rfl⟩, if_pos ⟨h, hc⟩]
    · rw [if_neg fun hh => hc (bar_eq_iff.mp hh.1), if_neg fun hh => hc hh.2]
  · rw [if_neg h, if_neg fun hh => h hh.1]; rfl

theorem O₀_at (d : Dev nD) (g : GSem nD τ sig) : O₀ d g () = Oc d (rem 0) g () + Ob d Finset.univ g () := by
  unfold O₀; rw [Pi.add_apply, Finsupp.add_apply]

theorem launch_bar (c : Dev nD) :
    tallyOn (barCell c) (launchCredit (Pipeline.owing O₀) 0 (barCell c)) = (tallyAt (barCell c) () (bnb c).card : CellTallies nD τ sig Unit) := by
  unfold tallyAt; refine congrArg _ (Finsupp.ext fun u => ?_); cases u
  rw [Pipeline.launchCredit_owing, Finsupp.single_eq_same, Finset.sum_congr rfl fun d _ => by rw [O₀_at, Oc_bar, Ob_bar, Nat.zero_add]]
  exact nbr_count c

theorem launch_recv (c : Dev nD) (t : Tr) (h : liveR t c = true) :
    tallyOn (dmaCell true t c) (launchCredit (Pipeline.owing O₀) 0 (dmaCell true t c)) = (tallyAt (dmaCell true t c) () N : CellTallies nD τ sig Unit) := by
  unfold tallyAt; refine congrArg _ (Finsupp.ext fun u => ?_); cases u
  rw [Pipeline.launchCredit_owing, Finsupp.single_eq_same, Finset.sum_congr rfl fun d _ => by rw [O₀_at, Oc_dma d c t h, Ob_dma, Nat.add_zero],
    Finset.sum_ite_eq' Finset.univ (sender t c) fun _ => N, if_pos (Finset.mem_univ _)]

def rsome : Tr ↪ CI := ⟨fun t => some (true, t), fun a b h => congrArg Prod.snd (Option.some.inj h)⟩
def waited (c : Dev nD) : Finset CI := insert none ((recvs c).map rsome)

theorem creds (c : Dev nD) :
    (Pipeline.launchCred O₀ c : sProp 𝕄)
      ⊢ iprop(cred (tallyAt (barCell c) () (bnb c).card) ∗ bigSep (recvs c) fun t => cred (tallyAt (dmaCell true t c) () N)) := by
  unfold Pipeline.launchCred
  refine (bigSep_subset (Finset.subset_univ ((waited c).map ⟨csem, csem_inj⟩))).trans ?_
  unfold waited
  rw [BI.bigSep_map, BI.bigSep_insert (by simp [rsome]), BI.bigSep_map]
  refine BI.sep_mono ?_ (bigSep_mono fun t ht => ?_)
  · show cred (tallyOn (barCell c) (launchCredit (Pipeline.owing O₀) 0 (barCell c))) ⊢ _
    rw [launch_bar]
  · show cred (tallyOn (dmaCell true t c) (launchCredit (Pipeline.owing O₀) 0 (dmaCell true t c))) ⊢ _
    rw [launch_recv c t (mem_recvs.mp ht)]

/-! ## Side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ wAll
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ wAll
  iintro ⟨⟨%f, Hr⟩, HzD, HzB⟩
  isplitl [HzB]; · iexact HzB
  isplitl [HzD]; · iexact HzD
  iexists f; iexact Hr

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · have key : ∀ g u, 0 < O₀ c g u → (∃ k kd, thr k kd ≤ rem 0 k ∧ g = dmaCell true (str kd k) (peer (str kd k) c)) ∨ ∃ i, g = barCell (nbr i c) := by
      intro g u h
      cases u
      rw [O₀_at] at h
      rcases Nat.eq_zero_or_pos (Oc c (rem 0) g ()) with h0 | h0
      · rw [h0, Nat.zero_add] at h
        obtain ⟨i, -, -, hi⟩ := Ob_pos h
        exact Or.inr ⟨i, hi⟩
      · obtain ⟨k, -, hk⟩ := pos_sum _ _ h0
        obtain ⟨kd, _, h2, h3⟩ := Ok_pos hk
        exact Or.inl ⟨k, kd, h2, h3⟩
    refine MayOwe.of_cut (L := L) (lev := lv) 0 (fun p hp => by rw [Finset.mem_singleton.mp hp, L_tc]; exact Finset.mem_singleton_self _)
      (fun g u hg => by rcases key g u hg with ⟨k, kd, _, rfl⟩ | ⟨i, rfl⟩ <;> (rw [L_tc]; exact Finset.mem_singleton_self _))
      (fun p hp => by
        rw [Finset.mem_singleton.mp hp]
        show slev (.dma q) ≤ 0
        exact Nat.le_of_eq (if_neg fun h => absurd h.1 (Nat.not_le.mpr hq)))
      (fun g u hg => by
        rcases key g u hg with ⟨k, kd, h, rfl⟩ | ⟨i, rfl⟩
        · show 0 < slev _
          rw [slev_recv]; exact Nat.lt_of_le_of_lt (Nat.zero_le 1) (above_bar k kd h)
        · show 0 < slev _
          rw [slev_bar]; exact Nat.one_pos)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem_lt w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every run of the 32 devices ends, and at its end each array holds what the
    body left and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ag m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.AG
-- ==== Proof.IValue.lean ====
/-
# The arrays at the end, and what they are of the whole argument
-/
module

public import proofs.«01_k».proof.Proof.ILaunch
public import Idealize.ShloMosaic.Lib.Layout
public import Idealize.ShloMosaic.Lib.Pipeline.Value

@[expose] public section

noncomputable section

namespace Cert.KernelIdeal.AG

open Cert.AG Cert.KernelIdeal Cert.KernelIdeal.Gen
open Idealize.ShloMosaic
open Idealize.ShloMosaic.TcCoe
open Idealize.ShloMosaic.Pipeline

variable {F : FTy → Type} [FloatOps F]
variable (m : (ℓ : Loc nD τ sig) → Buf (Elt F) ℓ) (ρ : Dev nD → PrngReg)

/-- What a device's body is given is its argument's array. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- A device's result array ends holding what its body left. -/
theorem finalA_o (c : Dev nD) : finalA m ρ c (1 : Fin 2) = outVal m ρ c := by
  have hz : (fun a => (win0_1.index (0 : Fin 1)) a * main_v1.ty.shape.size a) = fun _ => 0 := funext fun a => by fin_cases a <;> decide
  have hr := fun f => Memref.read_access_unit_zero (Elt F) main_v1 hz (fun a => by fin_cases a <;> decide) f
  have ho : (win0_1.blk (0 : Fin 1)).view.read (Elt F) (finalA m ρ c (1 : Fin 2)) = outVal m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  rw [hr] at ho
  exact ho

theorem dv_y : ∀ (c : Fin 32) (o κ : Fin 4), yc (dv c o.val κ.val) = o.val := by decide +kernel
theorem mesh_y : ∀ c : Fin 32, (Layout.meshBlock (r := 2) [2, 4, 4] ![[1], []] c (by decide) 0).val = yc c := by decide +kernel
theorem mesh_0 : ∀ c : Fin 32, (Layout.meshBlock (r := 2) [2, 4, 4] ![[1], []] c (by decide) 1).val = 0 := by decide +kernel

/-- If every device's argument is its block of one whole array, every device's result is that array. -/
theorem out_whole (v : (⟨2, ![4096, 512]⟩ : Shape).Idx → Elt F .bf16)
    (h : ∀ c : Dev nD, m ((c : Thread nD τ).loc main_arg0)
      = Layout.blockN ⟨2, ![1024, 512]⟩ ⟨2, ![4096, 512]⟩ (Layout.meshBlock [2, 4, 4] ![[1], []] c) v) (c : Dev nD) :
    outVal m ρ c = v := by
  funext i
  have h0 : (i 0).val < 4096 := (i 0).isLt
  have h1 : (i 1).val < 512 := (i 1).isLt
  unfold outVal
  rw [xstg_eq, h]
  rw [Layout.blockN_apply]
  congr 1
  have hy := dv_y c ⟨(i 0).val / 1024, by omega⟩ ⟨(i 0).val % 1024 / 256, by omega⟩
  dsimp only at hy
  have e0 := mesh_y (dv c ((i 0).val / 1024) ((i 0).val % 1024 / 256))
  have e1 := mesh_0 (dv c ((i 0).val / 1024) ((i 0).val % 1024 / 256))
  generalize dv c ((i 0).val / 1024) ((i 0).val % 1024 / 256) = d at hy e0 e1 ⊢
  funext a
  apply Fin.ext
  rw [Layout.TilesN.idx_val]
  match a with
  | ⟨0, _⟩ =>
    refine (congrArg (fun x => x * 1024 + (i 0).val % 1024) (e0.trans hy)).trans ?_
    show (i 0).val / 1024 * 1024 + (i 0).val % 1024 = (i 0).val
    omega
  | ⟨1, _⟩ =>
    refine (congrArg (fun x => x * 512 + (i 1).val % 512) e1).trans ?_
    show 0 * 512 + (i 1).val % 512 = (i 1).val
    omega
  | ⟨_ + 2, hh⟩ => exact absurd hh (Nat.not_lt.2 (Nat.le_add_left _ _))

end Cert.KernelIdeal.AG
-- ==== Proof.Ref.lean ====
/-
# The reference: it returns its argument
-/
module

public import proofs.«01_k».proof.Proof.Gen.ReferenceIdeal
public import Idealize.ShloMosaic.Lib.StableHlo.Run

@[expose] public section

noncomputable section

namespace Cert.ReferenceIdeal.AG

open Cert.ReferenceIdeal Cert.ReferenceIdeal.Gen
open Idealize.ShloMosaic Idealize.ShloMosaic.TcCoe Idealize.ShloMosaic.StableHlo Idealize.SL.Sem

variable {F : FTy → Type} [FloatOps F]

/-- The program has no operation, so its memory is what it was. -/
theorem run_ref (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (run_seq (by decide) (by decide) defs main (fun _ => []) (fun _ => rfl) (fun _ => trivial) m ρ)

end Cert.ReferenceIdeal.AG

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KLaunch
public import proofs.«01_k».proof.Proof.ILaunch
public import proofs.«01_k».proof.Proof.IValue
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem

/-- The printed program runs, keeps its argument and ends with every counter at zero. -/
theorem frame_kernel : Cert.quiescent_Kernel := by
  intro m ρ _
  exact (θ_run Cert.Kernel.defs _ _).mono (fun _ h => ⟨fun c => (h.1 c (0 : Fin 2)).trans (Cert.Kernel.AG.finalA_x m ρ c), h.2⟩)
    (Cert.Kernel.AG.run_main (F := Bits) m ρ)

/-- So does its idealization; -/
theorem frame_ideal : Cert.quiescent_KernelIdeal := by
  intro m ρ _
  exact (θ_run Cert.KernelIdeal.defs _ _).mono (fun _ h => ⟨fun c => (h.1 c (0 : Fin 2)).trans (Cert.KernelIdeal.AG.finalA_x m ρ c), h.2⟩)
    (Cert.KernelIdeal.AG.run_main (F := Ideal) m ρ)

/-- and the reference. -/
theorem frame_ref : Cert.quiescent_ReferenceIdeal := by
  intro m ρ _
  exact (θ_run Cert.ReferenceIdeal.defs _ _).mono (fun r h => ⟨h, sem_eq_zero_of_no_sems (by decide) r.2⟩)
    (Cert.ReferenceIdeal.AG.run_ref (F := Ideal) m ρ)

/-- Every device's result is the whole array of which the devices' arguments are the blocks: the reference's result. -/
theorem value : Cert.algebraic_KernelIdeal_ReferenceIdeal := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono
      (fun _ h c => ⟨(h.1 c (1 : Fin 2)).trans ((Cert.KernelIdeal.AG.finalA_o m ρ c).trans (Cert.KernelIdeal.AG.out_whole m ρ _ hagree c)),
        (h.1 c (0 : Fin 2)).trans (Cert.KernelIdeal.AG.finalA_x m ρ c)⟩)
      (Cert.KernelIdeal.AG.run_main (F := Ideal) m ρ)
  · exact (θ_run Cert.ReferenceIdeal.defs _ _).mono (fun _ h => ⟨h 0, h 0⟩) (Cert.ReferenceIdeal.AG.run_ref (F := Ideal) m' ρ')

theorem claim : Cert.Claim := ⟨Cert.Kernel.Gen.facts, Cert.KernelIdeal.Gen.facts, Cert.ReferenceIdeal.Gen.facts,
  frame_kernel, frame_ideal, frame_ref, trivial, value⟩

end Cert.Proof

end
